-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelKV (m : (ℓ : Loc Cert.KernelKV.nD Cert.KernelKV.τ Cert.KernelKV.sig) → Buf (Elt Bits) ℓ) : Prop :=
  True

def Pre_KernelKVIdeal (m : (ℓ : Loc Cert.KernelKVIdeal.nD Cert.KernelKVIdeal.τ Cert.KernelKVIdeal.sig) → Buf (Elt Ideal) ℓ) : Prop :=
  True

def Pre_KernelKVIdeal_in_range [hPre_in_range : Cert.Pre_in_range.Facts] (m : (ℓ : Loc Cert.KernelKVIdeal.nD Cert.KernelKVIdeal.τ Cert.KernelKVIdeal.sig) → Buf (Elt Ideal) ℓ) : Prop :=
  ∀ c : Dev Cert.KernelKVIdeal.nD,
    (Cert.Pre_in_range.fn (F := Ideal) (m ((c.tc : Thread Cert.KernelKVIdeal.nD Cert.KernelKVIdeal.τ).loc Cert.KernelKVIdeal.main_arg0)) (m ((c.tc : Thread Cert.KernelKVIdeal.nD Cert.KernelKVIdeal.τ).loc Cert.KernelKVIdeal.main_arg1))) = (fun _ => 1#1)

def Pre_ReferenceKVIdeal (m : (ℓ : Loc Cert.ReferenceKVIdeal.nD Cert.ReferenceKVIdeal.τ Cert.ReferenceKVIdeal.sig) → Buf (Elt Ideal) ℓ) : Prop :=
  True

def Pre_ReferenceKVIdeal_in_range [hPre_in_range : Cert.Pre_in_range.Facts] (m : (ℓ : Loc Cert.ReferenceKVIdeal.nD Cert.ReferenceKVIdeal.τ Cert.ReferenceKVIdeal.sig) → Buf (Elt Ideal) ℓ) : Prop :=
  ∀ c : Dev Cert.ReferenceKVIdeal.nD,
    (Cert.Pre_in_range.fn (F := Ideal) (m ((c.tc : Thread Cert.ReferenceKVIdeal.nD Cert.ReferenceKVIdeal.τ).loc Cert.ReferenceKVIdeal.main_arg0)) (m ((c.tc : Thread Cert.ReferenceKVIdeal.nD Cert.ReferenceKVIdeal.τ).loc Cert.ReferenceKVIdeal.main_arg1))) = (fun _ => 1#1)

def Pre_KernelQ (m : (ℓ : Loc Cert.KernelQ.nD Cert.KernelQ.τ Cert.KernelQ.sig) → Buf (Elt Bits) ℓ) : Prop :=
  True

def Pre_KernelQIdeal (m : (ℓ : Loc Cert.KernelQIdeal.nD Cert.KernelQIdeal.τ Cert.KernelQIdeal.sig) → Buf (Elt Ideal) ℓ) : Prop :=
  True

def Pre_KernelQIdeal_queries_in_range [hPre_queries_in_range : Cert.Pre_queries_in_range.Facts] (m : (ℓ : Loc Cert.KernelQIdeal.nD Cert.KernelQIdeal.τ Cert.KernelQIdeal.sig) → Buf (Elt Ideal) ℓ) : Prop :=
  ∀ c : Dev Cert.KernelQIdeal.nD,
    (Cert.Pre_queries_in_range.fn (F := Ideal) (m ((c.tc : Thread Cert.KernelQIdeal.nD Cert.KernelQIdeal.τ).loc Cert.KernelQIdeal.main_arg0))) = (fun _ => 1#1)

def Pre_ReferenceQIdeal (m : (ℓ : Loc Cert.ReferenceQIdeal.nD Cert.ReferenceQIdeal.τ Cert.ReferenceQIdeal.sig) → Buf (Elt Ideal) ℓ) : Prop :=
  True

def Pre_ReferenceQIdeal_queries_in_range [hPre_queries_in_range : Cert.Pre_queries_in_range.Facts] (m : (ℓ : Loc Cert.ReferenceQIdeal.nD Cert.ReferenceQIdeal.τ Cert.ReferenceQIdeal.sig) → Buf (Elt Ideal) ℓ) : Prop :=
  ∀ c : Dev Cert.ReferenceQIdeal.nD,
    (Cert.Pre_queries_in_range.fn (F := Ideal) (m ((c.tc : Thread Cert.ReferenceQIdeal.nD Cert.ReferenceQIdeal.τ).loc Cert.ReferenceQIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_KernelKV [hKernelKV : Cert.KernelKV.Facts] : Prop :=
  ∀ (m : (ℓ : Loc Cert.KernelKV.nD Cert.KernelKV.τ Cert.KernelKV.sig) → Buf (Elt Bits) ℓ) (g : Dev Cert.KernelKV.nD → PrngReg), Pre_KernelKV m →
    θ_run (Cert.KernelKV.defs (F := Bits)) (onTc (τ := Cert.KernelKV.τ) (Cert.KernelKV.main (F := Bits))) ⟨m, fun _ => 0, g⟩ (fun r => (∀ c : Dev Cert.KernelKV.nD,
      r.2.mem ((c.tc : Thread Cert.KernelKV.nD Cert.KernelKV.τ).loc Cert.KernelKV.main_arg0) = m ((c.tc : Thread Cert.KernelKV.nD Cert.KernelKV.τ).loc Cert.KernelKV.main_arg0)
      ∧ r.2.mem ((c.tc : Thread Cert.KernelKV.nD Cert.KernelKV.τ).loc Cert.KernelKV.main_arg1) = m ((c.tc : Thread Cert.KernelKV.nD Cert.KernelKV.τ).loc Cert.KernelKV.main_arg1))
      ∧ r.2.sem = fun _ => 0)

def quiescent_KernelKVIdeal [hKernelKVIdeal : Cert.KernelKVIdeal.Facts] : Prop :=
  ∀ (m : (ℓ : Loc Cert.KernelKVIdeal.nD Cert.KernelKVIdeal.τ Cert.KernelKVIdeal.sig) → Buf (Elt Ideal) ℓ) (g : Dev Cert.KernelKVIdeal.nD → PrngReg), Pre_KernelKVIdeal m →
    θ_run (Cert.KernelKVIdeal.defs (F := Ideal)) (onTc (τ := Cert.KernelKVIdeal.τ) (Cert.KernelKVIdeal.main (F := Ideal))) ⟨m, fun _ => 0, g⟩ (fun r => (∀ c : Dev Cert.KernelKVIdeal.nD,
      r.2.mem ((c.tc : Thread Cert.KernelKVIdeal.nD Cert.KernelKVIdeal.τ).loc Cert.KernelKVIdeal.main_arg0) = m ((c.tc : Thread Cert.KernelKVIdeal.nD Cert.KernelKVIdeal.τ).loc Cert.KernelKVIdeal.main_arg0)
      ∧ r.2.mem ((c.tc : Thread Cert.KernelKVIdeal.nD Cert.KernelKVIdeal.τ).loc Cert.KernelKVIdeal.main_arg1) = m ((c.tc : Thread Cert.KernelKVIdeal.nD Cert.KernelKVIdeal.τ).loc Cert.KernelKVIdeal.main_arg1))
      ∧ r.2.sem = fun _ => 0)

def quiescent_KernelKVIdeal_pre_in_range [hKernelKVIdeal : Cert.KernelKVIdeal.Facts] [hPre_in_range : Cert.Pre_in_range.Facts] : Prop :=
  ∀ (m : (ℓ : Loc Cert.KernelKVIdeal.nD Cert.KernelKVIdeal.τ Cert.KernelKVIdeal.sig) → Buf (Elt Ideal) ℓ) (g : Dev Cert.KernelKVIdeal.nD → PrngReg), Pre_KernelKVIdeal_in_range m →
    θ_run (Cert.KernelKVIdeal.defs (F := Ideal)) (onTc (τ := Cert.KernelKVIdeal.τ) (Cert.KernelKVIdeal.main (F := Ideal))) ⟨m, fun _ => 0, g⟩ (fun r => (∀ c : Dev Cert.KernelKVIdeal.nD,
      r.2.mem ((c.tc : Thread Cert.KernelKVIdeal.nD Cert.KernelKVIdeal.τ).loc Cert.KernelKVIdeal.main_arg0) = m ((c.tc : Thread Cert.KernelKVIdeal.nD Cert.KernelKVIdeal.τ).loc Cert.KernelKVIdeal.main_arg0)
      ∧ r.2.mem ((c.tc : Thread Cert.KernelKVIdeal.nD Cert.KernelKVIdeal.τ).loc Cert.KernelKVIdeal.main_arg1) = m ((c.tc : Thread Cert.KernelKVIdeal.nD Cert.KernelKVIdeal.τ).loc Cert.KernelKVIdeal.main_arg1))
      ∧ r.2.sem = fun _ => 0)

def quiescent_ReferenceKVIdeal [hReferenceKVIdeal : Cert.ReferenceKVIdeal.Facts] : Prop :=
  ∀ (m : (ℓ : Loc Cert.ReferenceKVIdeal.nD Cert.ReferenceKVIdeal.τ Cert.ReferenceKVIdeal.sig) → Buf (Elt Ideal) ℓ) (g : Dev Cert.ReferenceKVIdeal.nD → PrngReg), Pre_ReferenceKVIdeal m →
    θ_run (Cert.ReferenceKVIdeal.defs (F := Ideal)) (onTc (τ := Cert.ReferenceKVIdeal.τ) (Cert.ReferenceKVIdeal.main (F := Ideal))) ⟨m, fun _ => 0, g⟩ (fun r => (∀ c : Dev Cert.ReferenceKVIdeal.nD,
      r.2.mem ((c.tc : Thread Cert.ReferenceKVIdeal.nD Cert.ReferenceKVIdeal.τ).loc Cert.ReferenceKVIdeal.main_arg0) = m ((c.tc : Thread Cert.ReferenceKVIdeal.nD Cert.ReferenceKVIdeal.τ).loc Cert.ReferenceKVIdeal.main_arg0)
      ∧ r.2.mem ((c.tc : Thread Cert.ReferenceKVIdeal.nD Cert.ReferenceKVIdeal.τ).loc Cert.ReferenceKVIdeal.main_arg1) = m ((c.tc : Thread Cert.ReferenceKVIdeal.nD Cert.ReferenceKVIdeal.τ).loc Cert.ReferenceKVIdeal.main_arg1))
      ∧ r.2.sem = fun _ => 0)

def quiescent_ReferenceKVIdeal_pre_in_range [hReferenceKVIdeal : Cert.ReferenceKVIdeal.Facts] [hPre_in_range : Cert.Pre_in_range.Facts] : Prop :=
  ∀ (m : (ℓ : Loc Cert.ReferenceKVIdeal.nD Cert.ReferenceKVIdeal.τ Cert.ReferenceKVIdeal.sig) → Buf (Elt Ideal) ℓ) (g : Dev Cert.ReferenceKVIdeal.nD → PrngReg), Pre_ReferenceKVIdeal_in_range m →
    θ_run (Cert.ReferenceKVIdeal.defs (F := Ideal)) (onTc (τ := Cert.ReferenceKVIdeal.τ) (Cert.ReferenceKVIdeal.main (F := Ideal))) ⟨m, fun _ => 0, g⟩ (fun r => (∀ c : Dev Cert.ReferenceKVIdeal.nD,
      r.2.mem ((c.tc : Thread Cert.ReferenceKVIdeal.nD Cert.ReferenceKVIdeal.τ).loc Cert.ReferenceKVIdeal.main_arg0) = m ((c.tc : Thread Cert.ReferenceKVIdeal.nD Cert.ReferenceKVIdeal.τ).loc Cert.ReferenceKVIdeal.main_arg0)
      ∧ r.2.mem ((c.tc : Thread Cert.ReferenceKVIdeal.nD Cert.ReferenceKVIdeal.τ).loc Cert.ReferenceKVIdeal.main_arg1) = m ((c.tc : Thread Cert.ReferenceKVIdeal.nD Cert.ReferenceKVIdeal.τ).loc Cert.ReferenceKVIdeal.main_arg1))
      ∧ r.2.sem = fun _ => 0)

def quiescent_KernelQ [hKernelQ : Cert.KernelQ.Facts] : Prop :=
  ∀ (m : (ℓ : Loc Cert.KernelQ.nD Cert.KernelQ.τ Cert.KernelQ.sig) → Buf (Elt Bits) ℓ) (g : Dev Cert.KernelQ.nD → PrngReg), Pre_KernelQ m →
    θ_run (Cert.KernelQ.defs (F := Bits)) (onTc (τ := Cert.KernelQ.τ) (Cert.KernelQ.main (F := Bits))) ⟨m, fun _ => 0, g⟩ (fun r => (∀ c : Dev Cert.KernelQ.nD,
      r.2.mem ((c.tc : Thread Cert.KernelQ.nD Cert.KernelQ.τ).loc Cert.KernelQ.main_arg0) = m ((c.tc : Thread Cert.KernelQ.nD Cert.KernelQ.τ).loc Cert.KernelQ.main_arg0))
      ∧ r.2.sem = fun _ => 0)

def quiescent_KernelQIdeal [hKernelQIdeal : Cert.KernelQIdeal.Facts] : Prop :=
  ∀ (m : (ℓ : Loc Cert.KernelQIdeal.nD Cert.KernelQIdeal.τ Cert.KernelQIdeal.sig) → Buf (Elt Ideal) ℓ) (g : Dev Cert.KernelQIdeal.nD → PrngReg), Pre_KernelQIdeal m →
    θ_run (Cert.KernelQIdeal.defs (F := Ideal)) (onTc (τ := Cert.KernelQIdeal.τ) (Cert.KernelQIdeal.main (F := Ideal))) ⟨m, fun _ => 0, g⟩ (fun r => (∀ c : Dev Cert.KernelQIdeal.nD,
      r.2.mem ((c.tc : Thread Cert.KernelQIdeal.nD Cert.KernelQIdeal.τ).loc Cert.KernelQIdeal.main_arg0) = m ((c.tc : Thread Cert.KernelQIdeal.nD Cert.KernelQIdeal.τ).loc Cert.KernelQIdeal.main_arg0))
      ∧ r.2.sem = fun _ => 0)

def quiescent_KernelQIdeal_pre_queries_in_range [hKernelQIdeal : Cert.KernelQIdeal.Facts] [hPre_queries_in_range : Cert.Pre_queries_in_range.Facts] : Prop :=
  ∀ (m : (ℓ : Loc Cert.KernelQIdeal.nD Cert.KernelQIdeal.τ Cert.KernelQIdeal.sig) → Buf (Elt Ideal) ℓ) (g : Dev Cert.KernelQIdeal.nD → PrngReg), Pre_KernelQIdeal_queries_in_range m →
    θ_run (Cert.KernelQIdeal.defs (F := Ideal)) (onTc (τ := Cert.KernelQIdeal.τ) (Cert.KernelQIdeal.main (F := Ideal))) ⟨m, fun _ => 0, g⟩ (fun r => (∀ c : Dev Cert.KernelQIdeal.nD,
      r.2.mem ((c.tc : Thread Cert.KernelQIdeal.nD Cert.KernelQIdeal.τ).loc Cert.KernelQIdeal.main_arg0) = m ((c.tc : Thread Cert.KernelQIdeal.nD Cert.KernelQIdeal.τ).loc Cert.KernelQIdeal.main_arg0))
      ∧ r.2.sem = fun _ => 0)

def quiescent_ReferenceQIdeal [hReferenceQIdeal : Cert.ReferenceQIdeal.Facts] : Prop :=
  ∀ (m : (ℓ : Loc Cert.ReferenceQIdeal.nD Cert.ReferenceQIdeal.τ Cert.ReferenceQIdeal.sig) → Buf (Elt Ideal) ℓ) (g : Dev Cert.ReferenceQIdeal.nD → PrngReg), Pre_ReferenceQIdeal m →
    θ_run (Cert.ReferenceQIdeal.defs (F := Ideal)) (onTc (τ := Cert.ReferenceQIdeal.τ) (Cert.ReferenceQIdeal.main (F := Ideal))) ⟨m, fun _ => 0, g⟩ (fun r => (∀ c : Dev Cert.ReferenceQIdeal.nD,
      r.2.mem ((c.tc : Thread Cert.ReferenceQIdeal.nD Cert.ReferenceQIdeal.τ).loc Cert.ReferenceQIdeal.main_arg0) = m ((c.tc : Thread Cert.ReferenceQIdeal.nD Cert.ReferenceQIdeal.τ).loc Cert.ReferenceQIdeal.main_arg0))
      ∧ r.2.sem = fun _ => 0)

def quiescent_ReferenceQIdeal_pre_queries_in_range [hReferenceQIdeal : Cert.ReferenceQIdeal.Facts] [hPre_queries_in_range : Cert.Pre_queries_in_range.Facts] : Prop :=
  ∀ (m : (ℓ : Loc Cert.ReferenceQIdeal.nD Cert.ReferenceQIdeal.τ Cert.ReferenceQIdeal.sig) → Buf (Elt Ideal) ℓ) (g : Dev Cert.ReferenceQIdeal.nD → PrngReg), Pre_ReferenceQIdeal_queries_in_range m →
    θ_run (Cert.ReferenceQIdeal.defs (F := Ideal)) (onTc (τ := Cert.ReferenceQIdeal.τ) (Cert.ReferenceQIdeal.main (F := Ideal))) ⟨m, fun _ => 0, g⟩ (fun r => (∀ c : Dev Cert.ReferenceQIdeal.nD,
      r.2.mem ((c.tc : Thread Cert.ReferenceQIdeal.nD Cert.ReferenceQIdeal.τ).loc Cert.ReferenceQIdeal.main_arg0) = m ((c.tc : Thread Cert.ReferenceQIdeal.nD Cert.ReferenceQIdeal.τ).loc Cert.ReferenceQIdeal.main_arg0))
      ∧ r.2.sem = fun _ => 0)

def preserves_Kernel_KernelIdeal : Prop :=
  IdealRules.named_const.Statement Cert.KernelIdeal.κ "logit_c" .f32 0x3E0293EE#32 (((Real.sqrt 128)⁻¹ * (Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_KernelKV_KernelKVIdeal : Prop :=
  True

def algebraic_KernelKVIdeal_ReferenceKVIdeal_pre_in_range [hKernelKVIdeal : Cert.KernelKVIdeal.Facts] [hReferenceKVIdeal : Cert.ReferenceKVIdeal.Facts] [hPre_in_range : Cert.Pre_in_range.Facts] : Prop :=
  ∀ (m : (ℓ : Loc Cert.KernelKVIdeal.nD Cert.KernelKVIdeal.τ Cert.KernelKVIdeal.sig) → Buf (Elt Ideal) ℓ) (g : Dev Cert.KernelKVIdeal.nD → PrngReg)
    (m' : (ℓ : Loc Cert.ReferenceKVIdeal.nD Cert.ReferenceKVIdeal.τ Cert.ReferenceKVIdeal.sig) → Buf (Elt Ideal) ℓ) (g' : Dev Cert.ReferenceKVIdeal.nD → PrngReg), Pre_KernelKVIdeal_in_range m →
    (∀ c : Dev Cert.KernelKVIdeal.nD,
      m' ((c.tc : Thread Cert.ReferenceKVIdeal.nD Cert.ReferenceKVIdeal.τ).loc Cert.ReferenceKVIdeal.main_arg0) = m ((c.tc : Thread Cert.KernelKVIdeal.nD Cert.KernelKVIdeal.τ).loc Cert.KernelKVIdeal.main_arg0)
      ∧ m' ((c.tc : Thread Cert.ReferenceKVIdeal.nD Cert.ReferenceKVIdeal.τ).loc Cert.ReferenceKVIdeal.main_arg1) = m ((c.tc : Thread Cert.KernelKVIdeal.nD Cert.KernelKVIdeal.τ).loc Cert.KernelKVIdeal.main_arg1)) →
    ∃ (v0 : (c : Dev Cert.KernelKVIdeal.nD) → Buf (Elt Ideal) ((c.tc : Thread Cert.KernelKVIdeal.nD Cert.KernelKVIdeal.τ).loc Cert.KernelKVIdeal.main_v0_0)) (v1 : (c : Dev Cert.KernelKVIdeal.nD) → Buf (Elt Ideal) ((c.tc : Thread Cert.KernelKVIdeal.nD Cert.KernelKVIdeal.τ).loc Cert.KernelKVIdeal.main_v0_1)) (v2 : (c : Dev Cert.KernelKVIdeal.nD) → Buf (Elt Ideal) ((c.tc : Thread Cert.KernelKVIdeal.nD Cert.KernelKVIdeal.τ).loc Cert.KernelKVIdeal.main_v0_2)) (v3 : (c : Dev Cert.KernelKVIdeal.nD) → Buf (Elt Ideal) ((c.tc : Thread Cert.KernelKVIdeal.nD Cert.KernelKVIdeal.τ).loc Cert.KernelKVIdeal.main_v0_3)) (v4 : (c : Dev Cert.KernelKVIdeal.nD) → Buf (Elt Ideal) ((c.tc : Thread Cert.KernelKVIdeal.nD Cert.KernelKVIdeal.τ).loc Cert.KernelKVIdeal.main_v0_4)) (v5 : (c : Dev Cert.KernelKVIdeal.nD) → Buf (Elt Ideal) ((c.tc : Thread Cert.KernelKVIdeal.nD Cert.KernelKVIdeal.τ).loc Cert.KernelKVIdeal.main_v0_5)),
      θ_run (Cert.KernelKVIdeal.defs (F := Ideal)) (onTc (τ := Cert.KernelKVIdeal.τ) (Cert.KernelKVIdeal.main (F := Ideal))) ⟨m, fun _ => 0, g⟩ (fun r => ∀ c : Dev Cert.KernelKVIdeal.nD,
          r.2.mem ((c.tc : Thread Cert.KernelKVIdeal.nD Cert.KernelKVIdeal.τ).loc Cert.KernelKVIdeal.main_v0_0) = v0 c
          ∧ r.2.mem ((c.tc : Thread Cert.KernelKVIdeal.nD Cert.KernelKVIdeal.τ).loc Cert.KernelKVIdeal.main_v0_1) = v1 c
          ∧ r.2.mem ((c.tc : Thread Cert.KernelKVIdeal.nD Cert.KernelKVIdeal.τ).loc Cert.KernelKVIdeal.main_v0_2) = v2 c
          ∧ r.2.mem ((c.tc : Thread Cert.KernelKVIdeal.nD Cert.KernelKVIdeal.τ).loc Cert.KernelKVIdeal.main_v0_3) = v3 c
          ∧ r.2.mem ((c.tc : Thread Cert.KernelKVIdeal.nD Cert.KernelKVIdeal.τ).loc Cert.KernelKVIdeal.main_v0_4) = v4 c
          ∧ r.2.mem ((c.tc : Thread Cert.KernelKVIdeal.nD Cert.KernelKVIdeal.τ).loc Cert.KernelKVIdeal.main_v0_5) = v5 c
          ∧ r.2.mem ((c.tc : Thread Cert.KernelKVIdeal.nD Cert.KernelKVIdeal.τ).loc Cert.KernelKVIdeal.main_arg0) = m ((c.tc : Thread Cert.KernelKVIdeal.nD Cert.KernelKVIdeal.τ).loc Cert.KernelKVIdeal.main_arg0)
          ∧ r.2.mem ((c.tc : Thread Cert.KernelKVIdeal.nD Cert.KernelKVIdeal.τ).loc Cert.KernelKVIdeal.main_arg1) = m ((c.tc : Thread Cert.KernelKVIdeal.nD Cert.KernelKVIdeal.τ).loc Cert.KernelKVIdeal.main_arg1))
      ∧ θ_run (Cert.ReferenceKVIdeal.defs (F := Ideal)) (onTc (τ := Cert.ReferenceKVIdeal.τ) (Cert.ReferenceKVIdeal.main (F := Ideal))) ⟨m', fun _ => 0, g'⟩ (fun r => ∀ c : Dev Cert.ReferenceKVIdeal.nD,
          r.2.mem ((c.tc : Thread Cert.ReferenceKVIdeal.nD Cert.ReferenceKVIdeal.τ).loc Cert.ReferenceKVIdeal.main_v0_0) = v0 c
          ∧ r.2.mem ((c.tc : Thread Cert.ReferenceKVIdeal.nD Cert.ReferenceKVIdeal.τ).loc Cert.ReferenceKVIdeal.main_v0_1) = v1 c
          ∧ r.2.mem ((c.tc : Thread Cert.ReferenceKVIdeal.nD Cert.ReferenceKVIdeal.τ).loc Cert.ReferenceKVIdeal.main_v0_2) = v2 c
          ∧ r.2.mem ((c.tc : Thread Cert.ReferenceKVIdeal.nD Cert.ReferenceKVIdeal.τ).loc Cert.ReferenceKVIdeal.main_v0_3) = v3 c
          ∧ r.2.mem ((c.tc : Thread Cert.ReferenceKVIdeal.nD Cert.ReferenceKVIdeal.τ).loc Cert.ReferenceKVIdeal.main_v0_4) = v4 c
          ∧ r.2.mem ((c.tc : Thread Cert.ReferenceKVIdeal.nD Cert.ReferenceKVIdeal.τ).loc Cert.ReferenceKVIdeal.main_v0_5) = v5 c
          ∧ r.2.mem ((c.tc : Thread Cert.ReferenceKVIdeal.nD Cert.ReferenceKVIdeal.τ).loc Cert.ReferenceKVIdeal.main_arg0) = m' ((c.tc : Thread Cert.ReferenceKVIdeal.nD Cert.ReferenceKVIdeal.τ).loc Cert.ReferenceKVIdeal.main_arg0)
          ∧ r.2.mem ((c.tc : Thread Cert.ReferenceKVIdeal.nD Cert.ReferenceKVIdeal.τ).loc Cert.ReferenceKVIdeal.main_arg1) = m' ((c.tc : Thread Cert.ReferenceKVIdeal.nD Cert.ReferenceKVIdeal.τ).loc Cert.ReferenceKVIdeal.main_arg1))

def preserves_KernelQ_KernelQIdeal : Prop :=
  True

def algebraic_KernelQIdeal_ReferenceQIdeal_pre_queries_in_range [hKernelQIdeal : Cert.KernelQIdeal.Facts] [hReferenceQIdeal : Cert.ReferenceQIdeal.Facts] [hPre_queries_in_range : Cert.Pre_queries_in_range.Facts] : Prop :=
  ∀ (m : (ℓ : Loc Cert.KernelQIdeal.nD Cert.KernelQIdeal.τ Cert.KernelQIdeal.sig) → Buf (Elt Ideal) ℓ) (g : Dev Cert.KernelQIdeal.nD → PrngReg)
    (m' : (ℓ : Loc Cert.ReferenceQIdeal.nD Cert.ReferenceQIdeal.τ Cert.ReferenceQIdeal.sig) → Buf (Elt Ideal) ℓ) (g' : Dev Cert.ReferenceQIdeal.nD → PrngReg), Pre_KernelQIdeal_queries_in_range m →
    (∀ c : Dev Cert.KernelQIdeal.nD,
      m' ((c.tc : Thread Cert.ReferenceQIdeal.nD Cert.ReferenceQIdeal.τ).loc Cert.ReferenceQIdeal.main_arg0) = m ((c.tc : Thread Cert.KernelQIdeal.nD Cert.KernelQIdeal.τ).loc Cert.KernelQIdeal.main_arg0)) →
    ∃ (v0 : (c : Dev Cert.KernelQIdeal.nD) → Buf (Elt Ideal) ((c.tc : Thread Cert.KernelQIdeal.nD Cert.KernelQIdeal.τ).loc Cert.KernelQIdeal.main_v0_0)) (v1 : (c : Dev Cert.KernelQIdeal.nD) → Buf (Elt Ideal) ((c.tc : Thread Cert.KernelQIdeal.nD Cert.KernelQIdeal.τ).loc Cert.KernelQIdeal.main_v0_1)) (v2 : (c : Dev Cert.KernelQIdeal.nD) → Buf (Elt Ideal) ((c.tc : Thread Cert.KernelQIdeal.nD Cert.KernelQIdeal.τ).loc Cert.KernelQIdeal.main_v0_2)),
      θ_run (Cert.KernelQIdeal.defs (F := Ideal)) (onTc (τ := Cert.KernelQIdeal.τ) (Cert.KernelQIdeal.main (F := Ideal))) ⟨m, fun _ => 0, g⟩ (fun r => ∀ c : Dev Cert.KernelQIdeal.nD,
          r.2.mem ((c.tc : Thread Cert.KernelQIdeal.nD Cert.KernelQIdeal.τ).loc Cert.KernelQIdeal.main_v0_0) = v0 c
          ∧ r.2.mem ((c.tc : Thread Cert.KernelQIdeal.nD Cert.KernelQIdeal.τ).loc Cert.KernelQIdeal.main_v0_1) = v1 c
          ∧ r.2.mem ((c.tc : Thread Cert.KernelQIdeal.nD Cert.KernelQIdeal.τ).loc Cert.KernelQIdeal.main_v0_2) = v2 c
          ∧ r.2.mem ((c.tc : Thread Cert.KernelQIdeal.nD Cert.KernelQIdeal.τ).loc Cert.KernelQIdeal.main_arg0) = m ((c.tc : Thread Cert.KernelQIdeal.nD Cert.KernelQIdeal.τ).loc Cert.KernelQIdeal.main_arg0))
      ∧ θ_run (Cert.ReferenceQIdeal.defs (F := Ideal)) (onTc (τ := Cert.ReferenceQIdeal.τ) (Cert.ReferenceQIdeal.main (F := Ideal))) ⟨m', fun _ => 0, g'⟩ (fun r => ∀ c : Dev Cert.ReferenceQIdeal.nD,
          r.2.mem ((c.tc : Thread Cert.ReferenceQIdeal.nD Cert.ReferenceQIdeal.τ).loc Cert.ReferenceQIdeal.main_v0_0) = v0 c
          ∧ r.2.mem ((c.tc : Thread Cert.ReferenceQIdeal.nD Cert.ReferenceQIdeal.τ).loc Cert.ReferenceQIdeal.main_v0_1) = v1 c
          ∧ r.2.mem ((c.tc : Thread Cert.ReferenceQIdeal.nD Cert.ReferenceQIdeal.τ).loc Cert.ReferenceQIdeal.main_v0_2) = v2 c
          ∧ r.2.mem ((c.tc : Thread Cert.ReferenceQIdeal.nD Cert.ReferenceQIdeal.τ).loc Cert.ReferenceQIdeal.main_arg0) = m' ((c.tc : Thread Cert.ReferenceQIdeal.nD Cert.ReferenceQIdeal.τ).loc Cert.ReferenceQIdeal.main_arg0))

def Claim : Prop :=
  ∃ (hKernel : Cert.Kernel.Facts) (hKernelIdeal : Cert.KernelIdeal.Facts) (hReferenceIdeal : Cert.ReferenceIdeal.Facts) (hKernelKV : Cert.KernelKV.Facts) (hKernelKVIdeal : Cert.KernelKVIdeal.Facts) (hReferenceKVIdeal : Cert.ReferenceKVIdeal.Facts) (hKernelQ : Cert.KernelQ.Facts) (hKernelQIdeal : Cert.KernelQIdeal.Facts) (hReferenceQIdeal : Cert.ReferenceQIdeal.Facts) (hPre_in_range : Cert.Pre_in_range.Facts) (hPre_queries_in_range : Cert.Pre_queries_in_range.Facts),
    quiescent_Kernel (hKernel := hKernel)
    ∧ quiescent_KernelIdeal (hKernelIdeal := hKernelIdeal)
    ∧ quiescent_ReferenceIdeal (hReferenceIdeal := hReferenceIdeal)
    ∧ quiescent_KernelKV (hKernelKV := hKernelKV)
    ∧ quiescent_KernelKVIdeal (hKernelKVIdeal := hKernelKVIdeal)
    ∧ quiescent_KernelKVIdeal_pre_in_range (hKernelKVIdeal := hKernelKVIdeal) (hPre_in_range := hPre_in_range)
    ∧ quiescent_ReferenceKVIdeal (hReferenceKVIdeal := hReferenceKVIdeal)
    ∧ quiescent_ReferenceKVIdeal_pre_in_range (hReferenceKVIdeal := hReferenceKVIdeal) (hPre_in_range := hPre_in_range)
    ∧ quiescent_KernelQ (hKernelQ := hKernelQ)
    ∧ quiescent_KernelQIdeal (hKernelQIdeal := hKernelQIdeal)
    ∧ quiescent_KernelQIdeal_pre_queries_in_range (hKernelQIdeal := hKernelQIdeal) (hPre_queries_in_range := hPre_queries_in_range)
    ∧ quiescent_ReferenceQIdeal (hReferenceQIdeal := hReferenceQIdeal)
    ∧ quiescent_ReferenceQIdeal_pre_queries_in_range (hReferenceQIdeal := hReferenceQIdeal) (hPre_queries_in_range := hPre_queries_in_range)
    ∧ preserves_Kernel_KernelIdeal
    ∧ algebraic_KernelIdeal_ReferenceIdeal (hKernelIdeal := hKernelIdeal) (hReferenceIdeal := hReferenceIdeal)
    ∧ preserves_KernelKV_KernelKVIdeal
    ∧ algebraic_KernelKVIdeal_ReferenceKVIdeal_pre_in_range (hKernelKVIdeal := hKernelKVIdeal) (hReferenceKVIdeal := hReferenceKVIdeal) (hPre_in_range := hPre_in_range)
    ∧ preserves_KernelQ_KernelQIdeal
    ∧ algebraic_KernelQIdeal_ReferenceQIdeal_pre_queries_in_range (hKernelQIdeal := hKernelQIdeal) (hReferenceQIdeal := hReferenceQIdeal) (hPre_queries_in_range := hPre_queries_in_range)
-- ==== Pre_in_range.lean ====
abbrev S2x32768x128 : Shape := ⟨3, ![2, 32768, 128]⟩
abbrev S2x32768x4x32 : Shape := ⟨4, ![2, 32768, 4, 32]⟩
abbrev S_ : Shape := ⟨0, ![]⟩
abbrev S2x32768x4 : Shape := ⟨3, ![2, 32768, 4]⟩
abbrev S2x128 : Shape := ⟨2, ![2, 128]⟩

class Facts : Prop where
  shapeCasts_S2x32768x128_S2x32768x4x32 : S2x32768x128.ShapeCasts S2x32768x4x32
  reducesTo_S2x32768x4x32_S2x32768x4_d3 : S2x32768x4x32.ReducesTo [3] S2x32768x4
  h_S_ : 0 < S_.numel
  bcast_S_S2x32768x4 : S_.BroadcastsInDim S2x32768x4 (![] : Fin 0 → Fin S2x32768x4.rank)
  reducesTo_S2x32768x4_S_d0_1_2 : S2x32768x4.ReducesTo [0, 1, 2] S_
  reducesTo_S2x32768x128_S2x128_d1 : S2x32768x128.ReducesTo [1] S2x128
  bcast_S_S2x128 : S_.BroadcastsInDim S2x128 (![] : Fin 0 → Fin S2x128.rank)
  reducesTo_S2x128_S_d0_1 : S2x128.ReducesTo [0, 1] S_

variable [Facts]

def fn_part1 {F : FTy → Type} [FloatOps F] (main_v11 : IVec S_ 1) (main_v13 : FVec F S2x128 .bf16) (main_v15 : IVec S2x128 1) (main_cst_5 : FVec F S_ .bf16) : IVec S_ 1 :=
  let main_v16 : FVec F S2x128 .bf16 := broadcastInDim S2x128 ![] bcast_S_S2x128 main_cst_5
  let main_v17 : IVec S2x128 1 := cmpf .oge main_v13 main_v16
  let main_cst_6 : FVec F S_ .bf16 := constant S_ .bf16 0x7F7F#16
  let main_v18 : FVec F S2x128 .bf16 := broadcastInDim S2x128 ![] bcast_S_S2x128 main_cst_6
  let main_v19 : IVec S2x128 1 := cmpf .ole main_v13 main_v18
  let main_v20 : IVec S2x128 1 := andi main_v17 main_v19
  let main_v21 : IVec S2x128 1 := ori main_v15 main_v20
  let main_c_7 : IVec S_ 1 := constantI S_ 1 1#1
  let main_v22 : IVec S_ 1 := (fun x v => Host.reduce IntOp.andi x v reducesTo_S2x128_S_d0_1 h_S_) main_v21 main_c_7
  let main_v23 : IVec S_ 1 := andi main_v11 main_v22
  main_v23

def fn {F : FTy → Type} [FloatOps F] (main_arg0 : FVec F S2x32768x128 .bf16) (main_arg1 : FVec F S2x32768x128 .bf16) : IVec S_ 1 :=
  let main_v0 : FVec F S2x32768x128 .bf16 := Host.absf main_arg0
  let main_v1 : FVec F S2x32768x4x32 .bf16 := shapeCast S2x32768x4x32 main_v0 shapeCasts_S2x32768x128_S2x32768x4x32
  let main_cst : FVec F S_ .bf16 := constant S_ .bf16 0xFF80#16
  let main_v2 : FVec F S2x32768x4 .bf16 := (fun x v => Host.reduce FloatOps.maximumf x v reducesTo_S2x32768x4x32_S2x32768x4_d3 h_S_) main_v1 main_cst
  let main_cst_0 : FVec F S_ .bf16 := constant S_ .bf16 0x0000#16
  let main_v3 : FVec F S2x32768x4 .bf16 := broadcastInDim S2x32768x4 ![] bcast_S_S2x32768x4 main_cst_0
  let main_v4 : IVec S2x32768x4 1 := cmpf .oeq main_v2 main_v3
  let main_cst_1 : FVec F S_ .bf16 := constant S_ .bf16 0x0460#16
  let main_v5 : FVec F S2x32768x4 .bf16 := broadcastInDim S2x32768x4 ![] bcast_S_S2x32768x4 main_cst_1
  let main_v6 : IVec S2x32768x4 1 := cmpf .oge main_v2 main_v5
  let main_cst_2 : FVec F S_ .bf16 := constant S_ .bf16 0x7F7F#16
  let main_v7 : FVec F S2x32768x4 .bf16 := broadcastInDim S2x32768x4 ![] bcast_S_S2x32768x4 main_cst_2
  let main_v8 : IVec S2x32768x4 1 := cmpf .ole main_v2 main_v7
  let main_v9 : IVec S2x32768x4 1 := andi main_v6 main_v8
  let main_v10 : IVec S2x32768x4 1 := ori main_v4 main_v9
  let main_c : IVec S_ 1 := constantI S_ 1 1#1
  let main_v11 : IVec S_ 1 := (fun x v => Host.reduce IntOp.andi x v reducesTo_S2x32768x4_S_d0_1_2 h_S_) main_v10 main_c
  let main_v12 : FVec F S2x32768x128 .bf16 := Host.absf main_arg1
  let main_cst_3 : FVec F S_ .bf16 := constant S_ .bf16 0xFF80#16
  let main_v13 : FVec F S2x128 .bf16 := (fun x v => Host.reduce FloatOps.maximumf x v reducesTo_S2x32768x128_S2x128_d1 h_S_) main_v12 main_cst_3
  let main_cst_4 : FVec F S_ .bf16 := constant S_ .bf16 0x0000#16
  let main_v14 : FVec F S2x128 .bf16 := broadcastInDim S2x128 ![] bcast_S_S2x128 main_cst_4
  let main_v15 : IVec S2x128 1 := cmpf .oeq main_v13 main_v14
  let main_cst_5 : FVec F S_ .bf16 := constant S_ .bf16 0x0460#16
  fn_part1 (F := F) main_v11 main_v13 main_v15 main_cst_5
-- ==== Pre_queries_in_range.lean ====
abbrev S2x32768x2048 : Shape := ⟨3, ![2, 32768, 2048]⟩
abbrev S2x32768x64x32 : Shape := ⟨4, ![2, 32768, 64, 32]⟩
abbrev S_ : Shape := ⟨0, ![]⟩
abbrev S2x32768x64 : Shape := ⟨3, ![2, 32768, 64]⟩

class Facts : Prop where
  shapeCasts_S2x32768x2048_S2x32768x64x32 : S2x32768x2048.ShapeCasts S2x32768x64x32
  reducesTo_S2x32768x64x32_S2x32768x64_d3 : S2x32768x64x32.ReducesTo [3] S2x32768x64
  h_S_ : 0 < S_.numel
  bcast_S_S2x32768x64 : S_.BroadcastsInDim S2x32768x64 (![] : Fin 0 → Fin S2x32768x64.rank)
  reducesTo_S2x32768x64_S_d0_1_2 : S2x32768x64.ReducesTo [0, 1, 2] S_

variable [Facts]

def fn {F : FTy → Type} [FloatOps F] (main_arg0 : FVec F S2x32768x2048 .bf16) : IVec S_ 1 :=
  let main_v0 : FVec F S2x32768x2048 .bf16 := Host.absf main_arg0
  let main_v1 : FVec F S2x32768x64x32 .bf16 := shapeCast S2x32768x64x32 main_v0 shapeCasts_S2x32768x2048_S2x32768x64x32
  let main_cst : FVec F S_ .bf16 := constant S_ .bf16 0xFF80#16
  let main_v2 : FVec F S2x32768x64 .bf16 := (fun x v => Host.reduce FloatOps.maximumf x v reducesTo_S2x32768x64x32_S2x32768x64_d3 h_S_) main_v1 main_cst
  let main_cst_0 : FVec F S_ .bf16 := constant S_ .bf16 0x0000#16
  let main_v3 : FVec F S2x32768x64 .bf16 := broadcastInDim S2x32768x64 ![] bcast_S_S2x32768x64 main_cst_0
  let main_v4 : IVec S2x32768x64 1 := cmpf .oeq main_v2 main_v3
  let main_cst_1 : FVec F S_ .bf16 := constant S_ .bf16 0x0460#16
  let main_v5 : FVec F S2x32768x64 .bf16 := broadcastInDim S2x32768x64 ![] bcast_S_S2x32768x64 main_cst_1
  let main_v6 : IVec S2x32768x64 1 := cmpf .oge main_v2 main_v5
  let main_cst_2 : FVec F S_ .bf16 := constant S_ .bf16 0x7F7F#16
  let main_v7 : FVec F S2x32768x64 .bf16 := broadcastInDim S2x32768x64 ![] bcast_S_S2x32768x64 main_cst_2
  let main_v8 : IVec S2x32768x64 1 := cmpf .ole main_v2 main_v7
  let main_v9 : IVec S2x32768x64 1 := andi main_v6 main_v8
  let main_v10 : IVec S2x32768x64 1 := ori main_v4 main_v9
  let main_c : IVec S_ 1 := constantI S_ 1 1#1
  let main_v11 : IVec S_ 1 := (fun x v => Host.reduce IntOp.andi x v reducesTo_S2x32768x64_S_d0_1_2 h_S_) main_v10 main_c
  main_v11
-- ==== Kernel.lean ====
abbrev S2x2048x128x256 : Shape := ⟨4, ![2, 2048, 128, 256]⟩
abbrev S2x32768x128 : Shape := ⟨3, ![2, 32768, 128]⟩
abbrev S2x128x32768 : Shape := ⟨3, ![2, 128, 32768]⟩
abbrev S2x1x128 : Shape := ⟨3, ![2, 1, 128]⟩
abbrev S2x32768x2048 : Shape := ⟨3, ![2, 32768, 2048]⟩
abbrev S1x1x128x256 : Shape := ⟨4, ![1, 1, 128, 256]⟩
abbrev S1x32768x128 : Shape := ⟨3, ![1, 32768, 128]⟩
abbrev S1x128x32768 : Shape := ⟨3, ![1, 128, 32768]⟩
abbrev S1x1x128 : Shape := ⟨3, ![1, 1, 128]⟩
abbrev S1x16x2048 : Shape := ⟨3, ![1, 16, 2048]⟩
abbrev S32768x256 : Shape := ⟨2, ![32768, 256]⟩
abbrev S128x256 : Shape := ⟨2, ![128, 256]⟩
abbrev S8x256 : Shape := ⟨2, ![8, 256]⟩
abbrev S1x1024x128 : Shape := ⟨3, ![1, 1024, 128]⟩
abbrev S1024x128 : Shape := ⟨2, ![1024, 128]⟩
abbrev S1024x256 : Shape := ⟨2, ![1024, 256]⟩
abbrev S256 : Shape := ⟨1, ![256]⟩
abbrev S1x256 : Shape := ⟨2, ![1, 256]⟩
abbrev S255x256 : Shape := ⟨2, ![255, 256]⟩
abbrev S1x128x1024 : Shape := ⟨3, ![1, 128, 1024]⟩
abbrev S128x1024 : Shape := ⟨2, ![128, 1024]⟩
abbrev S256x128 : Shape := ⟨2, ![256, 128]⟩
abbrev S1x128 : Shape := ⟨2, ![1, 128]⟩
abbrev S16x128 : Shape := ⟨2, ![16, 128]⟩
abbrev S1x16x128 : Shape := ⟨3, ![1, 16, 128]⟩

abbrev nBuf : Space → Nat
  | .hbm => 5
  | .vmem => 10
  | .smem => 0
  | _ => 0

abbrev bufTy : (tb : Table) → Fin (tcTables nBuf tb) → BufTy
  | .hbm, ⟨0, _⟩ => ⟨S2x2048x128x256, .bf16⟩
  | .hbm, ⟨1, _⟩ => ⟨S2x32768x128, .bf16⟩
  | .hbm, ⟨2, _⟩ => ⟨S2x128x32768, .fp8e4m3⟩
  | .hbm, ⟨3, _⟩ => ⟨S2x1x128, .f32⟩
  | .hbm, ⟨4, _⟩ => ⟨S2x32768x2048, .bf16⟩
  | .local _ .vmem, ⟨0, _⟩ => ⟨S1x1x128x256, .bf16⟩
  | .local _ .vmem, ⟨1, _⟩ => ⟨S1x1x128x256, .bf16⟩
  | .local _ .vmem, ⟨2, _⟩ => ⟨S1x32768x128, .bf16⟩
  | .local _ .vmem, ⟨3, _⟩ => ⟨S1x128x32768, .fp8e4m3⟩
  | .local _ .vmem, ⟨4, _⟩ => ⟨S1x1x128, .f32⟩
  | .local _ .vmem, ⟨5, _⟩ => ⟨S1x1x128, .f32⟩
  | .local _ .vmem, ⟨6, _⟩ => ⟨S1x16x2048, .bf16⟩
  | .local _ .vmem, ⟨7, _⟩ => ⟨S1x16x2048, .bf16⟩
  | .local _ .vmem, ⟨8, _⟩ => ⟨S32768x256, .f32⟩
  | .local _ .vmem, ⟨9, _⟩ => ⟨S128x256, .f32⟩
  | _, _ => ⟨S2x2048x128x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 2048], ![false, false]⟩

@[reducible] def k0_t1_loop (i : grid0.Coords) : Scf.Loop 32 :=
  let c0_i32_7 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let v21 : BitVec 32 := Scalar.subi v17 c0_i32_7
  let c1_i32_8 : BitVec 32 := 1#32
  let v23 : BitVec 32 := Scalar.divsi v21 c1_i32_8
  let v24 : BitVec 32 := Scalar.muli v23 c1_i32_8
  let v25 : BitVec 32 := Scalar.addi c0_i32_7 v24
  let c1_i32_9 : BitVec 32 := 1#32
  ⟨c0_i32_7, v25, c1_i32_9⟩
def k0_mult1 (i : grid0.Coords) (k0_t1 : Fin (k0_t1_loop i).trips) : BitVec 32 :=
  let c0_i32_7 : BitVec 32 := 0#32
  let c1_i32_9 : BitVec 32 := 1#32
  let arg9 : BitVec 32 := Scf.iv c0_i32_7 c1_i32_9 k0_t1
  let c1024_i32_94 : BitVec 32 := 1024#32
  let v474 : BitVec 32 := Scalar.muli arg9 c1024_i32_94
  v474
def k0_off1 (i : grid0.Coords) (k0_t1 : Fin (k0_t1_loop i).trips) : Fin 3 → Nat :=
  let c0_95 : Index := 0#32
  let c0_i32_7 : BitVec 32 := 0#32
  let c1_i32_9 : BitVec 32 := 1#32
  let arg9 : BitVec 32 := Scf.iv c0_i32_7 c1_i32_9 k0_t1
  let c1024_i32_94 : BitVec 32 := 1024#32
  let v474 : BitVec 32 := Scalar.muli arg9 c1024_i32_94
  let v475 : BitVec 32 := v474
  let v476 : Index := Scalar.indexCast v475
  let c0_96 : Index := 0#32
  ![0, v476.toNat, 0]
def k0_off2 (i : grid0.Coords) (k0_t1 : Fin (k0_t1_loop i).trips) : Fin 2 → Nat :=
  let c0_i32_7 : BitVec 32 := 0#32
  let c1_i32_9 : BitVec 32 := 1#32
  let arg9 : BitVec 32 := Scf.iv c0_i32_7 c1_i32_9 k0_t1
  let c1024_i32_94 : BitVec 32 := 1024#32
  let v474 : BitVec 32 := Scalar.muli arg9 c1024_i32_94
  let v475 : BitVec 32 := v474
  let v480 : Index := Scalar.indexCast v475
  let c0_98 : Index := 0#32
  ![v480.toNat, 0]
@[reducible] def k0_t2_loop (i : grid0.Coords) : Scf.Loop 32 :=
  let c0_i32_7 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let v21 : BitVec 32 := Scalar.subi v17 c0_i32_7
  let c1_i32_8 : BitVec 32 := 1#32
  let v23 : BitVec 32 := Scalar.divsi v21 c1_i32_8
  let v24 : BitVec 32 := Scalar.muli v23 c1_i32_8
  let v25 : BitVec 32 := Scalar.addi c0_i32_7 v24
  let v22 : BitVec 32 := Scalar.addi c0_i32_7 v21
  let c1_i32_10 : BitVec 32 := 1#32
  ⟨v25, v22, c1_i32_10⟩
def k0_mult2 (i : grid0.Coords) (k0_t2 : Fin (k0_t2_loop i).trips) : BitVec 32 :=
  let c0_i32_7 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let v21 : BitVec 32 := Scalar.subi v17 c0_i32_7
  let c1_i32_8 : BitVec 32 := 1#32
  let v23 : BitVec 32 := Scalar.divsi v21 c1_i32_8
  let v24 : BitVec 32 := Scalar.muli v23 c1_i32_8
  let v25 : BitVec 32 := Scalar.addi c0_i32_7 v24
  let c1_i32_10 : BitVec 32 := 1#32
  let arg9 : BitVec 32 := Scf.iv v25 c1_i32_10 k0_t2
  let c1024_i32_94 : BitVec 32 := 1024#32
  let v474 : BitVec 32 := Scalar.muli arg9 c1024_i32_94
  v474
def k0_off3 (i : grid0.Coords) (k0_t2 : Fin (k0_t2_loop i).trips) : Fin 3 → Nat :=
  let c0_95 : Index := 0#32
  let c0_i32_7 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let v21 : BitVec 32 := Scalar.subi v17 c0_i32_7
  let c1_i32_8 : BitVec 32 := 1#32
  let v23 : BitVec 32 := Scalar.divsi v21 c1_i32_8
  let v24 : BitVec 32 := Scalar.muli v23 c1_i32_8
  let v25 : BitVec 32 := Scalar.addi c0_i32_7 v24
  let c1_i32_10 : BitVec 32 := 1#32
  let arg9 : BitVec 32 := Scf.iv v25 c1_i32_10 k0_t2
  let c1024_i32_94 : BitVec 32 := 1024#32
  let v474 : BitVec 32 := Scalar.muli arg9 c1024_i32_94
  let v475 : BitVec 32 := v474
  let v476 : Index := Scalar.indexCast v475
  let c0_96 : Index := 0#32
  ![0, v476.toNat, 0]
def k0_off4 (i : grid0.Coords) (k0_t2 : Fin (k0_t2_loop i).trips) : Fin 2 → Nat :=
  let c0_i32_7 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let v21 : BitVec 32 := Scalar.subi v17 c0_i32_7
  let c1_i32_8 : BitVec 32 := 1#32
  let v23 : BitVec 32 := Scalar.divsi v21 c1_i32_8
  let v24 : BitVec 32 := Scalar.muli v23 c1_i32_8
  let v25 : BitVec 32 := Scalar.addi c0_i32_7 v24
  let c1_i32_10 : BitVec 32 := 1#32
  let arg9 : BitVec 32 := Scf.iv v25 c1_i32_10 k0_t2
  let c1024_i32_94 : BitVec 32 := 1024#32
  let v474 : BitVec 32 := Scalar.muli arg9 c1024_i32_94
  let v475 : BitVec 32 := v474
  let v480 : Index := Scalar.indexCast v475
  let c0_98 : Index := 0#32
  ![v480.toNat, 0]
def k0_mult3 (i : grid0.Coords) : BitVec 32 :=
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let c1024_i32_11 : BitVec 32 := 1024#32
  let v28 : BitVec 32 := Scalar.muli v17 c1024_i32_11
  v28
def k0_off5 (i : grid0.Coords) : Fin 3 → Nat :=
  let c0_12 : Index := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let c1024_i32_11 : BitVec 32 := 1024#32
  let v28 : BitVec 32 := Scalar.muli v17 c1024_i32_11
  let v29 : BitVec 32 := v28
  let v30 : Index := Scalar.indexCast v29
  let c0_13 : Index := 0#32
  ![0, v30.toNat, 0]
def k0_off6 (i : grid0.Coords) : Fin 2 → Nat :=
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let c1024_i32_11 : BitVec 32 := 1024#32
  let v28 : BitVec 32 := Scalar.muli v17 c1024_i32_11
  let v29 : BitVec 32 := v28
  let v61 : Index := Scalar.indexCast v29
  let c0_24 : Index := 0#32
  ![v61.toNat, 0]
@[reducible] def k0_t3_loop (i : grid0.Coords) : Scf.Loop 32 :=
  let c0_i32_29 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let c1_i32_27 : BitVec 32 := 1#32
  let v325 : BitVec 32 := Scalar.addi v17 c1_i32_27
  let v327 : BitVec 32 := Scalar.subi v325 c0_i32_29
  let c1_i32_30 : BitVec 32 := 1#32
  let v329 : BitVec 32 := Scalar.divsi v327 c1_i32_30
  let v330 : BitVec 32 := Scalar.muli v329 c1_i32_30
  let v331 : BitVec 32 := Scalar.addi c0_i32_29 v330
  let c1_i32_31 : BitVec 32 := 1#32
  ⟨c0_i32_29, v331, c1_i32_31⟩
def k0_mult4 (i : grid0.Coords) (k0_t3 : Fin (k0_t3_loop i).trips) : BitVec 32 :=
  let c0_i32_29 : BitVec 32 := 0#32
  let c1_i32_31 : BitVec 32 := 1#32
  let arg9 : BitVec 32 := Scf.iv c0_i32_29 c1_i32_31 k0_t3
  let c1024_i32_94 : BitVec 32 := 1024#32
  let v474 : BitVec 32 := Scalar.muli arg9 c1024_i32_94
  v474
def k0_off7 (i : grid0.Coords) (k0_t3 : Fin (k0_t3_loop i).trips) : Fin 2 → Nat :=
  let c0_i32_29 : BitVec 32 := 0#32
  let c1_i32_31 : BitVec 32 := 1#32
  let arg9 : BitVec 32 := Scf.iv c0_i32_29 c1_i32_31 k0_t3
  let c1024_i32_94 : BitVec 32 := 1024#32
  let v474 : BitVec 32 := Scalar.muli arg9 c1024_i32_94
  let v475 : BitVec 32 := v474
  let v476 : Index := Scalar.indexCast v475
  let c0_95 : Index := 0#32
  ![v476.toNat, 0]
@[reducible] def k0_t4_loop (i : grid0.Coords) : Scf.Loop 32 :=
  let c0_i32_29 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let c1_i32_27 : BitVec 32 := 1#32
  let v325 : BitVec 32 := Scalar.addi v17 c1_i32_27
  let v327 : BitVec 32 := Scalar.subi v325 c0_i32_29
  let c1_i32_30 : BitVec 32 := 1#32
  let v329 : BitVec 32 := Scalar.divsi v327 c1_i32_30
  let v330 : BitVec 32 := Scalar.muli v329 c1_i32_30
  let v331 : BitVec 32 := Scalar.addi c0_i32_29 v330
  let v328 : BitVec 32 := Scalar.addi c0_i32_29 v327
  let c1_i32_32 : BitVec 32 := 1#32
  ⟨v331, v328, c1_i32_32⟩
def k0_mult5 (i : grid0.Coords) (k0_t4 : Fin (k0_t4_loop i).trips) : BitVec 32 :=
  let c0_i32_29 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let c1_i32_27 : BitVec 32 := 1#32
  let v325 : BitVec 32 := Scalar.addi v17 c1_i32_27
  let v327 : BitVec 32 := Scalar.subi v325 c0_i32_29
  let c1_i32_30 : BitVec 32 := 1#32
  let v329 : BitVec 32 := Scalar.divsi v327 c1_i32_30
  let v330 : BitVec 32 := Scalar.muli v329 c1_i32_30
  let v331 : BitVec 32 := Scalar.addi c0_i32_29 v330
  let c1_i32_32 : BitVec 32 := 1#32
  let arg9 : BitVec 32 := Scf.iv v331 c1_i32_32 k0_t4
  let c1024_i32_94 : BitVec 32 := 1024#32
  let v474 : BitVec 32 := Scalar.muli arg9 c1024_i32_94
  v474
def k0_off8 (i : grid0.Coords) (k0_t4 : Fin (k0_t4_loop i).trips) : Fin 2 → Nat :=
  let c0_i32_29 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let c1_i32_27 : BitVec 32 := 1#32
  let v325 : BitVec 32 := Scalar.addi v17 c1_i32_27
  let v327 : BitVec 32 := Scalar.subi v325 c0_i32_29
  let c1_i32_30 : BitVec 32 := 1#32
  let v329 : BitVec 32 := Scalar.divsi v327 c1_i32_30
  let v330 : BitVec 32 := Scalar.muli v329 c1_i32_30
  let v331 : BitVec 32 := Scalar.addi c0_i32_29 v330
  let c1_i32_32 : BitVec 32 := 1#32
  let arg9 : BitVec 32 := Scf.iv v331 c1_i32_32 k0_t4
  let c1024_i32_94 : BitVec 32 := 1024#32
  let v474 : BitVec 32 := Scalar.muli arg9 c1024_i32_94
  let v475 : BitVec 32 := v474
  let v476 : Index := Scalar.indexCast v475
  let c0_95 : Index := 0#32
  ![v476.toNat, 0]
@[reducible] def k0_t5_loop (i : grid0.Coords) : Scf.Loop 32 :=
  let c0_i32_49 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let c1_i32_48 : BitVec 32 := 1#32
  let v373 : BitVec 32 := Scalar.addi v17 c1_i32_48
  let v374 : BitVec 32 := Scalar.subi v373 c0_i32_49
  let c1_i32_51 : BitVec 32 := 1#32
  let v376 : BitVec 32 := Scalar.divsi v374 c1_i32_51
  let v377 : BitVec 32 := Scalar.muli v376 c1_i32_51
  let v378 : BitVec 32 := Scalar.addi c0_i32_49 v377
  let c1_i32_52 : BitVec 32 := 1#32
  ⟨c0_i32_49, v378, c1_i32_52⟩
def k0_mult6 (i : grid0.Coords) (k0_t5 : Fin (k0_t5_loop i).trips) : BitVec 32 :=
  let c0_i32_49 : BitVec 32 := 0#32
  let c1_i32_52 : BitVec 32 := 1#32
  let arg9 : BitVec 32 := Scf.iv c0_i32_49 c1_i32_52 k0_t5
  let c1024_i32_94 : BitVec 32 := 1024#32
  let v474 : BitVec 32 := Scalar.muli arg9 c1024_i32_94
  v474
def k0_off9 (i : grid0.Coords) (k0_t5 : Fin (k0_t5_loop i).trips) : Fin 2 → Nat :=
  let c0_i32_49 : BitVec 32 := 0#32
  let c1_i32_52 : BitVec 32 := 1#32
  let arg9 : BitVec 32 := Scf.iv c0_i32_49 c1_i32_52 k0_t5
  let c1024_i32_94 : BitVec 32 := 1024#32
  let v474 : BitVec 32 := Scalar.muli arg9 c1024_i32_94
  let v475 : BitVec 32 := v474
  let v476 : Index := Scalar.indexCast v475
  let c0_95 : Index := 0#32
  ![v476.toNat, 0]
def k0_off10 (i : grid0.Coords) (k0_t5 : Fin (k0_t5_loop i).trips) : Fin 3 → Nat :=
  let c0_100 : Index := 0#32
  let c0_101 : Index := 0#32
  let c0_i32_49 : BitVec 32 := 0#32
  let c1_i32_52 : BitVec 32 := 1#32
  let arg9 : BitVec 32 := Scf.iv c0_i32_49 c1_i32_52 k0_t5
  let c1024_i32_94 : BitVec 32 := 1024#32
  let v474 : BitVec 32 := Scalar.muli arg9 c1024_i32_94
  let v475 : BitVec 32 := v474
  let v486 : Index := Scalar.indexCast v475
  ![0, 0, v486.toNat]
@[reducible] def k0_t6_loop (i : grid0.Coords) : Scf.Loop 32 :=
  let c0_i32_49 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let c1_i32_48 : BitVec 32 := 1#32
  let v373 : BitVec 32 := Scalar.addi v17 c1_i32_48
  let v374 : BitVec 32 := Scalar.subi v373 c0_i32_49
  let c1_i32_51 : BitVec 32 := 1#32
  let v376 : BitVec 32 := Scalar.divsi v374 c1_i32_51
  let v377 : BitVec 32 := Scalar.muli v376 c1_i32_51
  let v378 : BitVec 32 := Scalar.addi c0_i32_49 v377
  let v375 : BitVec 32 := Scalar.addi c0_i32_49 v374
  let c1_i32_53 : BitVec 32 := 1#32
  ⟨v378, v375, c1_i32_53⟩
def k0_mult7 (i : grid0.Coords) (k0_t6 : Fin (k0_t6_loop i).trips) : BitVec 32 :=
  let c0_i32_49 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let c1_i32_48 : BitVec 32 := 1#32
  let v373 : BitVec 32 := Scalar.addi v17 c1_i32_48
  let v374 : BitVec 32 := Scalar.subi v373 c0_i32_49
  let c1_i32_51 : BitVec 32 := 1#32
  let v376 : BitVec 32 := Scalar.divsi v374 c1_i32_51
  let v377 : BitVec 32 := Scalar.muli v376 c1_i32_51
  let v378 : BitVec 32 := Scalar.addi c0_i32_49 v377
  let c1_i32_53 : BitVec 32 := 1#32
  let arg9 : BitVec 32 := Scf.iv v378 c1_i32_53 k0_t6
  let c1024_i32_94 : BitVec 32 := 1024#32
  let v474 : BitVec 32 := Scalar.muli arg9 c1024_i32_94
  v474
def k0_off11 (i : grid0.Coords) (k0_t6 : Fin (k0_t6_loop i).trips) : Fin 2 → Nat :=
  let c0_i32_49 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let c1_i32_48 : BitVec 32 := 1#32
  let v373 : BitVec 32 := Scalar.addi v17 c1_i32_48
  let v374 : BitVec 32 := Scalar.subi v373 c0_i32_49
  let c1_i32_51 : BitVec 32 := 1#32
  let v376 : BitVec 32 := Scalar.divsi v374 c1_i32_51
  let v377 : BitVec 32 := Scalar.muli v376 c1_i32_51
  let v378 : BitVec 32 := Scalar.addi c0_i32_49 v377
  let c1_i32_53 : BitVec 32 := 1#32
  let arg9 : BitVec 32 := Scf.iv v378 c1_i32_53 k0_t6
  let c1024_i32_94 : BitVec 32 := 1024#32
  let v474 : BitVec 32 := Scalar.muli arg9 c1024_i32_94
  let v475 : BitVec 32 := v474
  let v476 : Index := Scalar.indexCast v475
  let c0_95 : Index := 0#32
  ![v476.toNat, 0]
def k0_off12 (i : grid0.Coords) (k0_t6 : Fin (k0_t6_loop i).trips) : Fin 3 → Nat :=
  let c0_100 : Index := 0#32
  let c0_101 : Index := 0#32
  let c0_i32_49 : BitVec 32 := 0#32
  let arg1 : BitVec 32 := BitVec.ofNat 32 (i 1).val
  let c16_i32 : BitVec 32 := 16#32
  let v0 : BitVec 32 := Scalar.muli arg1 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let c1_i32_48 : BitVec 32 := 1#32
  let v373 : BitVec 32 := Scalar.addi v17 c1_i32_48
  let v374 : BitVec 32 := Scalar.subi v373 c0_i32_49
  let c1_i32_51 : BitVec 32 := 1#32
  let v376 : BitVec 32 := Scalar.divsi v374 c1_i32_51
  let v377 : BitVec 32 := Scalar.muli v376 c1_i32_51
  let v378 : BitVec 32 := Scalar.addi c0_i32_49 v377
  let c1_i32_53 : BitVec 32 := 1#32
  let arg9 : BitVec 32 := Scf.iv v378 c1_i32_53 k0_t6
  let c1024_i32_94 : BitVec 32 := 1024#32
  let v474 : BitVec 32 := Scalar.muli arg9 c1024_i32_94
  let v475 : BitVec 32 := v474
  let v486 : Index := Scalar.indexCast v475
  ![0, 0, v486.toNat]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x32768x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x128x32768 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x16x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "logit_c" => some (((Real.sqrt 128)⁻¹ * (Real.log 2)⁻¹ : ℝ) : EReal)
  | _ => none
-- ==== ReferenceIdeal.lean ====
abbrev S2x2048x128x256 : Shape := ⟨4, ![2, 2048, 128, 256]⟩
abbrev S2x32768x128 : Shape := ⟨3, ![2, 32768, 128]⟩
abbrev S2x128x32768 : Shape := ⟨3, ![2, 128, 32768]⟩
abbrev S2x1x128 : Shape := ⟨3, ![2, 1, 128]⟩
abbrev S2x2048x128x16x16 : Shape := ⟨5, ![2, 2048, 128, 16, 16]⟩
abbrev S2x2048x16x16x128 : Shape := ⟨5, ![2, 2048, 16, 16, 128]⟩
abbrev S2x524288x128 : Shape := ⟨3, ![2, 524288, 128]⟩
abbrev S2x32768x2048 : Shape := ⟨3, ![2, 32768, 2048]⟩
abbrev S2x524288x32768 : Shape := ⟨3, ![2, 524288, 32768]⟩
abbrev S2x524288 : Shape := ⟨2, ![2, 524288]⟩
abbrev S2x524288x1 : Shape := ⟨3, ![2, 524288, 1]⟩

abbrev nBuf : Space → Nat
  | .hbm => 8
  | .vmem => 5
  | .smem => 0
  | _ => 0

abbrev bufTy : (tb : Table) → Fin (tcTables nBuf tb) → BufTy
  | .hbm, ⟨0, _⟩ => ⟨S2x2048x128x256, .bf16⟩
  | .hbm, ⟨1, _⟩ => ⟨S2x32768x128, .bf16⟩
  | .hbm, ⟨2, _⟩ => ⟨S2x128x32768, .fp8e4m3⟩
  | .hbm, ⟨3, _⟩ => ⟨S2x1x128, .f32⟩
  | .hbm, ⟨4, _⟩ => ⟨S2x2048x128x16x16, .bf16⟩
  | .hbm, ⟨5, _⟩ => ⟨S2x2048x16x16x128, .bf16⟩
  | .hbm, ⟨6, _⟩ => ⟨S2x524288x128, .bf16⟩
  | .hbm, ⟨7, _⟩ => ⟨S2x32768x2048, .bf16⟩
  | .local _ .vmem, ⟨0, _⟩ => ⟨S2x524288x128, .bf16⟩
  | .local _ .vmem, ⟨1, _⟩ => ⟨S2x32768x128, .bf16⟩
  | .local _ .vmem, ⟨2, _⟩ => ⟨S2x128x32768, .fp8e4m3⟩
  | .local _ .vmem, ⟨3, _⟩ => ⟨S2x1x128, .f32⟩
  | .local _ .vmem, ⟨4, _⟩ => ⟨S2x32768x2048, .bf16⟩
  | _, _ => ⟨S2x2048x128x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F] [Named F]

def κ : String → Option EReal := fun
  | "ln2" => some ((Real.log 2 : ℝ) : EReal)
  | "score_scale" => some (((Real.sqrt 128)⁻¹ : ℝ) : EReal)
  | _ => none

abbrev grid0 : Pipeline.Grid := .none

abbrev stage0_0 : Fin 1 → Memref sig .tc .vmem S2x524288x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x32768x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x32768 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x32768x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== KernelKV.lean ====
abbrev S2x32768x128 : Shape := ⟨3, ![2, 32768, 128]⟩
abbrev S2x32768x4 : Shape := ⟨3, ![2, 32768, 4]⟩
abbrev S2x1x128 : Shape := ⟨3, ![2, 1, 128]⟩
abbrev S2x128x32768 : Shape := ⟨3, ![2, 128, 32768]⟩
abbrev S1x2048x128 : Shape := ⟨3, ![1, 2048, 128]⟩
abbrev S1x2048x4 : Shape := ⟨3, ![1, 2048, 4]⟩
abbrev S1x1x128 : Shape := ⟨3, ![1, 1, 128]⟩
abbrev S1x128x2048 : Shape := ⟨3, ![1, 128, 2048]⟩
abbrev S1x128 : Shape := ⟨2, ![1, 128]⟩
abbrev S2048x128 : Shape := ⟨2, ![2048, 128]⟩
abbrev S128 : Shape := ⟨1, ![128]⟩
abbrev S2048x32 : Shape := ⟨2, ![2048, 32]⟩
abbrev S2048 : Shape := ⟨1, ![2048]⟩
abbrev S2048x1 : Shape := ⟨2, ![2048, 1]⟩
abbrev S2048x255 : Shape := ⟨2, ![2048, 255]⟩
abbrev S2048x4 : Shape := ⟨2, ![2048, 4]⟩
abbrev S255x128 : Shape := ⟨2, ![255, 128]⟩
abbrev S128x2048 : Shape := ⟨2, ![128, 2048]⟩

abbrev nBuf : Space → Nat
  | .hbm => 8
  | .vmem => 17
  | .smem => 0
  | _ => 0

abbrev bufTy : (tb : Table) → Fin (tcTables nBuf tb) → BufTy
  | .hbm, ⟨0, _⟩ => ⟨S2x32768x128, .bf16⟩
  | .hbm, ⟨1, _⟩ => ⟨S2x32768x128, .bf16⟩
  | .hbm, ⟨2, _⟩ => ⟨S2x32768x128, .fp8e4m3⟩
  | .hbm, ⟨3, _⟩ => ⟨S2x32768x4, .i8⟩
  | .hbm, ⟨4, _⟩ => ⟨S2x32768x128, .bf16⟩
  | .hbm, ⟨5, _⟩ => ⟨S2x32768x128, .fp8e4m3⟩
  | .hbm, ⟨6, _⟩ => ⟨S2x1x128, .f32⟩
  | .hbm, ⟨7, _⟩ => ⟨S2x128x32768, .fp8e4m3⟩
  | .local _ .vmem, ⟨0, _⟩ => ⟨S1x2048x128, .bf16⟩
  | .local _ .vmem, ⟨1, _⟩ => ⟨S1x2048x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .fp8e4m3⟩
  | .local _ .vmem, ⟨5, _⟩ => ⟨S1x2048x128, .fp8e4m3⟩
  | .local _ .vmem, ⟨6, _⟩ => ⟨S1x2048x4, .i8⟩
  | .local _ .vmem, ⟨7, _⟩ => ⟨S1x2048x4, .i8⟩
  | .local _ .vmem, ⟨8, _⟩ => ⟨S1x2048x128, .bf16⟩
  | .local _ .vmem, ⟨9, _⟩ => ⟨S1x2048x128, .bf16⟩
  | .local _ .vmem, ⟨10, _⟩ => ⟨S1x2048x128, .fp8e4m3⟩
  | .local _ .vmem, ⟨11, _⟩ => ⟨S1x2048x128, .fp8e4m3⟩
  | .local _ .vmem, ⟨12, _⟩ => ⟨S1x1x128, .f32⟩
  | .local _ .vmem, ⟨13, _⟩ => ⟨S1x1x128, .f32⟩
  | .local _ .vmem, ⟨14, _⟩ => ⟨S1x128x2048, .fp8e4m3⟩
  | .local _ .vmem, ⟨15, _⟩ => ⟨S1x128x2048, .fp8e4m3⟩
  | .local _ .vmem, ⟨16, _⟩ => ⟨S1x128, .f32⟩
  | _, _ => ⟨S2x32768x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v0_4 : Ref sig .tc := ⟨.hbm, 6, rfl⟩
abbrev main_v0_5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![2, 2, 16], ![false, false, false]⟩

def k0_cond3 (i : grid0.Coords) : BitVec 1 :=
  let arg1 : BitVec 32 := BitVec.ofNat 32 (i 1).val
  let c1_i32 : BitVec 32 := 1#32
  let v3 : BitVec 1 := Scalar.cmpi .eq arg1 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.muli arg2 arg1
  let c0_i32 : BitVec 32 := 0#32
  let c0_i32_0 : BitVec 32 := 0#32
  ![arg0.toNat, v0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.muli arg2 arg1
  let c0_i32 : BitVec 32 := 0#32
  let c0_i32_0 : BitVec 32 := 0#32
  ![arg0.toNat, v0.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.muli arg2 arg1
  let c0_i32 : BitVec 32 := 0#32
  let c0_i32_0 : BitVec 32 := 0#32
  ![arg0.toNat, v0.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.muli arg2 arg1
  let c0_i32 : BitVec 32 := 0#32
  let c0_i32_0 : BitVec 32 := 0#32
  ![arg0.toNat, v0.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.muli arg2 arg1
  let c0_i32 : BitVec 32 := 0#32
  let c0_i32_0 : BitVec 32 := 0#32
  ![arg0.toNat, c0_i32.toNat, v0.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x2048x128 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x2048x4 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x2048x128 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S1x128x2048 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== ReferenceKVIdeal.lean ====
abbrev S2x32768x128 : Shape := ⟨3, ![2, 32768, 128]⟩
abbrev S2x32768x4 : Shape := ⟨3, ![2, 32768, 4]⟩
abbrev S2x1x128 : Shape := ⟨3, ![2, 1, 128]⟩
abbrev S2x128x32768 : Shape := ⟨3, ![2, 128, 32768]⟩
abbrev S2x32768x4x32 : Shape := ⟨4, ![2, 32768, 4, 32]⟩
abbrev S2x32768x4x1 : Shape := ⟨4, ![2, 32768, 4, 1]⟩
abbrev S2x128 : Shape := ⟨2, ![2, 128]⟩

abbrev nBuf : Space → Nat
  | .hbm => 8
  | .vmem => 8
  | .smem => 0
  | _ => 0

abbrev bufTy : (tb : Table) → Fin (tcTables nBuf tb) → BufTy
  | .hbm, ⟨0, _⟩ => ⟨S2x32768x128, .bf16⟩
  | .hbm, ⟨1, _⟩ => ⟨S2x32768x128, .bf16⟩
  | .hbm, ⟨2, _⟩ => ⟨S2x32768x128, .fp8e4m3⟩
  | .hbm, ⟨3, _⟩ => ⟨S2x32768x4, .i8⟩
  | .hbm, ⟨4, _⟩ => ⟨S2x32768x128, .bf16⟩
  | .hbm, ⟨5, _⟩ => ⟨S2x32768x128, .fp8e4m3⟩
  | .hbm, ⟨6, _⟩ => ⟨S2x1x128, .f32⟩
  | .hbm, ⟨7, _⟩ => ⟨S2x128x32768, .fp8e4m3⟩
  | .local _ .vmem, ⟨0, _⟩ => ⟨S2x32768x128, .bf16⟩
  | .local _ .vmem, ⟨1, _⟩ => ⟨S2x32768x128, .bf16⟩
  | .local _ .vmem, ⟨2, _⟩ => ⟨S2x32768x128, .fp8e4m3⟩
  | .local _ .vmem, ⟨3, _⟩ => ⟨S2x32768x4, .i8⟩
  | .local _ .vmem, ⟨4, _⟩ => ⟨S2x32768x128, .bf16⟩
  | .local _ .vmem, ⟨5, _⟩ => ⟨S2x32768x128, .fp8e4m3⟩
  | .local _ .vmem, ⟨6, _⟩ => ⟨S2x1x128, .f32⟩
  | .local _ .vmem, ⟨7, _⟩ => ⟨S2x128x32768, .fp8e4m3⟩
  | _, _ => ⟨S2x32768x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v0_4 : Ref sig .tc := ⟨.hbm, 6, rfl⟩
abbrev main_v0_5 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F] [Named F]

def κ : String → Option EReal := fun
  | "ln2" => some ((Real.log 2 : ℝ) : EReal)
  | _ => none

abbrev grid0 : Pipeline.Grid := .none

abbrev stage0_0 : Fin 1 → Memref sig .tc .vmem S2x32768x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x32768x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x32768x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x32768x4 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x32768x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x32768x128 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x128x32768 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== KernelQ.lean ====
abbrev S2x32768x2048 : Shape := ⟨3, ![2, 32768, 2048]⟩
abbrev S2x32768x64 : Shape := ⟨3, ![2, 32768, 64]⟩
abbrev S2x2048x128x256 : Shape := ⟨4, ![2, 2048, 128, 256]⟩
abbrev S1x128x2048 : Shape := ⟨3, ![1, 128, 2048]⟩
abbrev S1x128x64 : Shape := ⟨3, ![1, 128, 64]⟩
abbrev S1x8x128x256 : Shape := ⟨4, ![1, 8, 128, 256]⟩
abbrev S1x128x128 : Shape := ⟨3, ![1, 128, 128]⟩
abbrev S128x128 : Shape := ⟨2, ![128, 128]⟩
abbrev S128x32 : Shape := ⟨2, ![128, 32]⟩
abbrev S128 : Shape := ⟨1, ![128]⟩
abbrev S128x1 : Shape := ⟨2, ![128, 1]⟩
abbrev S128x255 : Shape := ⟨2, ![128, 255]⟩
abbrev S128x4 : Shape := ⟨2, ![128, 4]⟩
abbrev S1x128x4 : Shape := ⟨3, ![1, 128, 4]⟩
abbrev S16x128 : Shape := ⟨2, ![16, 128]⟩
abbrev S256x128 : Shape := ⟨2, ![256, 128]⟩
abbrev S128x256 : Shape := ⟨2, ![128, 256]⟩
abbrev S1x1x128x256 : Shape := ⟨4, ![1, 1, 128, 256]⟩

abbrev nBuf : Space → Nat
  | .hbm => 4
  | .vmem => 8
  | .smem => 0
  | _ => 0

abbrev bufTy : (tb : Table) → Fin (tcTables nBuf tb) → BufTy
  | .hbm, ⟨0, _⟩ => ⟨S2x32768x2048, .bf16⟩
  | .hbm, ⟨1, _⟩ => ⟨S2x32768x2048, .fp8e4m3⟩
  | .hbm, ⟨2, _⟩ => ⟨S2x32768x64, .i8⟩
  | .hbm, ⟨3, _⟩ => ⟨S2x2048x128x256, .bf16⟩
  | .local _ .vmem, ⟨0, _⟩ => ⟨S1x128x2048, .bf16⟩
  | .local _ .vmem, ⟨1, _⟩ => ⟨S1x128x2048, .bf16⟩
  | .local _ .vmem, ⟨2, _⟩ => ⟨S1x128x2048, .fp8e4m3⟩
  | .local _ .vmem, ⟨3, _⟩ => ⟨S1x128x2048, .fp8e4m3⟩
  | .local _ .vmem, ⟨4, _⟩ => ⟨S1x128x64, .i8⟩
  | .local _ .vmem, ⟨5, _⟩ => ⟨S1x128x64, .i8⟩
  | .local _ .vmem, ⟨6, _⟩ => ⟨S1x8x128x256, .bf16⟩
  | .local _ .vmem, ⟨7, _⟩ => ⟨S1x8x128x256, .bf16⟩
  | _, _ => ⟨S2x32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 256], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2048 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x64 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceQIdeal.lean ====
abbrev S2x32768x2048 : Shape := ⟨3, ![2, 32768, 2048]⟩
abbrev S2x32768x64 : Shape := ⟨3, ![2, 32768, 64]⟩
abbrev S2x2048x128x256 : Shape := ⟨4, ![2, 2048, 128, 256]⟩
abbrev S2x32768x64x32 : Shape := ⟨4, ![2, 32768, 64, 32]⟩
abbrev S2x32768x64x1 : Shape := ⟨4, ![2, 32768, 64, 1]⟩
abbrev S2x2048x16x16x128 : Shape := ⟨5, ![2, 2048, 16, 16, 128]⟩
abbrev S2x2048x128x16x16 : Shape := ⟨5, ![2, 2048, 128, 16, 16]⟩

abbrev nBuf : Space → Nat
  | .hbm => 4
  | .vmem => 4
  | .smem => 0
  | _ => 0

abbrev bufTy : (tb : Table) → Fin (tcTables nBuf tb) → BufTy
  | .hbm, ⟨0, _⟩ => ⟨S2x32768x2048, .bf16⟩
  | .hbm, ⟨1, _⟩ => ⟨S2x32768x2048, .fp8e4m3⟩
  | .hbm, ⟨2, _⟩ => ⟨S2x32768x64, .i8⟩
  | .hbm, ⟨3, _⟩ => ⟨S2x2048x128x256, .bf16⟩
  | .local _ .vmem, ⟨0, _⟩ => ⟨S2x32768x2048, .bf16⟩
  | .local _ .vmem, ⟨1, _⟩ => ⟨S2x32768x2048, .fp8e4m3⟩
  | .local _ .vmem, ⟨2, _⟩ => ⟨S2x32768x64, .i8⟩
  | .local _ .vmem, ⟨3, _⟩ => ⟨S2x2048x128x256, .bf16⟩
  | _, _ => ⟨S2x32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F] [Named F]

def κ : String → Option EReal := fun
  | "ln2" => some ((Real.log 2 : ℝ) : EReal)
  | _ => none

abbrev grid0 : Pipeline.Grid := .none

abbrev stage0_0 : Fin 1 → Memref sig .tc .vmem S2x32768x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x32768x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x32768x64 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x2048x128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.WordsBits.lean ====
/- The words the attend kernel computes from its grid coordinate, in closed form: how many whole chunks of 1024 keys
   lie before a block of 16 tokens, and where each chunk's slabs start. -/
module

public import proofs.«01_k».proof.Proof.Gen.Kernel.Skeleton
public import Idealize.ShloMosaic.Lib.WordArith.Masks

@[expose] public section

set_option maxRecDepth 16384

noncomputable section

namespace Cert.Kernel.Attend

open Idealize.ShloMosaic Cert.Kernel

/-- The number of whole chunks of 1024 keys before token block `i 1`: sixteen tokens to a block, 64 blocks to a chunk. -/
def full (i : grid0.Coords) : ℕ := (i 1).val / 64

/-- There are fewer than 32 full chunks. -/
theorem full_lt (i : grid0.Coords) : full i < 32 := by
  have : (i 1).val < 2048 := (i 1).isLt
  unfold full; omega

/-- The coordinates with token block `n`, for computing the words once per block. -/
def at1 (n : Fin 2048) : grid0.Coords := fun | 0 => (0 : Fin 2) | 1 => n

/-- The score loop runs over the whole chunks. -/
theorem t1_trips (i : grid0.Coords) : (k0_t1_loop i).trips = full i :=
  (by decide +kernel : ∀ n : Fin 2048, (k0_t1_loop (at1 n)).trips = n.val / 64) (i 1)
/-- The exponential loop runs over the whole chunks and the masked one. -/
theorem t3_trips (i : grid0.Coords) : (k0_t3_loop i).trips = full i + 1 :=
  (by decide +kernel : ∀ n : Fin 2048, (k0_t3_loop (at1 n)).trips = n.val / 64 + 1) (i 1)
/-- So does the accumulating loop. -/
theorem t5_trips (i : grid0.Coords) : (k0_t5_loop i).trips = full i + 1 :=
  (by decide +kernel : ∀ n : Fin 2048, (k0_t5_loop (at1 n)).trips = n.val / 64 + 1) (i 1)

/-- The masked chunk's slab of the keys. -/
theorem off5 (i : grid0.Coords) : k0_off5 i = ![0, 1024 * full i, 0] := by
  have h := (by decide +kernel : ∀ n : Fin 2048, k0_off5 (at1 n) 1 = 1024 * (n.val / 64)) (i 1)
  funext a
  match a with
  | 0 => rfl
  | 1 => exact h
  | 2 => rfl
/-- The masked chunk's slab of the score buffer. -/
theorem off6 (i : grid0.Coords) : k0_off6 i = ![1024 * full i, 0] := by
  have h := (by decide +kernel : ∀ n : Fin 2048, k0_off6 (at1 n) 0 = 1024 * (n.val / 64)) (i 1)
  funext a
  match a with
  | 0 => exact h
  | 1 => rfl

/-- A trip's word times the chunk length, as a number. -/
theorem chunk_word (k : ℕ) (hk : k < 32) :
    (Scalar.indexCast (Scalar.muli (Scf.iv 0#32 1#32 k) 1024#32) : BitVec 32).toNat = 1024 * k :=
  (by decide +kernel : ∀ n : Fin 32,
    (Scalar.indexCast (Scalar.muli (Scf.iv 0#32 1#32 n.val) 1024#32) : BitVec 32).toNat = 1024 * n.val) ⟨k, hk⟩

/-- The score loop visits the full chunks. -/
theorem t1_lt (i : grid0.Coords) (k : Fin (k0_t1_loop i).trips) : k.val < full i := by
  exact lt_of_lt_of_eq k.isLt (t1_trips i)
/-- The exponential loop visits the visible chunks. -/
theorem t3_lt (i : grid0.Coords) (k : Fin (k0_t3_loop i).trips) : k.val < full i + 1 := by
  exact lt_of_lt_of_eq k.isLt (t3_trips i)
/-- The product loop visits the visible chunks. -/
theorem t5_lt (i : grid0.Coords) (k : Fin (k0_t5_loop i).trips) : k.val < full i + 1 := by
  exact lt_of_lt_of_eq k.isLt (t5_trips i)

/-- Where the score loop reads the keys. -/
theorem off1 (i : grid0.Coords) (k : Fin (k0_t1_loop i).trips) : k0_off1 i k = ![0, 1024 * k.val, 0] := by
  have h := chunk_word k.val (by have := t1_lt i k; have := full_lt i; omega)
  unfold k0_off1; simp only [h]
/-- Where the score loop stores. -/
theorem off2 (i : grid0.Coords) (k : Fin (k0_t1_loop i).trips) : k0_off2 i k = ![1024 * k.val, 0] := by
  have h := chunk_word k.val (by have := t1_lt i k; have := full_lt i; omega)
  unfold k0_off2; simp only [h]
/-- Where the exponential loop reads and stores. -/
theorem off7 (i : grid0.Coords) (k : Fin (k0_t3_loop i).trips) : k0_off7 i k = ![1024 * k.val, 0] := by
  have h := chunk_word k.val (by have := t3_lt i k; have := full_lt i; omega)
  unfold k0_off7; simp only [h]
/-- Where the product loop reads the weights. -/
theorem off9 (i : grid0.Coords) (k : Fin (k0_t5_loop i).trips) : k0_off9 i k = ![1024 * k.val, 0] := by
  have h := chunk_word k.val (by have := t5_lt i k; have := full_lt i; omega)
  unfold k0_off9; simp only [h]
/-- Where the product loop reads the values. -/
theorem off10 (i : grid0.Coords) (k : Fin (k0_t5_loop i).trips) : k0_off10 i k = ![0, 0, 1024 * k.val] := by
  have h := chunk_word k.val (by have := t5_lt i k; have := full_lt i; omega)
  unfold k0_off10; simp only [h]

end Cert.Kernel.Attend
-- ==== Proof.Chunks.lean ====
/- A buffer of 32768 rows read and written 1024 rows at a time: what it holds, chunk by chunk. -/
module

public import Idealize.ShloMosaic.Lib.WritesUnit
public import Idealize.ShloMosaic.Lib.VecWindow
public import Idealize.ShloMosaic.Lib.Tactic

@[expose] public section

noncomputable section

namespace Cert.Chunks

open Idealize.ShloMosaic

/-- The whole buffer: 32768 rows of 256. -/
abbrev Big : Shape := ⟨2, ![32768, 256]⟩
/-- One chunk of it: 1024 rows of 256. -/
abbrev Small : Shape := ⟨2, ![1024, 256]⟩

/-- Where row `r`, column `c` of the buffer lies inside its chunk. -/
def inner (y : Big.Idx) : Small.Idx := fun
  | ⟨0, _⟩ => ⟨(y (0 : Fin 2)).val % 1024, Nat.mod_lt _ (by decide)⟩
  | ⟨1, _⟩ => y (1 : Fin 2)

/-- A row's place within its chunk. -/
theorem inner_zero (y : Big.Idx) : (inner y (0 : Fin 2)).val = (y (0 : Fin 2)).val % 1024 := by simp [inner]
/-- A column's place within its chunk. -/
theorem inner_one (y : Big.Idx) : (inner y (1 : Fin 2)).val = (y (1 : Fin 2)).val := by simp [inner]

variable {sig : RefSig} {κ : Kind} {sp : Space} {e : EltTy} {Val : EltTy → Type} (v : View sig κ sp Big e)

/-- The first `n` chunks of the buffer are `S 0, …, S (n - 1)`. -/
def Holds (S : ℕ → Small.Idx → Val e) (n : ℕ) (f : v.ty.Contents Val) : Prop :=
  ∀ y : Big.Idx, (y (0 : Fin 2)).val < 1024 * n → v.read Val f y = S ((y (0 : Fin 2)).val / 1024) (inner y)

/-- Nothing is said of no chunks. -/
theorem holds_zero (S : ℕ → Small.Idx → Val e) (f : v.ty.Contents Val) : Holds v S 0 f :=
  fun y h => absurd h (by omega)

/-- Chunk families that agree on the first `n` chunks hold alike. -/
theorem Holds.congr {S S' : ℕ → Small.Idx → Val e} {n : ℕ} {f : v.ty.Contents Val} (h : Holds v S n f)
    (hS : ∀ j, j < n → S' j = S j) : Holds v S' n f := fun y hy => by
  rw [h y hy, hS _ (by omega)]

/-- Storing chunk `k`: the chunks other than `k` are as before, chunk `k` is what was stored. -/
theorem Holds.store {S S' : ℕ → Small.Idx → Val e} {n n' k : ℕ} {f : v.ty.Contents Val} (h : Holds v S n f)
    {off : Fin 2 → ℕ} (inb : ∀ a : Fin 2, off a + Small.size a ≤ Big.size a) (hoff : off = ![1024 * k, 0])
    (w : Small.Idx → Val e) (hw : S' k = w) (hS : ∀ j, j < n' → j ≠ k → j < n ∧ S' j = S j) :
    Holds v S' n' (v.writes Val f [(⟨Rect.unit (s := Big) off Small.size inb, w⟩ : View.Piece Val Big e)]) := by
  intro y hy
  by_cases hk : (y (0 : Fin 2)).val / 1024 = k
  · rw [View.read_writes_cons_rows_of_mem v f inb w [] y (inner y) hoff
      (by rw [inner_zero]; omega) (inner_one y).symm, hk, hw]
  · have hj := hS _ (by omega : (y (0 : Fin 2)).val / 1024 < n') hk
    rw [View.read_writes_cons_rows_of_not_mem v f inb w [] y hoff (W := 1024) rfl (by omega), hj.2]
    exact h y (by omega)

/-- Loading chunk `k` of a buffer that holds it. -/
theorem Holds.load {S : ℕ → Small.Idx → Val e} {n k : ℕ} {f : v.ty.Contents Val} (h : Holds v S n f) (hk : k < n)
    {off : Fin 2 → ℕ} (inb : ∀ a : Fin 2, off a + Small.size a ≤ Big.size a) (hoff : off = ![1024 * k, 0]) :
    v.readAt Val (Rect.unit (s := Big) off Small.size inb).toLoadRect f = S k := by
  subst hoff
  funext x
  have hx : (x (0 : Fin 2)).val < 1024 := (x (0 : Fin 2)).isLt
  have e0 : (((Rect.unit (s := Big) ![1024 * k, 0] Small.size inb).emb x) (0 : Fin 2)).val = 1024 * k + (x (0 : Fin 2)).val := by
    show 1024 * k + 1 * (x (0 : Fin 2)).val = _; omega
  have e1 : (((Rect.unit (s := Big) ![1024 * k, 0] Small.size inb).emb x) (1 : Fin 2)).val = (x (1 : Fin 2)).val := by
    show 0 + 1 * (x (1 : Fin 2)).val = _; omega
  have h1 := h ((Rect.unit (s := Big) ![1024 * k, 0] Small.size inb).emb x) (by rw [e0]; omega)
  refine h1.trans ?_
  have hd : (((Rect.unit (s := Big) ![1024 * k, 0] Small.size inb).emb x) (0 : Fin 2)).val / 1024 = k := by rw [e0]; omega
  have hi : inner ((Rect.unit (s := Big) ![1024 * k, 0] Small.size inb).emb x) = x := by
    funext a
    match a with
    | 0 => exact Fin.ext ((inner_zero _).trans (by rw [e0]; omega))
    | 1 => exact Fin.ext ((inner_one _).trans e1)
  rw [hd, hi]

end Cert.Chunks
-- ==== Proof.DefsBits.lean ====
/- What the attend kernel's body computes at one grid point, named: the score chunks, the running maximum, the
   exponentials and their sum, the accumulator and the output block — each from the block of queries `x0`, all the
   keys `x1`, all the values `x2` and the value scales `x3`. -/
module

public import proofs.«01_k».proof.Proof.WordsBits
public import proofs.«01_k».proof.Proof.Chunks
public import proofs.«01_k».proof.Proof.Gen.Kernel.Frame
public import Idealize.ShloMosaic.Lib.Pipeline.Value

@[expose] public section

set_option maxRecDepth 16384

noncomputable section

namespace Cert.Kernel.Attend

open Idealize.ShloMosaic Cert.Kernel Cert.Kernel.Gen

variable {F : FTy → Type} [FloatOps F]

/-- Keys `1024 k … 1024 k + 1023`. -/
def kChunk (x1 : Vec F S1x32768x128 .bf16) (k : ℕ) : Vec F S1x1024x128 .bf16 :=
  fun y => x1 (fun
    | ⟨0, _⟩ => (0 : Fin 1)
    | ⟨1, _⟩ => (⟨(1024 * k + (y (1 : Fin 3)).val) % 32768, Nat.mod_lt _ (by decide)⟩ : Fin 32768)
    | ⟨2, _⟩ => y (2 : Fin 3))
/-- Values `1024 k … 1024 k + 1023`, one to a column. -/
def vChunk (x2 : Vec F S1x128x32768 .fp8e4m3) (k : ℕ) : Vec F S1x128x1024 .fp8e4m3 :=
  fun y => x2 (fun
    | ⟨0, _⟩ => (0 : Fin 1)
    | ⟨1, _⟩ => y (1 : Fin 3)
    | ⟨2, _⟩ => (⟨(1024 * k + (y (2 : Fin 3)).val) % 32768, Nat.mod_lt _ (by decide)⟩ : Fin 32768))

/-- A load of 1024 keys reads their chunk. -/
theorem load_kChunk {sig : RefSig} {κ : Kind} {sp : Space} (v : View sig κ sp S1x32768x128 .bf16) (f : v.ty.Contents (Elt F))
    {k : ℕ} (hk : k < 32) {off : Fin 3 → ℕ} (inb : ∀ a : Fin 3, off a + S1x1024x128.size a ≤ S1x32768x128.size a)
    (hoff : off = ![0, 1024 * k, 0]) :
    v.readAt (Elt F) (Rect.unit (s := S1x32768x128) off S1x1024x128.size inb).toLoadRect f = kChunk (v.read (Elt F) f) k := by
  subst hoff
  funext y
  have h1 : (y (1 : Fin 3)).val < 1024 := (y (1 : Fin 3)).isLt
  refine congrArg (v.read (Elt F) f) (funext fun a => Fin.ext ?_)
  match a with
  | ⟨0, _⟩ =>
    have h0 : (y (0 : Fin 3)).val < 1 := (y (0 : Fin 3)).isLt
    show 0 + 1 * (y (0 : Fin 3)).val = 0; omega
  | ⟨1, _⟩ => show 1024 * k + 1 * (y (1 : Fin 3)).val = (1024 * k + (y (1 : Fin 3)).val) % 32768; omega
  | ⟨2, _⟩ => show 0 + 1 * (y (2 : Fin 3)).val = (y (2 : Fin 3)).val; omega
/-- A load of 1024 values reads their chunk. -/
theorem load_vChunk {sig : RefSig} {κ : Kind} {sp : Space} (v : View sig κ sp S1x128x32768 .fp8e4m3) (f : v.ty.Contents (Elt F))
    {k : ℕ} (hk : k < 32) {off : Fin 3 → ℕ} (inb : ∀ a : Fin 3, off a + S1x128x1024.size a ≤ S1x128x32768.size a)
    (hoff : off = ![0, 0, 1024 * k]) :
    v.readAt (Elt F) (Rect.unit (s := S1x128x32768) off S1x128x1024.size inb).toLoadRect f = vChunk (v.read (Elt F) f) k := by
  subst hoff
  funext y
  have h1 : (y (2 : Fin 3)).val < 1024 := (y (2 : Fin 3)).isLt
  refine congrArg (v.read (Elt F) f) (funext fun a => Fin.ext ?_)
  match a with
  | ⟨0, _⟩ =>
    have h0 : (y (0 : Fin 3)).val < 1 := (y (0 : Fin 3)).isLt
    show 0 + 1 * (y (0 : Fin 3)).val = 0; omega
  | ⟨1, _⟩ => show 0 + 1 * (y (1 : Fin 3)).val = (y (1 : Fin 3)).val; omega
  | ⟨2, _⟩ => show 1024 * k + 1 * (y (2 : Fin 3)).val = (1024 * k + (y (2 : Fin 3)).val) % 32768; omega

/-! ## Scores and their maximum -/

/-- The chunk's scores against the block's queries, nothing masked. -/
def score (x0 : Vec F S1x1x128x256 .bf16) (x1 : Vec F S1x32768x128 .bf16) (k : ℕ) : FVec F S1024x256 .f32 :=
  k0_pay3 (k0_pay27 x0) (kChunk x1 k)
/-- The kernel stores the scores as they are. -/
theorem score_stored (x0 : Vec F S1x1x128x256 .bf16) (x1 : Vec F S1x32768x128 .bf16) (k : ℕ) :
    k0_pay4 (k0_pay27 x0) (kChunk x1 k) = score x0 x1 k := by
  unfold k0_pay4 score
  exact shapeCast_self _ _
/-- The chunk's maximum over its 128 slices of 8 rows. -/
def chunkMax (x0 : Vec F S1x1x128x256 .bf16) (x1 : Vec F S1x32768x128 .bf16) (k : ℕ) (a : FVec F S8x256 .f32) : FVec F S8x256 .f32 :=
  k0_pay29 a (score x0 x1 k) (k0_pay8 (score x0 x1 k) (k0_pay7 (score x0 x1 k) (k0_pay6 (score x0 x1 k) (k0_pay5 (k0_pay27 x0) (kChunk x1 k)))))
/-- The running maximum before chunk `k`. -/
def runMax (x0 : Vec F S1x1x128x256 .bf16) (x1 : Vec F S1x32768x128 .bf16) : ℕ → FVec F S8x256 .f32
  | 0 => k0_pay28
  | k + 1 => chunkMax x0 x1 k (runMax x0 x1 k)

/-- The first row of the masked chunk, as the kernel's word. -/
def maskWord (i : grid0.Coords) : BitVec 32 := k0_mult3 i
/-- The masked chunk: keys after the query's token are minus infinity. -/
def masked (i : grid0.Coords) (x0 : Vec F S1x1x128x256 .bf16) (x1 : Vec F S1x32768x128 .bf16) : FVec F S1024x256 .f32 :=
  k0_pay32 (BitVec.ofNat 32 (i 1).val) (k0_pay31 x0 (kChunk x1 (full i))) (maskWord i) (iota .tc S1024x256 32 [0] iota_S1024x256_d0_w32)
/-- The maximum of the whole row of scores, one per query. -/
def rowMax (i : grid0.Coords) (x0 : Vec F S1x1x128x256 .bf16) (x1 : Vec F S1x32768x128 .bf16) : FVec F S1x256 .f32 :=
  k0_pay38 (runMax x0 x1 (full i)) (masked i x0 x1) (k0_pay37 (masked i x0 x1) (k0_pay36 (masked i x0 x1) (k0_pay35 (masked i x0 x1)
    (k0_pay34 (BitVec.ofNat 32 (i 1).val) (k0_pay31 x0 (kChunk x1 (full i))) (maskWord i) (iota .tc S1024x256 32 [0] iota_S1024x256_d0_w32)))))
/-- What the score buffer holds when the exponentials start. -/
def scores (i : grid0.Coords) (x0 : Vec F S1x1x128x256 .bf16) (x1 : Vec F S1x32768x128 .bf16) (k : ℕ) : FVec F S1024x256 .f32 :=
  if k < full i then k0_pay4 (k0_pay27 x0) (kChunk x1 k)
  else k0_pay33 (BitVec.ofNat 32 (i 1).val) (k0_pay31 x0 (kChunk x1 (full i))) (maskWord i) (iota .tc S1024x256 32 [0] iota_S1024x256_d0_w32)

/-! ## Exponentials and their sum -/

/-- The row's maximum in the exponent's unit. -/
def shift (i : grid0.Coords) (x0 : Vec F S1x1x128x256 .bf16) (x1 : Vec F S1x32768x128 .bf16) : FVec F S1x256 .f32 :=
  k0_pay40 (rowMax i x0 x1) k0_pay39
/-- A chunk's exponentials. -/
def expo (i : grid0.Coords) (x0 : Vec F S1x1x128x256 .bf16) (x1 : Vec F S1x32768x128 .bf16) (k : ℕ) : FVec F S1024x256 .f32 :=
  k0_pay15 (shift i x0 x1) (scores i x0 x1 k)
/-- The same as the kernel stores them. -/
def expoStored (i : grid0.Coords) (x0 : Vec F S1x1x128x256 .bf16) (x1 : Vec F S1x32768x128 .bf16) (k : ℕ) : FVec F S1024x256 .f32 :=
  k0_pay16 (shift i x0 x1) (scores i x0 x1 k)
/-- A chunk's exponentials added to the running sum. -/
def chunkSum (i : grid0.Coords) (x0 : Vec F S1x1x128x256 .bf16) (x1 : Vec F S1x32768x128 .bf16) (k : ℕ) (a : FVec F S8x256 .f32) : FVec F S8x256 .f32 :=
  k0_pay42 a (expo i x0 x1 k) (k0_pay20 (expo i x0 x1 k) (k0_pay19 (expo i x0 x1 k) (k0_pay18 (expo i x0 x1 k) (k0_pay17 (shift i x0 x1) (scores i x0 x1 k)))))
/-- The running sum before chunk `k`. -/
def runSum (i : grid0.Coords) (x0 : Vec F S1x1x128x256 .bf16) (x1 : Vec F S1x32768x128 .bf16) : ℕ → FVec F S8x256 .f32
  | 0 => k0_pay41
  | k + 1 => chunkSum i x0 x1 k (runSum i x0 x1 k)
/-- The whole row's running sum. -/
def total (i : grid0.Coords) (x0 : Vec F S1x1x128x256 .bf16) (x1 : Vec F S1x32768x128 .bf16) : FVec F S8x256 .f32 :=
  runSum i x0 x1 (full i + 1)

/-! ## The weighted sum of the values -/

/-- The accumulator before chunk `k`. -/
def accum (i : grid0.Coords) (x0 : Vec F S1x1x128x256 .bf16) (x1 : Vec F S1x32768x128 .bf16) (x2 : Vec F S1x128x32768 .fp8e4m3) : ℕ → FVec F S128x256 .f32
  | 0 => k0_pay49
  | k + 1 => k0_pay50 (k0_pay44 (total i x0 x1)) (k0_pay46 (total i x0 x1)) k0_pay47 (expoStored i x0 x1 k) (accum i x0 x1 x2 k) (vChunk x2 k)
/-- The block's output rows, one per token and head, before the heads are laid side by side. -/
def rowsOut (i : grid0.Coords) (x0 : Vec F S1x1x128x256 .bf16) (x1 : Vec F S1x32768x128 .bf16) (x2 : Vec F S1x128x32768 .fp8e4m3) (x3 : Vec F S1x1x128 .f32) : FVec F S256x128 .f32 :=
  k0_pay52 (k0_pay45 (total i x0 x1)) (accum i x0 x1 x2 (full i + 1)) x3

/-- Head `h`'s columns of the output block. -/
abbrev headRect (o : ℕ) (inb : ∀ a : Fin 3, (![0, 0, o] : Fin 3 → ℕ) a + S1x16x128.size a ≤ S1x16x2048.size a) : Rect S1x16x2048 :=
  Rect.unit (s := S1x16x2048) ![0, 0, o] S1x16x128.size inb

/-- The sixteen heads' stores, last first. -/
def pieces (r : FVec F S256x128 .f32) (p0 : FVec F S1x16x128 .bf16) (p1 : FVec F S16x128 .bf16) : List (View.Piece (Elt F) S1x16x2048 .bf16) :=
  [⟨headRect 1920 inb_S1x16x2048_S1x16x128_0_0_1920, k0_pay2 r⟩,
   ⟨headRect 1792 inb_S1x16x2048_S1x16x128_0_0_1792, k0_pay1 (k0_pay68 r)⟩,
   ⟨headRect 1664 inb_S1x16x2048_S1x16x128_0_0_1664, k0_pay67 r⟩,
   ⟨headRect 1536 inb_S1x16x2048_S1x16x128_0_0_1536, k0_pay66 r⟩,
   ⟨headRect 1408 inb_S1x16x2048_S1x16x128_0_0_1408, k0_pay65 r⟩,
   ⟨headRect 1280 inb_S1x16x2048_S1x16x128_0_0_1280, k0_pay64 r⟩,
   ⟨headRect 1152 inb_S1x16x2048_S1x16x128_0_0_1152, k0_pay63 r⟩,
   ⟨headRect 1024 inb_S1x16x2048_S1x16x128_0_0_1024, k0_pay62 r⟩,
   ⟨headRect 896 inb_S1x16x2048_S1x16x128_0_0_896, k0_pay61 r⟩,
   ⟨headRect 768 inb_S1x16x2048_S1x16x128_0_0_768, k0_pay60 r⟩,
   ⟨headRect 640 inb_S1x16x2048_S1x16x128_0_0_640, k0_pay59 r⟩,
   ⟨headRect 512 inb_S1x16x2048_S1x16x128_0_0_512, k0_pay58 r⟩,
   ⟨headRect 384 inb_S1x16x2048_S1x16x128_0_0_384, k0_pay57 r⟩,
   ⟨headRect 256 inb_S1x16x2048_S1x16x128_0_0_256, k0_pay56 r⟩,
   ⟨headRect 128 inb_S1x16x2048_S1x16x128_0_0_128, k0_pay55 p1⟩,
   ⟨headRect 0 inb_S1x16x2048_S1x16x128_0_0_0, p0⟩]

/-- The output block the body leaves. -/
def outBlock (i : grid0.Coords) (x0 : Vec F S1x1x128x256 .bf16) (x1 : Vec F S1x32768x128 .bf16) (x2 : Vec F S1x128x32768 .fp8e4m3) (x3 : Vec F S1x1x128 .f32) : Vec F S1x16x2048 .bf16 :=
  View.canon (pieces (rowsOut i x0 x1 x2 x3)
    (k0_pay53 (k0_pay45 (total i x0 x1)) (accum i x0 x1 x2 (full i + 1)) x3)
    (k0_pay54 (k0_pay45 (total i x0 x1)) (accum i x0 x1 x2 (full i + 1)) x3))

/-- The sixteen stores tile the output block. -/
theorem pieces_cover (r : FVec F S256x128 .f32) (p0 : FVec F S1x16x128 .bf16) (p1 : FVec F S16x128 .bf16) (y : S1x16x2048.Idx) :
    ∃ pc ∈ pieces r p0 p1, y ∈ pc.1.set :=
  View.cover_of_tiled (pieces r p0 p1) S1x16x128.size (by rfl) y

end Cert.Kernel.Attend
-- ==== Proof.BodyBits.lean ====
/- The attend kernel's body, run: from the four input blocks and scratch at anything it leaves the inputs and the
   scratch owned and the output block at `Attend.outBlock`. -/
module

public import proofs.«01_k».proof.Proof.DefsBits
public import Idealize.ShloMosaic.Lib.LoopRemainder

@[expose] public section

set_option maxRecDepth 16384

noncomputable section

namespace Cert.Kernel.Attend

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [FloatOps F]

local notation "𝕄" => MT nD τ sig Unit (Elt F) ℕ (UR sig nD τ) ℕ

variable (c : Dev nD) (E : Set ℕ) (i : grid0.Coords) (arg2 : Memref sig .tc .vmem S1x1x128x256 .bf16) (harg2 : arg2.IsWhole) (arg3 : Memref sig .tc .vmem S1x32768x128 .bf16) (harg3 : arg3.IsWhole) (arg4 : Memref sig .tc .vmem S1x128x32768 .fp8e4m3) (harg4 : arg4.IsWhole) (arg5 : Memref sig .tc .vmem S1x1x128 .f32) (harg5 : arg5.IsWhole) (arg6 : Memref sig .tc .vmem S1x16x2048 .bf16) (harg6 : arg6.IsWhole) (arg7 : Memref sig .tc .vmem S32768x256 .f32) (harg7 : arg7.IsWhole) (arg8 : Memref sig .tc .vmem S128x256 .f32) (harg8 : arg8.IsWhole)
  (x0 : Vec F S1x1x128x256 .bf16) (x1 : Vec F S1x32768x128 .bf16) (x2 : Vec F S1x128x32768 .fp8e4m3) (x3 : Vec F S1x1x128 .f32)

/-- Before trip `k` of the score loop: the keys as they are, `k` chunks of scores stored, the maximum carried. -/
def inv1 (f1 : BufTy.Contents (Elt F) arg3.view.ty) (k : ℕ) (acc : FVec F S8x256 .f32) : sProp 𝕄 :=
  iprop((arg3.view.loc (c : Thread nD τ) ↦[arg3.view.set]{fullShare} f1)
      ∗ (∃ f, (arg7.view.loc (c : Thread nD τ) ↦[arg7.view.set]{fullShare} f) ∗ ⌜Chunks.Holds (Val := Elt F) arg7.view (score x0 x1) k f⌝)
      ∗ ⌜acc = runMax x0 x1 k⌝)

/-- One trip of the score loop. -/
theorem trip1 (f1 : BufTy.Contents (Elt F) arg3.view.ty) (hf1 : arg3.view.read (Elt F) f1 = x1) (k : Fin (k0_t1_loop i).trips) (acc : FVec F S8x256 .f32) :
    inv1 c arg3 arg7 x0 x1 f1 k.val acc ⊢ wp frame (wpE (defs₀ (F := F)) Variants.none (c : Thread nD τ) none) E (k0_t1_body (F := F) i arg2 harg2 arg3 harg3 arg4 harg4 arg5 harg5 arg6 harg6 arg7 harg7 arg8 harg8 x0 k acc) (inv1 c arg3 arg7 x0 x1 f1 (k.val + 1)) := by
  unfold inv1 k0_t1_body
  simp only [k0_part1_eq_skeleton, k0_part2_eq_skeleton, k0_part3_eq_skeleton, k0_part4_eq_skeleton]
  iintro ⟨H1, ⟨%f, H5, %hf⟩, %hacc⟩
  have hk : k.val < 32 := lt_trans (t1_lt i k) (full_lt i)
  have ek : ∀ inb, View.readAt (Elt F) arg3.view (Rect.unit (s := S1x32768x128) (k0_off1 i k) S1x1024x128.size inb).toLoadRect f1 = kChunk x1 k.val :=
    fun inb => by rw [load_kChunk _ _ hk _ (off1 i k), hf1]
  sl_exec
  sl_step
  isplitl [H1]; · iexact H1
  isplitl [H5]
  · iexists _; isplitl [H5]; · iexact H5
    ipureintro
    refine hf.store _ _ (off2 i k) _ (score_stored x0 x1 k.val).symm fun j h1 h2 => ⟨by omega, rfl⟩
  ipureintro
  subst hacc
  rfl

/-- Before trip `k` of the exponential loop: the first `k` chunks replaced by their exponentials, the sum carried. -/
def inv3 (k : ℕ) (acc : FVec F S8x256 .f32) : sProp 𝕄 :=
  iprop((∃ f, (arg7.view.loc (c : Thread nD τ) ↦[arg7.view.set]{fullShare} f)
        ∗ ⌜Chunks.Holds (Val := Elt F) arg7.view (fun j => if j < k then expoStored i x0 x1 j else scores i x0 x1 j) (full i + 1) f⌝)
      ∗ ⌜acc = runSum i x0 x1 k⌝)

/-- One trip of the exponential loop. -/
theorem trip3 (v17 : BitVec 32) (k : Fin (k0_t3_loop i).trips) (acc : FVec F S8x256 .f32) :
    inv3 c i arg7 x0 x1 k.val acc ⊢ wp frame (wpE (defs₀ (F := F)) Variants.none (c : Thread nD τ) none) E (k0_t3_body (F := F) i arg2 harg2 arg3 harg3 arg4 harg4 arg5 harg5 arg6 harg6 arg7 harg7 arg8 harg8 v17 (rowMax i x0 x1) k0_pay39 k acc) (inv3 c i arg7 x0 x1 (k.val + 1)) := by
  unfold inv3 k0_t3_body
  simp only [k0_part9_eq_skeleton, k0_part10_eq_skeleton, k0_part11_eq_skeleton, k0_part12_eq_skeleton]
  iintro ⟨⟨%f, H5, %hf⟩, %hacc⟩
  have hk : k.val < full i + 1 := t3_lt i k
  have ek : ∀ inb, View.readAt (Elt F) arg7.view (Rect.unit (s := S32768x256) (k0_off7 i k) S1024x256.size inb).toLoadRect f = scores i x0 x1 k.val :=
    fun inb => (hf.load _ hk inb (off7 i k)).trans (if_neg (lt_irrefl _))
  sl_exec
  sl_step
  isplitl [H5]
  · iexists _; isplitl [H5]; · iexact H5
    ipureintro
    refine hf.store _ _ (off7 i k) _ (if_pos (Nat.lt_succ_self _)) fun j h1 h2 => ⟨h1, ?_⟩
    by_cases h : j < k.val
    · rw [if_pos h, if_pos (by omega)]
    · rw [if_neg h, if_neg (by omega)]
  ipureintro
  subst hacc
  rfl

/-- Before trip `k` of the accumulating loop: the exponentials and the values as they are, the accumulator after `k` chunks. -/
def inv5 (f2 : BufTy.Contents (Elt F) arg4.view.ty) (k : ℕ) (_ : BitVec 32) : sProp 𝕄 :=
  iprop((arg4.view.loc (c : Thread nD τ) ↦[arg4.view.set]{fullShare} f2)
      ∗ (∃ f, (arg7.view.loc (c : Thread nD τ) ↦[arg7.view.set]{fullShare} f) ∗ ⌜Chunks.Holds (Val := Elt F) arg7.view (expoStored i x0 x1) (full i + 1) f⌝)
      ∗ (∃ f, (arg8.view.loc (c : Thread nD τ) ↦[arg8.view.set]{fullShare} f) ∗ ⌜arg8.view.read (Elt F) f = accum i x0 x1 x2 k⌝))

/-- One trip of the accumulating loop. -/
theorem trip5 (v17 : BitVec 32) (v360 : IVec S1x256 32) (f2 : BufTy.Contents (Elt F) arg4.view.ty) (hf2 : arg4.view.read (Elt F) f2 = x2) (k : Fin (k0_t5_loop i).trips) (acc : BitVec 32) :
    inv5 c i arg4 arg7 arg8 x0 x1 x2 f2 k.val acc ⊢ wp frame (wpE (defs₀ (F := F)) Variants.none (c : Thread nD τ) none) E (k0_t5_body (F := F) i arg2 harg2 arg3 harg3 arg4 harg4 arg5 harg5 arg6 harg6 arg7 harg7 arg8 harg8 v17 (k0_pay44 (total i x0 x1)) v360 (k0_pay46 (total i x0 x1)) k0_pay47 k acc)
      (inv5 c i arg4 arg7 arg8 x0 x1 x2 f2 (k.val + 1)) := by
  unfold inv5 k0_t5_body
  iintro ⟨H2, ⟨%f, H5, %hf⟩, ⟨%g, H6, %hg⟩⟩
  have hk : k.val < full i + 1 := t5_lt i k
  have hk' : k.val < 32 := lt_of_lt_of_le hk (full_lt i)
  have ek : ∀ inb, View.readAt (Elt F) arg7.view (Rect.unit (s := S32768x256) (k0_off9 i k) S1024x256.size inb).toLoadRect f = expoStored i x0 x1 k.val :=
    fun inb => hf.load _ hk inb (off9 i k)
  have ev : ∀ inb, View.readAt (Elt F) arg4.view (Rect.unit (s := S1x128x32768) (k0_off10 i k) S1x128x1024.size inb).toLoadRect f2 = vChunk x2 k.val :=
    fun inb => by rw [load_vChunk _ _ hk' _ (off10 i k), hf2]
  have ea : ∀ inb, View.readAt (Elt F) arg8.view (Rect.unit (s := S128x256) ![0, 0] S128x256.size inb).toLoadRect g = accum i x0 x1 x2 k.val :=
    fun inb => (View.readAt_full _ _ _).trans hg
  sl_exec
  sl_step
  isplitl [H2]; · iexact H2
  isplitl [H5]
  · iexists f; isplitl [H5]; · iexact H5
    ipureintro; exact hf
  iexists _; isplitl [H6]; · iexact H6
  ipureintro
  rw [View.read_writes_full]
  rfl

set_option maxHeartbeats 4000000 in
/-- The body: from the four input blocks, and the output block and the scratch at anything, it runs to the inputs as
    they were, the output at `outBlock` of them, the scratch at something. -/
theorem sound_kernel (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
        ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (outBlock i x0 x1 x2 x3)
            ∗ (∃ d, owns (c : Thread nD τ) arg7 fullShare d) ∗ (∃ d, owns (c : Thread nD τ) arg8 fullShare d)) -∗ K ⟨⟩))
      ⊢ wp frame (wpE (defs₀ (F := F)) Variants.none (c : Thread nD τ) none) E (cc0_attend i arg2 harg2 arg3 harg3 arg4 harg4 arg5 harg5 arg6 harg6 arg7 harg7 arg8 harg8) K := by
  simp only [cc0_attend_eq_skeleton]; unfold cc0_attend_skel
  simp only [k0_part17_eq_skeleton, k0_part18_eq_skeleton, k0_part19_eq_skeleton, k0_part20_eq_skeleton, k0_part21_eq_skeleton, k0_part22_eq_skeleton,
    k0_part23_eq_skeleton, k0_part24_eq_skeleton, k0_part25_eq_skeleton, k0_part26_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  have e0 : ∀ inb, View.readAt (Elt F) arg2.view (Rect.unit (s := S1x1x128x256) ![0, 0, 0, 0] S1x1x128x256.size inb).toLoadRect f0 = x0 :=
    fun inb => (View.readAt_full _ _ _).trans hf0
  have e1 : ∀ inb, View.readAt (Elt F) arg3.view (Rect.unit (s := S1x32768x128) (k0_off5 i) S1x1024x128.size inb).toLoadRect f1 = kChunk x1 (full i) :=
    fun inb => by rw [load_kChunk _ _ (full_lt i) _ (off5 i), hf1]
  have e3 : ∀ inb, View.readAt (Elt F) arg5.view (Rect.unit (s := S1x1x128) ![0, 0, 0] S1x1x128.size inb).toLoadRect f3 = x3 :=
    fun inb => (View.readAt_full _ _ _).trans hf3
  sl_exec
  -- the scores of the whole chunks
  sl_for (inv1 c arg3 arg7 x0 x1 f1) $$ [H1 H5]
  case region => exact trip1 c E i arg2 harg2 arg3 harg3 arg4 harg4 arg5 harg5 arg6 harg6 arg7 harg7 arg8 harg8 x0 x1 f1 hf1
  · unfold inv1
    isplitl [H1]; · iexact H1
    isplitl [H5]
    · iexists f5; isplitl [H5]; · iexact H5
      ipureintro; exact Chunks.holds_zero _ _ _
    ipureintro; rfl
  unfold inv1
  iintro %acc ⟨H1, ⟨%f, H5, %hf⟩, %hacc⟩
  have ht1 : Scf.trips (k0_t1_loop i).lb (k0_t1_loop i).ub (k0_t1_loop i).st = full i := t1_trips i
  rw [ht1] at hf hacc
  subst hacc
  sl_exec
  have hf' : Chunks.Holds (Val := Elt F) arg7.view (fun j => if j < 0 then expoStored i x0 x1 j else scores i x0 x1 j) (full i + 1)
      (arg7.view.writes (Elt F) f [⟨Rect.unit (k0_off6 i) S1024x256.size (k0_off6_inb i),
        k0_pay33 (BitVec.ofNat 32 ↑(i 1)) (sound_kernel.sl.r_1 i x0 x1) (sound_kernel.sl.v28 i) sound_kernel.sl.v35⟩]) := by
    refine hf.store _ _ (off6 i) _ ?_ fun j h1 h2 => ⟨by omega, ?_⟩
    · rw [if_neg (Nat.not_lt_zero _), scores, if_neg (lt_irrefl _)]
      rfl
    · rw [if_neg (Nat.not_lt_zero _), scores, if_pos (by omega), score_stored]
  -- the exponentials
  sl_for (inv3 c i arg7 x0 x1) $$ [H5]
  case region => exact trip3 c E i arg2 harg2 arg3 harg3 arg4 harg4 arg5 harg5 arg6 harg6 arg7 harg7 arg8 harg8 x0 x1 _
  · unfold inv3
    isplitl [H5]
    · iexists _; isplitl [H5]; · iexact H5
      ipureintro; exact hf'
    ipureintro; rfl
  unfold inv3
  clear hf' hf f
  iintro %acc ⟨⟨%f, H5, %hf⟩, %hacc⟩
  have ht3 : Scf.trips (k0_t3_loop i).lb (k0_t3_loop i).ub (k0_t3_loop i).st = full i + 1 := t3_trips i
  rw [ht3] at hf hacc
  have hacc : acc = total i x0 x1 := hacc
  subst hacc
  have hf' : Chunks.Holds (Val := Elt F) arg7.view (expoStored i x0 x1) (full i + 1) f :=
    Chunks.Holds.congr _ hf fun j hj => (if_pos hj).symm
  sl_exec
  -- the accumulation
  sl_for (inv5 c i arg4 arg7 arg8 x0 x1 x2 f2) $$ [H2 H5 H6]
  case region => exact trip5 c E i arg2 harg2 arg3 harg3 arg4 harg4 arg5 harg5 arg6 harg6 arg7 harg7 arg8 harg8 x0 x1 x2 _ _ f2 hf2
  · unfold inv5
    isplitl [H2]; · iexact H2
    isplitl [H5]
    · iexists f; isplitl [H5]; · iexact H5
      ipureintro; exact hf'
    iexists _; isplitl [H6]; · iexact H6
    ipureintro
    unfold sound_kernel.sl.H6_1
    rw [View.read_writes_full]
    rfl
  unfold inv5
  clear hf' hf f
  iintro %acc ⟨H2, ⟨%f, H5, %hf⟩, ⟨%g, H6, %hg⟩⟩
  have ht5 : Scf.trips (k0_t5_loop i).lb (k0_t5_loop i).ub (k0_t5_loop i).st = full i + 1 := t5_trips i
  rw [ht5] at hg
  have ea : ∀ inb, View.readAt (Elt F) arg8.view (Rect.unit (s := S128x256) ![0, 0] S128x256.size inb).toLoadRect g = accum i x0 x1 x2 (full i + 1) :=
    fun inb => (View.readAt_full _ _ _).trans hg
  sl_exec
  sl_step
  iapply Hk
  isplitl [H0]; · iexists f0; isplitl []; (ipureintro; exact hf0); iexact H0
  isplitl [H1]; · iexists f1; isplitl []; (ipureintro; exact hf1); iexact H1
  isplitl [H2]; · iexists f2; isplitl []; (ipureintro; exact hf2); iexact H2
  isplitl [H3]; · iexists f3; isplitl []; (ipureintro; exact hf3); iexact H3
  isplitl [H4]
  · iexists _; isplitl []; swap; iexact H4
    ipureintro
    exact View.read_writes_eq_canon _ _ _ (pieces_cover _ _ _)
  isplitl [H5]; · iexists _, f; isplitl []; (ipureintro; rfl); iexact H5
  iexists _, _; isplitl []; swap; iexact H6
  ipureintro; rfl

end Cert.Kernel.Attend

end
-- ==== Proof.RunBits.lean ====
/- The run of the kernel's program at any values: the proof data of its one pipeline, the body obligation from
   the body's triple (BodyBits.lean), the run to the library's `FramePost`, and the frame claim. -/
module

public import proofs.«01_k».proof.Proof.BodyBits
public import proofs.«01_k».proof.Proof.Gen.Kernel.Frame
public import Idealize.ShloMosaic.Lib.Pipeline.FrameBody
public import Idealize.ShloMosaic.Lib.Claim

@[expose] public section

set_option maxRecDepth 16384

noncomputable section

namespace Cert.Kernel.Attend

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The proof data of the one pipeline on core `c`: the arrays as the region finds them (`V`); after the body at
    point `t` each input's buffer at its block and each output's at `outBlock` of the input blocks; the invariant the
    class's (Lib/Pipeline/Frame.lean `ΦA`: the scratch buffers at something and the generator register); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlock (grid0.coords t) (iblk m c 0 t) (iblk m c 1 t) (iblk m c 2 t) (iblk m c 3 t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
/-- After a point the keys' block is unchanged. -/
theorem after0_1 (c : Dev nD) (t : Fin cfg0.N) : (dats m 0 c).after 1 t = iblk m c 1 t := by dsimp only [dats]
/-- After a point the values' block is unchanged. -/
theorem after0_2 (c : Dev nD) (t : Fin cfg0.N) : (dats m 0 c).after 2 t = iblk m c 2 t := by dsimp only [dats]
/-- After a point the scales' block is unchanged. -/
theorem after0_3 (c : Dev nD) (t : Fin cfg0.N) : (dats m 0 c).after 3 t = iblk m c 3 t := by dsimp only [dats]
/-- After a point the output block is the body's. -/
theorem after0_4 (c : Dev nD) (t : Fin cfg0.N) : (dats m 0 c).after 4 t = outBlock (grid0.coords t) (iblk m c 0 t) (iblk m c 1 t) (iblk m c 2 t) (iblk m c 3 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- Before a point the keys' block is the array's. -/
theorem before0_1 (c : Dev nD) (t : Fin cfg0.N) (d) : (dats m 0 c).before 1 t d = iblk m c 1 t :=
  before0_1_of m (dats m 0 c) (A_eq m c 1) (after0_1 m c) t d
/-- Before a point the values' block is the array's. -/
theorem before0_2 (c : Dev nD) (t : Fin cfg0.N) (d) : (dats m 0 c).before 2 t d = iblk m c 2 t :=
  before0_2_of m (dats m 0 c) (A_eq m c 2) (after0_2 m c) t d
/-- Before a point the scales' block is the array's. -/
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' memrefs hold their blocks (`before0_W`), so `sound_kernel` applies; the invariant opens
    to the two scratch buffers, which the body returns at something, and the core's `owes` passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = iprop((Pipeline.scopedRest spec0 c : sProp 𝕄) ∗ ∃ r, prngReg c r) from rfl, scopedRest0_eq c]
  iintro ⟨⟨⟨⟨%f5, H5⟩, ⟨%f6, H6⟩⟩, Hr⟩, Ho, ⟨%d0, H0⟩, ⟨%d1, H1⟩, ⟨%d2, H2⟩, ⟨%d3, H3⟩, ⟨%d4, H4⟩⟩
  iapply (sound_kernel c Set.univ _ _ _ _ _ _ _ _ _ _ _ _ _ _ _ (iblk m c 0 t) (iblk m c 1 t) (iblk m c 2 t) (iblk m c 3 t) _)
  simp only [owns_whole]
  isplitl [H0]; · iexact H0
  isplitl [H1]; · iexact H1
  isplitl [H2]; · iexact H2
  isplitl [H3]; · iexact H3
  isplitl [H4]; · iexists _; iexact H4
  isplitl [H5]; · iexists f5; iexact H5
  isplitl [H6]; · iexists f6; iexact H6
  iintro ⟨H0, H1, H2, H3, H4, ⟨%g5, H5⟩, ⟨%g6, H6⟩⟩
  isplitl [H5 H6 Hr]
  · isplitl [H5 H6]
    · isplitl [H5]; · iexists g5; iexact H5
      iexists g6; iexact H6
    iexact Hr
  isplitl [Ho]; · iexact Ho
  isplitl [H0]; · iexact H0
  isplitl [H1]; · iexact H1
  isplitl [H2]; · iexact H2
  isplitl [H3]; · iexact H3
  iexact H4

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- THE FRAME: `Cert.quiescent_Kernel`'s statement (Defs.lean) at any `F` -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel.Attend

end
-- ==== Proof.WordsIdeal.lean ====
/- The words the attend kernel computes from its grid coordinate, in closed form: how many whole chunks of 1024 keys
   lie before a block of 16 tokens, and where each chunk's slabs start. -/
module

public import proofs.«01_k».proof.Proof.Gen.KernelIdeal.Skeleton
public import Idealize.ShloMosaic.Lib.WordArith.Masks

@[expose] public section

set_option maxRecDepth 16384

noncomputable section

namespace Cert.KernelIdeal.Attend

open Idealize.ShloMosaic Cert.KernelIdeal

/-- The number of whole chunks of 1024 keys before token block `i 1`: sixteen tokens to a block, 64 blocks to a chunk. -/
def full (i : grid0.Coords) : ℕ := (i 1).val / 64

/-- There are fewer than 32 full chunks. -/
theorem full_lt (i : grid0.Coords) : full i < 32 := by
  have : (i 1).val < 2048 := (i 1).isLt
  unfold full; omega

/-- The coordinates with token block `n`, for computing the words once per block. -/
def at1 (n : Fin 2048) : grid0.Coords := fun | 0 => (0 : Fin 2) | 1 => n

/-- The score loop runs over the whole chunks. -/
theorem t1_trips (i : grid0.Coords) : (k0_t1_loop i).trips = full i :=
  (by decide +kernel : ∀ n : Fin 2048, (k0_t1_loop (at1 n)).trips = n.val / 64) (i 1)
/-- The exponential loop runs over the whole chunks and the masked one. -/
theorem t3_trips (i : grid0.Coords) : (k0_t3_loop i).trips = full i + 1 :=
  (by decide +kernel : ∀ n : Fin 2048, (k0_t3_loop (at1 n)).trips = n.val / 64 + 1) (i 1)
/-- So does the accumulating loop. -/
theorem t5_trips (i : grid0.Coords) : (k0_t5_loop i).trips = full i + 1 :=
  (by decide +kernel : ∀ n : Fin 2048, (k0_t5_loop (at1 n)).trips = n.val / 64 + 1) (i 1)

/-- The masked chunk's slab of the keys. -/
theorem off5 (i : grid0.Coords) : k0_off5 i = ![0, 1024 * full i, 0] := by
  have h := (by decide +kernel : ∀ n : Fin 2048, k0_off5 (at1 n) 1 = 1024 * (n.val / 64)) (i 1)
  funext a
  match a with
  | 0 => rfl
  | 1 => exact h
  | 2 => rfl
/-- The masked chunk's slab of the score buffer. -/
theorem off6 (i : grid0.Coords) : k0_off6 i = ![1024 * full i, 0] := by
  have h := (by decide +kernel : ∀ n : Fin 2048, k0_off6 (at1 n) 0 = 1024 * (n.val / 64)) (i 1)
  funext a
  match a with
  | 0 => exact h
  | 1 => rfl

/-- A trip's word times the chunk length, as a number. -/
theorem chunk_word (k : ℕ) (hk : k < 32) :
    (Scalar.indexCast (Scalar.muli (Scf.iv 0#32 1#32 k) 1024#32) : BitVec 32).toNat = 1024 * k :=
  (by decide +kernel : ∀ n : Fin 32,
    (Scalar.indexCast (Scalar.muli (Scf.iv 0#32 1#32 n.val) 1024#32) : BitVec 32).toNat = 1024 * n.val) ⟨k, hk⟩

/-- The score loop visits the full chunks. -/
theorem t1_lt (i : grid0.Coords) (k : Fin (k0_t1_loop i).trips) : k.val < full i := by
  exact lt_of_lt_of_eq k.isLt (t1_trips i)
/-- The exponential loop visits the visible chunks. -/
theorem t3_lt (i : grid0.Coords) (k : Fin (k0_t3_loop i).trips) : k.val < full i + 1 := by
  exact lt_of_lt_of_eq k.isLt (t3_trips i)
/-- The product loop visits the visible chunks. -/
theorem t5_lt (i : grid0.Coords) (k : Fin (k0_t5_loop i).trips) : k.val < full i + 1 := by
  exact lt_of_lt_of_eq k.isLt (t5_trips i)

/-- Where the score loop reads the keys. -/
theorem off1 (i : grid0.Coords) (k : Fin (k0_t1_loop i).trips) : k0_off1 i k = ![0, 1024 * k.val, 0] := by
  have h := chunk_word k.val (by have := t1_lt i k; have := full_lt i; omega)
  unfold k0_off1; simp only [h]
/-- Where the score loop stores. -/
theorem off2 (i : grid0.Coords) (k : Fin (k0_t1_loop i).trips) : k0_off2 i k = ![1024 * k.val, 0] := by
  have h := chunk_word k.val (by have := t1_lt i k; have := full_lt i; omega)
  unfold k0_off2; simp only [h]
/-- Where the exponential loop reads and stores. -/
theorem off7 (i : grid0.Coords) (k : Fin (k0_t3_loop i).trips) : k0_off7 i k = ![1024 * k.val, 0] := by
  have h := chunk_word k.val (by have := t3_lt i k; have := full_lt i; omega)
  unfold k0_off7; simp only [h]
/-- Where the product loop reads the weights. -/
theorem off9 (i : grid0.Coords) (k : Fin (k0_t5_loop i).trips) : k0_off9 i k = ![1024 * k.val, 0] := by
  have h := chunk_word k.val (by have := t5_lt i k; have := full_lt i; omega)
  unfold k0_off9; simp only [h]
/-- Where the product loop reads the values. -/
theorem off10 (i : grid0.Coords) (k : Fin (k0_t5_loop i).trips) : k0_off10 i k = ![0, 0, 1024 * k.val] := by
  have h := chunk_word k.val (by have := t5_lt i k; have := full_lt i; omega)
  unfold k0_off10; simp only [h]

end Cert.KernelIdeal.Attend
-- ==== Proof.DefsIdeal.lean ====
/- What the attend kernel's body computes at one grid point, named: the score chunks, the running maximum, the
   exponentials and their sum, the accumulator and the output block — each from the block of queries `x0`, all the
   keys `x1`, all the values `x2` and the value scales `x3`. -/
module

public import proofs.«01_k».proof.Proof.WordsIdeal
public import proofs.«01_k».proof.Proof.Chunks
public import proofs.«01_k».proof.Proof.Gen.KernelIdeal.Frame
public import Idealize.ShloMosaic.Lib.Pipeline.Value

@[expose] public section

set_option maxRecDepth 16384

noncomputable section

namespace Cert.KernelIdeal.Attend

open Idealize.ShloMosaic Cert.KernelIdeal Cert.KernelIdeal.Gen

variable {F : FTy → Type} [FloatOps F] [Named F]

/-- Keys `1024 k … 1024 k + 1023`. -/
def kChunk (x1 : Vec F S1x32768x128 .bf16) (k : ℕ) : Vec F S1x1024x128 .bf16 :=
  fun y => x1 (fun
    | ⟨0, _⟩ => (0 : Fin 1)
    | ⟨1, _⟩ => (⟨(1024 * k + (y (1 : Fin 3)).val) % 32768, Nat.mod_lt _ (by decide)⟩ : Fin 32768)
    | ⟨2, _⟩ => y (2 : Fin 3))
/-- Values `1024 k … 1024 k + 1023`, one to a column. -/
def vChunk (x2 : Vec F S1x128x32768 .fp8e4m3) (k : ℕ) : Vec F S1x128x1024 .fp8e4m3 :=
  fun y => x2 (fun
    | ⟨0, _⟩ => (0 : Fin 1)
    | ⟨1, _⟩ => y (1 : Fin 3)
    | ⟨2, _⟩ => (⟨(1024 * k + (y (2 : Fin 3)).val) % 32768, Nat.mod_lt _ (by decide)⟩ : Fin 32768))

/-- A load of 1024 keys reads their chunk. -/
theorem load_kChunk {sig : RefSig} {κ : Kind} {sp : Space} (v : View sig κ sp S1x32768x128 .bf16) (f : v.ty.Contents (Elt F))
    {k : ℕ} (hk : k < 32) {off : Fin 3 → ℕ} (inb : ∀ a : Fin 3, off a + S1x1024x128.size a ≤ S1x32768x128.size a)
    (hoff : off = ![0, 1024 * k, 0]) :
    v.readAt (Elt F) (Rect.unit (s := S1x32768x128) off S1x1024x128.size inb).toLoadRect f = kChunk (v.read (Elt F) f) k := by
  subst hoff
  funext y
  have h1 : (y (1 : Fin 3)).val < 1024 := (y (1 : Fin 3)).isLt
  refine congrArg (v.read (Elt F) f) (funext fun a => Fin.ext ?_)
  match a with
  | ⟨0, _⟩ =>
    have h0 : (y (0 : Fin 3)).val < 1 := (y (0 : Fin 3)).isLt
    show 0 + 1 * (y (0 : Fin 3)).val = 0; omega
  | ⟨1, _⟩ => show 1024 * k + 1 * (y (1 : Fin 3)).val = (1024 * k + (y (1 : Fin 3)).val) % 32768; omega
  | ⟨2, _⟩ => show 0 + 1 * (y (2 : Fin 3)).val = (y (2 : Fin 3)).val; omega
/-- A load of 1024 values reads their chunk. -/
theorem load_vChunk {sig : RefSig} {κ : Kind} {sp : Space} (v : View sig κ sp S1x128x32768 .fp8e4m3) (f : v.ty.Contents (Elt F))
    {k : ℕ} (hk : k < 32) {off : Fin 3 → ℕ} (inb : ∀ a : Fin 3, off a + S1x128x1024.size a ≤ S1x128x32768.size a)
    (hoff : off = ![0, 0, 1024 * k]) :
    v.readAt (Elt F) (Rect.unit (s := S1x128x32768) off S1x128x1024.size inb).toLoadRect f = vChunk (v.read (Elt F) f) k := by
  subst hoff
  funext y
  have h1 : (y (2 : Fin 3)).val < 1024 := (y (2 : Fin 3)).isLt
  refine congrArg (v.read (Elt F) f) (funext fun a => Fin.ext ?_)
  match a with
  | ⟨0, _⟩ =>
    have h0 : (y (0 : Fin 3)).val < 1 := (y (0 : Fin 3)).isLt
    show 0 + 1 * (y (0 : Fin 3)).val = 0; omega
  | ⟨1, _⟩ => show 0 + 1 * (y (1 : Fin 3)).val = (y (1 : Fin 3)).val; omega
  | ⟨2, _⟩ => show 1024 * k + 1 * (y (2 : Fin 3)).val = (1024 * k + (y (2 : Fin 3)).val) % 32768; omega

/-! ## Scores and their maximum -/

/-- The chunk's scores against the block's queries, nothing masked. -/
def score (x0 : Vec F S1x1x128x256 .bf16) (x1 : Vec F S1x32768x128 .bf16) (k : ℕ) : FVec F S1024x256 .f32 :=
  k0_pay3 (k0_pay27 x0) (kChunk x1 k)
/-- The kernel stores the scores as they are. -/
theorem score_stored (x0 : Vec F S1x1x128x256 .bf16) (x1 : Vec F S1x32768x128 .bf16) (k : ℕ) :
    k0_pay4 (k0_pay27 x0) (kChunk x1 k) = score x0 x1 k := by
  unfold k0_pay4 score
  exact shapeCast_self _ _
/-- The chunk's maximum over its 128 slices of 8 rows. -/
def chunkMax (x0 : Vec F S1x1x128x256 .bf16) (x1 : Vec F S1x32768x128 .bf16) (k : ℕ) (a : FVec F S8x256 .f32) : FVec F S8x256 .f32 :=
  k0_pay29 a (score x0 x1 k) (k0_pay8 (score x0 x1 k) (k0_pay7 (score x0 x1 k) (k0_pay6 (score x0 x1 k) (k0_pay5 (k0_pay27 x0) (kChunk x1 k)))))
/-- The running maximum before chunk `k`. -/
def runMax (x0 : Vec F S1x1x128x256 .bf16) (x1 : Vec F S1x32768x128 .bf16) : ℕ → FVec F S8x256 .f32
  | 0 => k0_pay28
  | k + 1 => chunkMax x0 x1 k (runMax x0 x1 k)

/-- The first row of the masked chunk, as the kernel's word. -/
def maskWord (i : grid0.Coords) : BitVec 32 := k0_mult3 i
/-- The masked chunk: keys after the query's token are minus infinity. -/
def masked (i : grid0.Coords) (x0 : Vec F S1x1x128x256 .bf16) (x1 : Vec F S1x32768x128 .bf16) : FVec F S1024x256 .f32 :=
  k0_pay32 (BitVec.ofNat 32 (i 1).val) (k0_pay31 x0 (kChunk x1 (full i))) (maskWord i) (iota .tc S1024x256 32 [0] iota_S1024x256_d0_w32)
/-- The maximum of the whole row of scores, one per query. -/
def rowMax (i : grid0.Coords) (x0 : Vec F S1x1x128x256 .bf16) (x1 : Vec F S1x32768x128 .bf16) : FVec F S1x256 .f32 :=
  k0_pay38 (runMax x0 x1 (full i)) (masked i x0 x1) (k0_pay37 (masked i x0 x1) (k0_pay36 (masked i x0 x1) (k0_pay35 (masked i x0 x1)
    (k0_pay34 (BitVec.ofNat 32 (i 1).val) (k0_pay31 x0 (kChunk x1 (full i))) (maskWord i) (iota .tc S1024x256 32 [0] iota_S1024x256_d0_w32)))))
/-- What the score buffer holds when the exponentials start. -/
def scores (i : grid0.Coords) (x0 : Vec F S1x1x128x256 .bf16) (x1 : Vec F S1x32768x128 .bf16) (k : ℕ) : FVec F S1024x256 .f32 :=
  if k < full i then k0_pay4 (k0_pay27 x0) (kChunk x1 k)
  else k0_pay33 (BitVec.ofNat 32 (i 1).val) (k0_pay31 x0 (kChunk x1 (full i))) (maskWord i) (iota .tc S1024x256 32 [0] iota_S1024x256_d0_w32)

/-! ## Exponentials and their sum -/

/-- The row's maximum in the exponent's unit. -/
def shift (i : grid0.Coords) (x0 : Vec F S1x1x128x256 .bf16) (x1 : Vec F S1x32768x128 .bf16) : FVec F S1x256 .f32 :=
  k0_pay40 (rowMax i x0 x1) k0_pay39
/-- A chunk's exponentials. -/
def expo (i : grid0.Coords) (x0 : Vec F S1x1x128x256 .bf16) (x1 : Vec F S1x32768x128 .bf16) (k : ℕ) : FVec F S1024x256 .f32 :=
  k0_pay15 (shift i x0 x1) (scores i x0 x1 k)
/-- The same as the kernel stores them. -/
def expoStored (i : grid0.Coords) (x0 : Vec F S1x1x128x256 .bf16) (x1 : Vec F S1x32768x128 .bf16) (k : ℕ) : FVec F S1024x256 .f32 :=
  k0_pay16 (shift i x0 x1) (scores i x0 x1 k)
/-- A chunk's exponentials added to the running sum. -/
def chunkSum (i : grid0.Coords) (x0 : Vec F S1x1x128x256 .bf16) (x1 : Vec F S1x32768x128 .bf16) (k : ℕ) (a : FVec F S8x256 .f32) : FVec F S8x256 .f32 :=
  k0_pay42 a (expo i x0 x1 k) (k0_pay20 (expo i x0 x1 k) (k0_pay19 (expo i x0 x1 k) (k0_pay18 (expo i x0 x1 k) (k0_pay17 (shift i x0 x1) (scores i x0 x1 k)))))
/-- The running sum before chunk `k`. -/
def runSum (i : grid0.Coords) (x0 : Vec F S1x1x128x256 .bf16) (x1 : Vec F S1x32768x128 .bf16) : ℕ → FVec F S8x256 .f32
  | 0 => k0_pay41
  | k + 1 => chunkSum i x0 x1 k (runSum i x0 x1 k)
/-- The whole row's running sum. -/
def total (i : grid0.Coords) (x0 : Vec F S1x1x128x256 .bf16) (x1 : Vec F S1x32768x128 .bf16) : FVec F S8x256 .f32 :=
  runSum i x0 x1 (full i + 1)

/-! ## The weighted sum of the values -/

/-- The accumulator before chunk `k`. -/
def accum (i : grid0.Coords) (x0 : Vec F S1x1x128x256 .bf16) (x1 : Vec F S1x32768x128 .bf16) (x2 : Vec F S1x128x32768 .fp8e4m3) : ℕ → FVec F S128x256 .f32
  | 0 => k0_pay49
  | k + 1 => k0_pay50 (k0_pay44 (total i x0 x1)) (k0_pay46 (total i x0 x1)) k0_pay47 (expoStored i x0 x1 k) (accum i x0 x1 x2 k) (vChunk x2 k)
/-- The block's output rows, one per token and head, before the heads are laid side by side. -/
def rowsOut (i : grid0.Coords) (x0 : Vec F S1x1x128x256 .bf16) (x1 : Vec F S1x32768x128 .bf16) (x2 : Vec F S1x128x32768 .fp8e4m3) (x3 : Vec F S1x1x128 .f32) : FVec F S256x128 .f32 :=
  k0_pay52 (k0_pay45 (total i x0 x1)) (accum i x0 x1 x2 (full i + 1)) x3

/-- Head `h`'s columns of the output block. -/
abbrev headRect (o : ℕ) (inb : ∀ a : Fin 3, (![0, 0, o] : Fin 3 → ℕ) a + S1x16x128.size a ≤ S1x16x2048.size a) : Rect S1x16x2048 :=
  Rect.unit (s := S1x16x2048) ![0, 0, o] S1x16x128.size inb

/-- The sixteen heads' stores, last first. -/
def pieces (r : FVec F S256x128 .f32) (p0 : FVec F S1x16x128 .bf16) (p1 : FVec F S16x128 .bf16) : List (View.Piece (Elt F) S1x16x2048 .bf16) :=
  [⟨headRect 1920 inb_S1x16x2048_S1x16x128_0_0_1920, k0_pay2 r⟩,
   ⟨headRect 1792 inb_S1x16x2048_S1x16x128_0_0_1792, k0_pay1 (k0_pay68 r)⟩,
   ⟨headRect 1664 inb_S1x16x2048_S1x16x128_0_0_1664, k0_pay67 r⟩,
   ⟨headRect 1536 inb_S1x16x2048_S1x16x128_0_0_1536, k0_pay66 r⟩,
   ⟨headRect 1408 inb_S1x16x2048_S1x16x128_0_0_1408, k0_pay65 r⟩,
   ⟨headRect 1280 inb_S1x16x2048_S1x16x128_0_0_1280, k0_pay64 r⟩,
   ⟨headRect 1152 inb_S1x16x2048_S1x16x128_0_0_1152, k0_pay63 r⟩,
   ⟨headRect 1024 inb_S1x16x2048_S1x16x128_0_0_1024, k0_pay62 r⟩,
   ⟨headRect 896 inb_S1x16x2048_S1x16x128_0_0_896, k0_pay61 r⟩,
   ⟨headRect 768 inb_S1x16x2048_S1x16x128_0_0_768, k0_pay60 r⟩,
   ⟨headRect 640 inb_S1x16x2048_S1x16x128_0_0_640, k0_pay59 r⟩,
   ⟨headRect 512 inb_S1x16x2048_S1x16x128_0_0_512, k0_pay58 r⟩,
   ⟨headRect 384 inb_S1x16x2048_S1x16x128_0_0_384, k0_pay57 r⟩,
   ⟨headRect 256 inb_S1x16x2048_S1x16x128_0_0_256, k0_pay56 r⟩,
   ⟨headRect 128 inb_S1x16x2048_S1x16x128_0_0_128, k0_pay55 p1⟩,
   ⟨headRect 0 inb_S1x16x2048_S1x16x128_0_0_0, p0⟩]

/-- The output block the body leaves. -/
def outBlock (i : grid0.Coords) (x0 : Vec F S1x1x128x256 .bf16) (x1 : Vec F S1x32768x128 .bf16) (x2 : Vec F S1x128x32768 .fp8e4m3) (x3 : Vec F S1x1x128 .f32) : Vec F S1x16x2048 .bf16 :=
  View.canon (pieces (rowsOut i x0 x1 x2 x3)
    (k0_pay53 (k0_pay45 (total i x0 x1)) (accum i x0 x1 x2 (full i + 1)) x3)
    (k0_pay54 (k0_pay45 (total i x0 x1)) (accum i x0 x1 x2 (full i + 1)) x3))

/-- The sixteen stores tile the output block. -/
theorem pieces_cover (r : FVec F S256x128 .f32) (p0 : FVec F S1x16x128 .bf16) (p1 : FVec F S16x128 .bf16) (y : S1x16x2048.Idx) :
    ∃ pc ∈ pieces r p0 p1, y ∈ pc.1.set :=
  View.cover_of_tiled (pieces r p0 p1) S1x16x128.size (by rfl) y

end Cert.KernelIdeal.Attend
-- ==== Proof.BodyIdeal.lean ====
/- The attend kernel's body, run: from the four input blocks and scratch at anything it leaves the inputs and the
   scratch owned and the output block at `Attend.outBlock`. -/
module

public import proofs.«01_k».proof.Proof.DefsIdeal
public import Idealize.ShloMosaic.Lib.LoopRemainder

@[expose] public section

set_option maxRecDepth 16384

noncomputable section

namespace Cert.KernelIdeal.Attend

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

variable (c : Dev nD) (E : Set ℕ) (i : grid0.Coords) (arg2 : Memref sig .tc .vmem S1x1x128x256 .bf16) (harg2 : arg2.IsWhole) (arg3 : Memref sig .tc .vmem S1x32768x128 .bf16) (harg3 : arg3.IsWhole) (arg4 : Memref sig .tc .vmem S1x128x32768 .fp8e4m3) (harg4 : arg4.IsWhole) (arg5 : Memref sig .tc .vmem S1x1x128 .f32) (harg5 : arg5.IsWhole) (arg6 : Memref sig .tc .vmem S1x16x2048 .bf16) (harg6 : arg6.IsWhole) (arg7 : Memref sig .tc .vmem S32768x256 .f32) (harg7 : arg7.IsWhole) (arg8 : Memref sig .tc .vmem S128x256 .f32) (harg8 : arg8.IsWhole)
  (x0 : Vec F S1x1x128x256 .bf16) (x1 : Vec F S1x32768x128 .bf16) (x2 : Vec F S1x128x32768 .fp8e4m3) (x3 : Vec F S1x1x128 .f32)

/-- Before trip `k` of the score loop: the keys as they are, `k` chunks of scores stored, the maximum carried. -/
def inv1 (f1 : BufTy.Contents (Elt F) arg3.view.ty) (k : ℕ) (acc : FVec F S8x256 .f32) : sProp 𝕄 :=
  iprop((arg3.view.loc (c : Thread nD τ) ↦[arg3.view.set]{fullShare} f1)
      ∗ (∃ f, (arg7.view.loc (c : Thread nD τ) ↦[arg7.view.set]{fullShare} f) ∗ ⌜Chunks.Holds (Val := Elt F) arg7.view (score x0 x1) k f⌝)
      ∗ ⌜acc = runMax x0 x1 k⌝)

/-- One trip of the score loop. -/
theorem trip1 (f1 : BufTy.Contents (Elt F) arg3.view.ty) (hf1 : arg3.view.read (Elt F) f1 = x1) (k : Fin (k0_t1_loop i).trips) (acc : FVec F S8x256 .f32) :
    inv1 c arg3 arg7 x0 x1 f1 k.val acc ⊢ wp frame (wpE (defs₀ (F := F)) Variants.none (c : Thread nD τ) none) E (k0_t1_body (F := F) i arg2 harg2 arg3 harg3 arg4 harg4 arg5 harg5 arg6 harg6 arg7 harg7 arg8 harg8 x0 k acc) (inv1 c arg3 arg7 x0 x1 f1 (k.val + 1)) := by
  unfold inv1 k0_t1_body
  simp only [k0_part1_eq_skeleton, k0_part2_eq_skeleton, k0_part3_eq_skeleton, k0_part4_eq_skeleton]
  iintro ⟨H1, ⟨%f, H5, %hf⟩, %hacc⟩
  have hk : k.val < 32 := lt_trans (t1_lt i k) (full_lt i)
  have ek : ∀ inb, View.readAt (Elt F) arg3.view (Rect.unit (s := S1x32768x128) (k0_off1 i k) S1x1024x128.size inb).toLoadRect f1 = kChunk x1 k.val :=
    fun inb => by rw [load_kChunk _ _ hk _ (off1 i k), hf1]
  sl_exec
  sl_step
  isplitl [H1]; · iexact H1
  isplitl [H5]
  · iexists _; isplitl [H5]; · iexact H5
    ipureintro
    refine hf.store _ _ (off2 i k) _ (score_stored x0 x1 k.val).symm fun j h1 h2 => ⟨by omega, rfl⟩
  ipureintro
  subst hacc
  rfl

/-- Before trip `k` of the exponential loop: the first `k` chunks replaced by their exponentials, the sum carried. -/
def inv3 (k : ℕ) (acc : FVec F S8x256 .f32) : sProp 𝕄 :=
  iprop((∃ f, (arg7.view.loc (c : Thread nD τ) ↦[arg7.view.set]{fullShare} f)
        ∗ ⌜Chunks.Holds (Val := Elt F) arg7.view (fun j => if j < k then expoStored i x0 x1 j else scores i x0 x1 j) (full i + 1) f⌝)
      ∗ ⌜acc = runSum i x0 x1 k⌝)

/-- One trip of the exponential loop. -/
theorem trip3 (v17 : BitVec 32) (k : Fin (k0_t3_loop i).trips) (acc : FVec F S8x256 .f32) :
    inv3 c i arg7 x0 x1 k.val acc ⊢ wp frame (wpE (defs₀ (F := F)) Variants.none (c : Thread nD τ) none) E (k0_t3_body (F := F) i arg2 harg2 arg3 harg3 arg4 harg4 arg5 harg5 arg6 harg6 arg7 harg7 arg8 harg8 v17 (rowMax i x0 x1) k0_pay39 k acc) (inv3 c i arg7 x0 x1 (k.val + 1)) := by
  unfold inv3 k0_t3_body
  simp only [k0_part9_eq_skeleton, k0_part10_eq_skeleton, k0_part11_eq_skeleton, k0_part12_eq_skeleton]
  iintro ⟨⟨%f, H5, %hf⟩, %hacc⟩
  have hk : k.val < full i + 1 := t3_lt i k
  have ek : ∀ inb, View.readAt (Elt F) arg7.view (Rect.unit (s := S32768x256) (k0_off7 i k) S1024x256.size inb).toLoadRect f = scores i x0 x1 k.val :=
    fun inb => (hf.load _ hk inb (off7 i k)).trans (if_neg (lt_irrefl _))
  sl_exec
  sl_step
  isplitl [H5]
  · iexists _; isplitl [H5]; · iexact H5
    ipureintro
    refine hf.store _ _ (off7 i k) _ (if_pos (Nat.lt_succ_self _)) fun j h1 h2 => ⟨h1, ?_⟩
    by_cases h : j < k.val
    · rw [if_pos h, if_pos (by omega)]
    · rw [if_neg h, if_neg (by omega)]
  ipureintro
  subst hacc
  rfl

/-- Before trip `k` of the accumulating loop: the exponentials and the values as they are, the accumulator after `k` chunks. -/
def inv5 (f2 : BufTy.Contents (Elt F) arg4.view.ty) (k : ℕ) (_ : BitVec 32) : sProp 𝕄 :=
  iprop((arg4.view.loc (c : Thread nD τ) ↦[arg4.view.set]{fullShare} f2)
      ∗ (∃ f, (arg7.view.loc (c : Thread nD τ) ↦[arg7.view.set]{fullShare} f) ∗ ⌜Chunks.Holds (Val := Elt F) arg7.view (expoStored i x0 x1) (full i + 1) f⌝)
      ∗ (∃ f, (arg8.view.loc (c : Thread nD τ) ↦[arg8.view.set]{fullShare} f) ∗ ⌜arg8.view.read (Elt F) f = accum i x0 x1 x2 k⌝))

/-- One trip of the accumulating loop. -/
theorem trip5 (v17 : BitVec 32) (v360 : IVec S1x256 32) (f2 : BufTy.Contents (Elt F) arg4.view.ty) (hf2 : arg4.view.read (Elt F) f2 = x2) (k : Fin (k0_t5_loop i).trips) (acc : BitVec 32) :
    inv5 c i arg4 arg7 arg8 x0 x1 x2 f2 k.val acc ⊢ wp frame (wpE (defs₀ (F := F)) Variants.none (c : Thread nD τ) none) E (k0_t5_body (F := F) i arg2 harg2 arg3 harg3 arg4 harg4 arg5 harg5 arg6 harg6 arg7 harg7 arg8 harg8 v17 (k0_pay44 (total i x0 x1)) v360 (k0_pay46 (total i x0 x1)) k0_pay47 k acc)
      (inv5 c i arg4 arg7 arg8 x0 x1 x2 f2 (k.val + 1)) := by
  unfold inv5 k0_t5_body
  iintro ⟨H2, ⟨%f, H5, %hf⟩, ⟨%g, H6, %hg⟩⟩
  have hk : k.val < full i + 1 := t5_lt i k
  have hk' : k.val < 32 := lt_of_lt_of_le hk (full_lt i)
  have ek : ∀ inb, View.readAt (Elt F) arg7.view (Rect.unit (s := S32768x256) (k0_off9 i k) S1024x256.size inb).toLoadRect f = expoStored i x0 x1 k.val :=
    fun inb => hf.load _ hk inb (off9 i k)
  have ev : ∀ inb, View.readAt (Elt F) arg4.view (Rect.unit (s := S1x128x32768) (k0_off10 i k) S1x128x1024.size inb).toLoadRect f2 = vChunk x2 k.val :=
    fun inb => by rw [load_vChunk _ _ hk' _ (off10 i k), hf2]
  have ea : ∀ inb, View.readAt (Elt F) arg8.view (Rect.unit (s := S128x256) ![0, 0] S128x256.size inb).toLoadRect g = accum i x0 x1 x2 k.val :=
    fun inb => (View.readAt_full _ _ _).trans hg
  sl_exec
  sl_step
  isplitl [H2]; · iexact H2
  isplitl [H5]
  · iexists f; isplitl [H5]; · iexact H5
    ipureintro; exact hf
  iexists _; isplitl [H6]; · iexact H6
  ipureintro
  rw [View.read_writes_full]
  rfl

set_option maxHeartbeats 4000000 in
/-- The body: from the four input blocks, and the output block and the scratch at anything, it runs to the inputs as
    they were, the output at `outBlock` of them, the scratch at something. -/
theorem sound_kernel (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
        ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (outBlock i x0 x1 x2 x3)
            ∗ (∃ d, owns (c : Thread nD τ) arg7 fullShare d) ∗ (∃ d, owns (c : Thread nD τ) arg8 fullShare d)) -∗ K ⟨⟩))
      ⊢ wp frame (wpE (defs₀ (F := F)) Variants.none (c : Thread nD τ) none) E (cc0_attend i arg2 harg2 arg3 harg3 arg4 harg4 arg5 harg5 arg6 harg6 arg7 harg7 arg8 harg8) K := by
  simp only [cc0_attend_eq_skeleton]; unfold cc0_attend_skel
  simp only [k0_part17_eq_skeleton, k0_part18_eq_skeleton, k0_part19_eq_skeleton, k0_part20_eq_skeleton, k0_part21_eq_skeleton, k0_part22_eq_skeleton,
    k0_part23_eq_skeleton, k0_part24_eq_skeleton, k0_part25_eq_skeleton, k0_part26_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  have e0 : ∀ inb, View.readAt (Elt F) arg2.view (Rect.unit (s := S1x1x128x256) ![0, 0, 0, 0] S1x1x128x256.size inb).toLoadRect f0 = x0 :=
    fun inb => (View.readAt_full _ _ _).trans hf0
  have e1 : ∀ inb, View.readAt (Elt F) arg3.view (Rect.unit (s := S1x32768x128) (k0_off5 i) S1x1024x128.size inb).toLoadRect f1 = kChunk x1 (full i) :=
    fun inb => by rw [load_kChunk _ _ (full_lt i) _ (off5 i), hf1]
  have e3 : ∀ inb, View.readAt (Elt F) arg5.view (Rect.unit (s := S1x1x128) ![0, 0, 0] S1x1x128.size inb).toLoadRect f3 = x3 :=
    fun inb => (View.readAt_full _ _ _).trans hf3
  sl_exec
  -- the scores of the whole chunks
  sl_for (inv1 c arg3 arg7 x0 x1 f1) $$ [H1 H5]
  case region => exact trip1 c E i arg2 harg2 arg3 harg3 arg4 harg4 arg5 harg5 arg6 harg6 arg7 harg7 arg8 harg8 x0 x1 f1 hf1
  · unfold inv1
    isplitl [H1]; · iexact H1
    isplitl [H5]
    · iexists f5; isplitl [H5]; · iexact H5
      ipureintro; exact Chunks.holds_zero _ _ _
    ipureintro; rfl
  unfold inv1
  iintro %acc ⟨H1, ⟨%f, H5, %hf⟩, %hacc⟩
  have ht1 : Scf.trips (k0_t1_loop i).lb (k0_t1_loop i).ub (k0_t1_loop i).st = full i := t1_trips i
  rw [ht1] at hf hacc
  subst hacc
  sl_exec
  have hf' : Chunks.Holds (Val := Elt F) arg7.view (fun j => if j < 0 then expoStored i x0 x1 j else scores i x0 x1 j) (full i + 1)
      (arg7.view.writes (Elt F) f [⟨Rect.unit (k0_off6 i) S1024x256.size (k0_off6_inb i),
        k0_pay33 (BitVec.ofNat 32 ↑(i 1)) (sound_kernel.sl.r_1 i x0 x1) (sound_kernel.sl.v28 i) sound_kernel.sl.v35⟩]) := by
    refine hf.store _ _ (off6 i) _ ?_ fun j h1 h2 => ⟨by omega, ?_⟩
    · rw [if_neg (Nat.not_lt_zero _), scores, if_neg (lt_irrefl _)]
      rfl
    · rw [if_neg (Nat.not_lt_zero _), scores, if_pos (by omega), score_stored]
  -- the exponentials
  sl_for (inv3 c i arg7 x0 x1) $$ [H5]
  case region => exact trip3 c E i arg2 harg2 arg3 harg3 arg4 harg4 arg5 harg5 arg6 harg6 arg7 harg7 arg8 harg8 x0 x1 _
  · unfold inv3
    isplitl [H5]
    · iexists _; isplitl [H5]; · iexact H5
      ipureintro; exact hf'
    ipureintro; rfl
  unfold inv3
  clear hf' hf f
  iintro %acc ⟨⟨%f, H5, %hf⟩, %hacc⟩
  have ht3 : Scf.trips (k0_t3_loop i).lb (k0_t3_loop i).ub (k0_t3_loop i).st = full i + 1 := t3_trips i
  rw [ht3] at hf hacc
  have hacc : acc = total i x0 x1 := hacc
  subst hacc
  have hf' : Chunks.Holds (Val := Elt F) arg7.view (expoStored i x0 x1) (full i + 1) f :=
    Chunks.Holds.congr _ hf fun j hj => (if_pos hj).symm
  sl_exec
  -- the accumulation
  sl_for (inv5 c i arg4 arg7 arg8 x0 x1 x2 f2) $$ [H2 H5 H6]
  case region => exact trip5 c E i arg2 harg2 arg3 harg3 arg4 harg4 arg5 harg5 arg6 harg6 arg7 harg7 arg8 harg8 x0 x1 x2 _ _ f2 hf2
  · unfold inv5
    isplitl [H2]; · iexact H2
    isplitl [H5]
    · iexists f; isplitl [H5]; · iexact H5
      ipureintro; exact hf'
    iexists _; isplitl [H6]; · iexact H6
    ipureintro
    unfold sound_kernel.sl.H6_1
    rw [View.read_writes_full]
    rfl
  unfold inv5
  clear hf' hf f
  iintro %acc ⟨H2, ⟨%f, H5, %hf⟩, ⟨%g, H6, %hg⟩⟩
  have ht5 : Scf.trips (k0_t5_loop i).lb (k0_t5_loop i).ub (k0_t5_loop i).st = full i + 1 := t5_trips i
  rw [ht5] at hg
  have ea : ∀ inb, View.readAt (Elt F) arg8.view (Rect.unit (s := S128x256) ![0, 0] S128x256.size inb).toLoadRect g = accum i x0 x1 x2 (full i + 1) :=
    fun inb => (View.readAt_full _ _ _).trans hg
  sl_exec
  sl_step
  iapply Hk
  isplitl [H0]; · iexists f0; isplitl []; (ipureintro; exact hf0); iexact H0
  isplitl [H1]; · iexists f1; isplitl []; (ipureintro; exact hf1); iexact H1
  isplitl [H2]; · iexists f2; isplitl []; (ipureintro; exact hf2); iexact H2
  isplitl [H3]; · iexists f3; isplitl []; (ipureintro; exact hf3); iexact H3
  isplitl [H4]
  · iexists _; isplitl []; swap; iexact H4
    ipureintro
    exact View.read_writes_eq_canon _ _ _ (pieces_cover _ _ _)
  isplitl [H5]; · iexists _, f; isplitl []; (ipureintro; rfl); iexact H5
  iexists _, _; isplitl []; swap; iexact H6
  ipureintro; rfl

end Cert.KernelIdeal.Attend

end
-- ==== Proof.RunIdeal.lean ====
/- The run of the idealized kernel's program at any values: the proof data of its one pipeline, the body obligation from
   the body's triple (BodyIdeal.lean), the run to the library's `FramePost`, and the frame claim. -/
module

public import proofs.«01_k».proof.Proof.BodyIdeal
public import proofs.«01_k».proof.Proof.Gen.KernelIdeal.Frame
public import Idealize.ShloMosaic.Lib.Pipeline.FrameBody
public import Idealize.ShloMosaic.Lib.Claim

@[expose] public section

set_option maxRecDepth 16384

noncomputable section

namespace Cert.KernelIdeal.Attend

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The pipeline's proof data -/

/-- The proof data of the one pipeline on core `c`: the arrays as the region finds them (`V`); after the body at
    point `t` each input's buffer at its block and each output's at `outBlock` of the input blocks; the invariant the
    class's (Lib/Pipeline/Frame.lean `ΦA`: the scratch buffers at something and the generator register); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlock (grid0.coords t) (iblk m c 0 t) (iblk m c 1 t) (iblk m c 2 t) (iblk m c 3 t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
/-- After a point the keys' block is unchanged. -/
theorem after0_1 (c : Dev nD) (t : Fin cfg0.N) : (dats m 0 c).after 1 t = iblk m c 1 t := by dsimp only [dats]
/-- After a point the values' block is unchanged. -/
theorem after0_2 (c : Dev nD) (t : Fin cfg0.N) : (dats m 0 c).after 2 t = iblk m c 2 t := by dsimp only [dats]
/-- After a point the scales' block is unchanged. -/
theorem after0_3 (c : Dev nD) (t : Fin cfg0.N) : (dats m 0 c).after 3 t = iblk m c 3 t := by dsimp only [dats]
/-- After a point the output block is the body's. -/
theorem after0_4 (c : Dev nD) (t : Fin cfg0.N) : (dats m 0 c).after 4 t = outBlock (grid0.coords t) (iblk m c 0 t) (iblk m c 1 t) (iblk m c 2 t) (iblk m c 3 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- Before a point the keys' block is the array's. -/
theorem before0_1 (c : Dev nD) (t : Fin cfg0.N) (d) : (dats m 0 c).before 1 t d = iblk m c 1 t :=
  before0_1_of m (dats m 0 c) (A_eq m c 1) (after0_1 m c) t d
/-- Before a point the values' block is the array's. -/
theorem before0_2 (c : Dev nD) (t : Fin cfg0.N) (d) : (dats m 0 c).before 2 t d = iblk m c 2 t :=
  before0_2_of m (dats m 0 c) (A_eq m c 2) (after0_2 m c) t d
/-- Before a point the scales' block is the array's. -/
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' memrefs hold their blocks (`before0_W`), so `sound_kernel` applies; the invariant opens
    to the two scratch buffers, which the body returns at something, and the core's `owes` passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = iprop((Pipeline.scopedRest spec0 c : sProp 𝕄) ∗ ∃ r, prngReg c r) from rfl, scopedRest0_eq c]
  iintro ⟨⟨⟨⟨%f5, H5⟩, ⟨%f6, H6⟩⟩, Hr⟩, Ho, ⟨%d0, H0⟩, ⟨%d1, H1⟩, ⟨%d2, H2⟩, ⟨%d3, H3⟩, ⟨%d4, H4⟩⟩
  iapply (sound_kernel c Set.univ _ _ _ _ _ _ _ _ _ _ _ _ _ _ _ (iblk m c 0 t) (iblk m c 1 t) (iblk m c 2 t) (iblk m c 3 t) _)
  simp only [owns_whole]
  isplitl [H0]; · iexact H0
  isplitl [H1]; · iexact H1
  isplitl [H2]; · iexact H2
  isplitl [H3]; · iexact H3
  isplitl [H4]; · iexists _; iexact H4
  isplitl [H5]; · iexists f5; iexact H5
  isplitl [H6]; · iexists f6; iexact H6
  iintro ⟨H0, H1, H2, H3, H4, ⟨%g5, H5⟩, ⟨%g6, H6⟩⟩
  isplitl [H5 H6 Hr]
  · isplitl [H5 H6]
    · isplitl [H5]; · iexists g5; iexact H5
      iexists g6; iexact H6
    iexact Hr
  isplitl [Ho]; · iexact Ho
  isplitl [H0]; · iexact H0
  isplitl [H1]; · iexact H1
  isplitl [H2]; · iexact H2
  isplitl [H3]; · iexact H3
  iexact H4

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- THE FRAME: `Cert.quiescent_KernelIdeal`'s statement (Defs.lean) at any `F` -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Attend

end
-- ==== Proof.Row.lean ====
/- One query row over the extended reals: the largest visible score, the softmax weights and their sum, the power-of-two exponent of
   the quantized weights, and the row's output. Nothing here mentions a program. -/
module

public import Mathlib.Analysis.SpecialFunctions.Log.Basic
public import Mathlib.Data.EReal.Inv
public import Mathlib.Tactic.NormNum
public import Mathlib.Tactic.Linarith
public import Mathlib.Tactic.Positivity
public import Mathlib.Tactic.Ring

@[expose] public section

noncomputable section

namespace Cert.Row

open Finset

/-! ## The largest visible score -/

/-- The largest of the scores `0 … t`. -/
def top (t : ℕ) (s : ℕ → EReal) : EReal := (range (t + 1)).sup s

/-- Every visible score is at most the largest. -/
theorem le_top {t : ℕ} {s : ℕ → EReal} {j : ℕ} (h : j ≤ t) : s j ≤ top t s :=
  le_sup (f := s) (by simp; omega)
/-- The largest is one of them. -/
theorem top_mem (t : ℕ) (s : ℕ → EReal) : ∃ j ≤ t, top t s = s j := by
  obtain ⟨j, hj, h⟩ := exists_mem_eq_sup (range (t + 1)) ⟨0, by simp⟩ s
  exact ⟨j, by simp at hj; omega, h⟩
/-- Scaling the scores scales the largest. -/
theorem top_mul (t : ℕ) (s : ℕ → EReal) {σ : ℝ} (hσ : 0 ≤ σ) : top t (fun j => s j * (σ : EReal)) = top t s * (σ : EReal) := by
  refine le_antisymm (Finset.sup_le fun j hj => ?_) ?_
  · exact mul_le_mul_of_nonneg_right (le_top (by simp at hj; omega)) (EReal.coe_nonneg.2 hσ)
  · obtain ⟨j, hj, e⟩ := top_mem t s
    rw [e]
    exact le_top (s := fun j => s j * (σ : EReal)) hj

/-- The scores with the keys after `t` at minus infinity. -/
def mask (t : ℕ) (s : ℕ → EReal) (j : ℕ) : EReal := if j ≤ t then s j else ⊥

/-- The maximum of the masked scores, over any range that has all visible ones. -/
theorem mask_sup {t N : ℕ} (h : t < N) (s : ℕ → EReal) : (range N).sup (mask t s) = top t s := by
  refine le_antisymm (Finset.sup_le fun j _ => ?_) ?_
  · unfold mask
    split
    · exact le_top ‹_›
    · exact bot_le
  · obtain ⟨j, hj, e⟩ := top_mem t s
    refine le_trans (le_of_eq ?_) (Finset.le_sup (f := mask t s) (mem_range.2 (lt_of_le_of_lt hj h)))
    rw [e, mask, if_pos hj]
/-- A masked score is at most the largest. -/
theorem mask_le_top (t : ℕ) (s : ℕ → EReal) (j : ℕ) : mask t s j ≤ top t s := by
  unfold mask
  split
  · exact le_top ‹_›
  · exact bot_le

/-! ## The weights and their sum -/

open Classical in
/-- The exponential of the scaled difference of two extended reals, where both are real; zero otherwise. -/
def power (σ : ℝ) (x y : EReal) : ℝ := if (x ≠ ⊥ ∧ x ≠ ⊤) ∧ (y ≠ ⊥ ∧ y ≠ ⊤) then Real.exp ((x.toReal - y.toReal) * σ) else 0

/-- Of two real numbers it is the exponential. -/
theorem power_coe (σ a b : ℝ) : power σ (a : EReal) (b : EReal) = Real.exp ((a - b) * σ) := by
  rw [power, if_pos ⟨⟨EReal.coe_ne_bot a, EReal.coe_ne_top a⟩, ⟨EReal.coe_ne_bot b, EReal.coe_ne_top b⟩⟩, EReal.toReal_coe, EReal.toReal_coe]
/-- From minus infinity it is zero. -/
theorem power_bot (σ : ℝ) (y : EReal) : power σ ⊥ y = 0 := if_neg fun h => h.1.1 rfl
/-- From plus infinity it is zero. -/
theorem power_top (σ : ℝ) (y : EReal) : power σ ⊤ y = 0 := if_neg fun h => h.1.2 rfl
/-- Against minus infinity it is zero. -/
theorem power_to_bot (σ : ℝ) (x : EReal) : power σ x ⊥ = 0 := if_neg fun h => h.2.1 rfl
/-- Against plus infinity it is zero. -/
theorem power_to_top (σ : ℝ) (x : EReal) : power σ x ⊤ = 0 := if_neg fun h => h.2.2 rfl

/-- The softmax numerator of key `j`. -/
def weight (σ : ℝ) (t : ℕ) (s : ℕ → EReal) (j : ℕ) : ℝ := power σ (mask t s j) (top t s)
/-- The softmax denominator. -/
def mass (σ : ℝ) (t : ℕ) (s : ℕ → EReal) : ℝ := ∑ j ∈ range (t + 1), weight σ t s j

variable {σ : ℝ} {t : ℕ} {s : ℕ → EReal}

/-- A weight is not negative. -/
theorem weight_nonneg (j : ℕ) : 0 ≤ weight σ t s j := by
  unfold weight power; split
  · exact (Real.exp_pos _).le
  · exact le_rfl
/-- A weight is at most one. -/
theorem weight_le_one (hσ : 0 ≤ σ) (j : ℕ) : weight σ t s j ≤ 1 := by
  unfold weight power; split
  next h =>
    rw [Real.exp_le_one_iff]
    exact mul_nonpos_of_nonpos_of_nonneg (by linarith [EReal.toReal_le_toReal (mask_le_top t s j) h.1.1 h.2.2]) hσ
  · exact zero_le_one
/-- A key after the token has no weight. -/
theorem weight_of_lt {j : ℕ} (h : t < j) : weight σ t s j = 0 := by
  rw [weight, mask, if_neg (by omega), power_bot]

/-- The sum over any range that has all visible keys is the denominator. -/
theorem sum_weight {N : ℕ} (h : t < N) : ∑ j ∈ range N, weight σ t s j = mass σ t s := by
  unfold mass
  refine (Finset.sum_subset (range_subset_range.2 h) fun j _ hj => ?_).symm
  exact weight_of_lt (by simp at hj; omega)

/-- The denominator is zero, when the largest score is infinite, or at least one. -/
theorem mass_cases (σ : ℝ) (t : ℕ) (s : ℕ → EReal) : mass σ t s = 0 ∨ 1 ≤ mass σ t s := by
  by_cases h : top t s ≠ ⊥ ∧ top t s ≠ ⊤
  · right
    obtain ⟨j, hj, e⟩ := top_mem t s
    have : weight σ t s j = 1 := by
      rw [weight, mask, if_pos hj, ← e, power, if_pos ⟨h, h⟩, sub_self, zero_mul, Real.exp_zero]
    rw [← this]
    exact Finset.single_le_sum (f := weight σ t s) (fun i _ => weight_nonneg i) (by simp; omega)
  · left
    exact Finset.sum_eq_zero fun j _ => if_neg fun h' => h h'.2
/-- The denominator is at most the number of keys. -/
theorem mass_le (hσ : 0 ≤ σ) (ht : t < 32768) : mass σ t s ≤ 32768 := by
  have : mass σ t s ≤ ∑ _j ∈ range (t + 1), (1 : ℝ) := Finset.sum_le_sum fun j _ => weight_le_one hσ j
  rw [sum_const, card_range, nsmul_eq_mul, mul_one] at this
  refine this.trans ?_
  have : ((t + 1 : ℕ) : ℝ) ≤ ((32768 : ℕ) : ℝ) := by exact_mod_cast ht
  simpa using this
/-- A row without a denominator has no weights. -/
theorem weight_of_mass (h : mass σ t s = 0) (j : ℕ) : weight σ t s j = 0 := by
  by_cases hj : j ≤ t
  · exact (Finset.sum_eq_zero_iff_of_nonneg fun i _ => weight_nonneg i).1 h j (by simp; omega)
  · exact weight_of_lt (by omega)

/-! ## The exponent -/

/-- The float nearest to `1/448`. -/
def unit : ℝ := 9586981 / 4294967296

/-- The largest weight of the row, `1 / mass`, in units of `448`. -/
def peak (σ : ℝ) (t : ℕ) (s : ℕ → EReal) : ℝ := (mass σ t s)⁻¹ * unit

/-- The largest weight is positive. -/
theorem peak_pos (hm : 1 ≤ mass σ t s) : 0 < peak σ t s := mul_pos (inv_pos.2 (by linarith)) (by unfold unit; norm_num)
/-- In units of 448 it is below one. -/
theorem peak_lt (hm : 1 ≤ mass σ t s) : peak σ t s < 1 := by
  have h : (mass σ t s)⁻¹ ≤ 1 := inv_le_one_of_one_le₀ hm
  have : peak σ t s ≤ 1 * unit := mul_le_mul_of_nonneg_right h (by unfold unit; norm_num)
  refine lt_of_le_of_lt this ?_
  unfold unit; norm_num
/-- It is not below the weight of a row of equal scores. -/
theorem le_peak (hm : 1 ≤ mass σ t s) (hσ : 0 ≤ σ) (ht : t < 32768) : (2 : ℝ) ^ (-24 : ℤ) ≤ peak σ t s := by
  have h : (32768 : ℝ)⁻¹ ≤ (mass σ t s)⁻¹ := inv_anti₀ (by linarith) (mass_le hσ ht)
  have : (32768 : ℝ)⁻¹ * unit ≤ peak σ t s := mul_le_mul_of_nonneg_right h (by unfold unit; norm_num)
  refine le_trans ?_ this
  unfold unit; norm_num

/-- The exponent the row's weights are scaled by: the smallest power of two above `peak`. -/
def expnt (σ : ℝ) (t : ℕ) (s : ℕ → EReal) : ℤ := ⌊Real.log (peak σ t s) / Real.log 2⌋ + 1

/-- A power of two is reached by `peak` exactly below the exponent. -/
theorem zpow_le_peak (hm : 1 ≤ mass σ t s) (z : ℤ) : (2 : ℝ) ^ z ≤ peak σ t s ↔ z < expnt σ t s := by
  have h2 : 0 < Real.log 2 := Real.log_pos (by norm_num)
  unfold expnt
  rw [Int.lt_add_one_iff, Int.le_floor, le_div_iff₀ h2, ← Real.log_zpow, Real.log_le_log_iff (by positivity) (peak_pos hm)]

/-- The exponent is at most zero. -/
theorem expnt_le (hm : 1 ≤ mass σ t s) : expnt σ t s ≤ 0 := by
  by_contra h
  have := (zpow_le_peak hm 0).2 (by omega)
  rw [zpow_zero] at this
  exact absurd this (not_le.2 (peak_lt hm))
/-- The exponent is at least -23. -/
theorem le_expnt (hm : 1 ≤ mass σ t s) (hσ : 0 ≤ σ) (ht : t < 32768) : -23 ≤ expnt σ t s := by
  have := (zpow_le_peak hm (-24)).1 (le_peak hm hσ ht)
  omega

/-! ## The quantized weights and the output -/

/-- The quantized weight of key `j`, before its rounding to fp8: scaled by the row's power of two and clipped. -/
def code (σ : ℝ) (t : ℕ) (s : ℕ → EReal) (j : ℕ) : ℝ :=
  min 448 (max (-448) (weight σ t s j / mass σ t s * (2 : ℝ) ^ (-expnt σ t s)))

/-- A key without weight has the code zero. -/
theorem code_of_weight {j : ℕ} (h : weight σ t s j = 0) : code σ t s j = 0 := by
  rw [code, h]; norm_num
/-- So has a key after the token. -/
theorem code_of_lt {j : ℕ} (h : t < j) : code σ t s j = 0 := code_of_weight (weight_of_lt h)

/-- The row's output in one column: the values weighted by the codes, scaled back, times the column's scale. -/
def out (σ : ℝ) (t : ℕ) (s : ℕ → EReal) (v : ℕ → EReal) (vs : EReal) : EReal :=
  (∑ j ∈ range 32768, (code σ t s j : EReal) * v j) * (((2 : ℝ) ^ expnt σ t s : ℝ) : EReal) * vs

/-- A row without a denominator has the output zero. -/
theorem out_of_mass (h : mass σ t s = 0) (v : ℕ → EReal) (vs : EReal) : out σ t s v vs = 0 := by
  unfold out
  rw [Finset.sum_eq_zero fun j _ => by rw [code_of_weight (weight_of_mass h j), EReal.coe_zero, zero_mul], zero_mul, zero_mul]

/-- Keys after the last visible one contribute nothing. -/
theorem sum_code {N : ℕ} (h : t < N) (hN : N ≤ 32768) (v : ℕ → EReal) :
    ∑ j ∈ range N, v j * (code σ t s j : EReal) = ∑ j ∈ range 32768, (code σ t s j : EReal) * v j := by
  rw [Finset.sum_congr rfl fun j _ => mul_comm (v j) _]
  refine Finset.sum_subset (range_subset_range.2 hN) fun j _ hj => ?_
  rw [code_of_lt (by simp at hj; omega), EReal.coe_zero, zero_mul]

/-! ## Regrouping sums and maxima -/

/-- The running fold of `n + 1` values. -/
def fold {α : Type} (op : α → α → α) (f : ℕ → α) : ℕ → α
  | 0 => f 0
  | n + 1 => op (fold op f n) (f (n + 1))

/-- A running sum is the sum. -/
theorem fold_add (f : ℕ → EReal) (n : ℕ) : fold (· + ·) f n = ∑ j ∈ range (n + 1), f j := by
  induction n with
  | zero => simp [fold]
  | succ n ih => rw [fold, ih, Finset.sum_range_succ _ (n + 1)]
/-- A running maximum is the maximum. -/
theorem fold_max (f : ℕ → EReal) (n : ℕ) : fold max f n = (range (n + 1)).sup f := by
  induction n with
  | zero => simp [fold]
  | succ n ih => rw [fold, ih, Finset.range_add_one (n := n + 1), Finset.sup_insert, max_comm]

/-- Eight interleaved sums make one. -/
theorem sum_eight (f : ℕ → EReal) (n : ℕ) : ∑ r : Fin 8, ∑ g ∈ range n, f (8 * g + r.val) = ∑ j ∈ range (8 * n), f j := by
  induction n with
  | zero => simp
  | succ n ih =>
    rw [show 8 * (n + 1) = 8 * n + 8 by ring, Finset.sum_range_add, ← ih, Finset.sum_range, ← Finset.sum_add_distrib]
    exact Finset.sum_congr rfl fun r _ => Finset.sum_range_succ _ _
/-- Eight interleaved maxima make one. -/
theorem sup_eight (f : ℕ → EReal) (n : ℕ) :
    (Finset.univ : Finset (Fin 8)).sup (fun r => (range n).sup fun g => f (8 * g + r.val)) = (range (8 * n)).sup f := by
  refine le_antisymm (Finset.sup_le fun r _ => Finset.sup_le fun g hg => ?_) (Finset.sup_le fun j hj => ?_)
  · exact Finset.le_sup (f := f) (mem_range.2 (by have := mem_range.1 hg; have := r.isLt; omega))
  · have hj' := mem_range.1 hj
    have e : f j = (fun g => f (8 * g + (⟨j % 8, Nat.mod_lt _ (by norm_num)⟩ : Fin 8).val)) (j / 8) :=
      congrArg f (by show j = 8 * (j / 8) + j % 8; omega)
    rw [e]
    refine le_trans (Finset.le_sup (s := range n) (f := fun g => f (8 * g + (⟨j % 8, Nat.mod_lt _ (by norm_num)⟩ : Fin 8).val)) (mem_range.2 (by omega))) ?_
    exact Finset.le_sup (f := fun r : Fin 8 => (range n).sup fun g => f (8 * g + r.val)) (Finset.mem_univ _)

/-- Real numbers summed as extended reals. -/
theorem coe_sum {ι : Type} (S : Finset ι) (f : ι → ℝ) : ∑ j ∈ S, ((f j : ℝ) : EReal) = ((∑ j ∈ S, f j : ℝ) : EReal) := by
  classical
  induction S using Finset.induction_on with
  | empty => simp
  | insert a S ha ih => rw [Finset.sum_insert ha, Finset.sum_insert ha, ih, EReal.coe_add]

/-- Clipping a real number as an extended real. -/
theorem clip_coe (x : ℝ) : min ((448 : ℝ) : EReal) (max ((-448 : ℝ) : EReal) (x : EReal)) = ((min 448 (max (-448) x) : ℝ) : EReal) := by
  rw [EReal.coe_strictMono.monotone.map_min, EReal.coe_strictMono.monotone.map_max]

/-- Zero clipped is zero. -/
theorem clip_zero : min ((448 : ℝ) : EReal) (max ((-448 : ℝ) : EReal) 0) = 0 := by
  rw [← EReal.coe_zero, clip_coe]
  norm_num

end Cert.Row

end
-- ==== Proof.Consts.lean ====
/- The float constants and the powers of two written as bit patterns, as real numbers; and the words of the exponent. -/
module

public import proofs.«01_k».proof.Proof.Row
public import Idealize.ShloMosaic.Lib.Pointwise
public import Idealize.ShloMosaic.Lib.WordCmp

@[expose] public section

set_option maxRecDepth 16384

noncomputable section

namespace Cert.Consts

open Idealize.ShloMosaic

/-- The pattern of minus infinity. -/
theorem ofBits_bot : Ideal.ofBits .f32 0xFF800000#32 = ⊥ := by simp [Ideal.ofBits, Ideal.ieee]
/-- The pattern of the reciprocal of 448. -/
theorem ofBits_unit : Ideal.ofBits .f32 0x3B124925#32 = ((Row.unit : ℝ) : EReal) := by
  simp [Ideal.ofBits, Ideal.ieee, Row.unit]
  norm_num
  rw [← EReal.coe_mul]; norm_num
/-- The pattern of 448. -/
theorem ofBits_448 : Ideal.ofBits .f32 0x43E00000#32 = ((448 : ℝ) : EReal) := by
  simp [Ideal.ofBits, Ideal.ieee]
  norm_num
  rw [← EReal.coe_mul]; norm_num
/-- The pattern of -448. -/
theorem ofBits_neg448 : Ideal.ofBits .f32 0xC3E00000#32 = ((-448 : ℝ) : EReal) := by
  simp [Ideal.ofBits, Ideal.ieee]
  norm_num
  rw [← EReal.coe_mul]; norm_num

/-- The fields of the pattern that holds `n` in its exponent field. -/
theorem fields : ∀ n : Fin 256,
    ((BitVec.ofNat 32 n.val <<< 23#32).extractLsb' 31 1 == 1#1) = false ∧ ((BitVec.ofNat 32 n.val <<< 23#32).extractLsb' 23 8).toNat = n.val
      ∧ ((BitVec.ofNat 32 n.val <<< 23#32).extractLsb' 0 23).toNat = 0 := by
  decide +kernel
/-- `n` in the exponent field is the power of two of `n - 127`. -/
theorem ofBits_pow (n : ℕ) (h0 : 0 < n) (h1 : n < 255) :
    Ideal.ofBits .f32 (IntOp.shli .vector (BitVec.ofNat 32 n) 23#32) = (((2 : ℝ) ^ ((n : ℤ) - 127) : ℝ) : EReal) := by
  obtain ⟨a, b, c⟩ := fields ⟨n, by omega⟩
  have e : IntOp.shli .vector (BitVec.ofNat 32 n) 23#32 = BitVec.ofNat 32 n <<< 23#32 := rfl
  rw [e]
  simp only [Ideal.ofBits, Ideal.ieee]
  simp only [show 8 + 23 = 31 from rfl] at *
  rw [a, b, c, if_neg (by norm_num; omega), if_neg (by omega)]
  norm_num
  have : ((n : ℤ) - 127 : ℤ) = 23 + ((n : ℤ) - 127 - 23) := by ring
  rw [this, zpow_add₀ (by norm_num)]
  norm_num
/-- All ones in the exponent field is infinity. -/
theorem ofBits_top : Ideal.ofBits .f32 (IntOp.shli .vector (BitVec.ofNat 32 255) 23#32) = ⊤ := by
  obtain ⟨a, b, c⟩ := fields ⟨255, by omega⟩
  have e : IntOp.shli .vector (BitVec.ofNat 32 255) 23#32 = BitVec.ofNat 32 255 <<< 23#32 := rfl
  rw [e]
  simp only [Ideal.ofBits, Ideal.ieee]
  simp only [show 8 + 23 = 31 from rfl] at *
  rw [a, b, c]
  norm_num

/-- The exponent's word. -/
def word (e : ℤ) : BitVec 32 := BitVec.ofInt 32 e

/-- The words the kernel makes of an exponent, for the exponents a row can have. -/
theorem word_ops : ∀ n : Fin 24, IntOp.addi (word (-(n.val : ℤ))) 127#32 = BitVec.ofNat 32 (127 - n.val)
    ∧ IntOp.addi (IntOp.subi 0#32 (word (-(n.val : ℤ)))) 127#32 = BitVec.ofNat 32 (127 + n.val)
    ∧ IntOp.subi (BitVec.ofNat 32 (126 - n.val)) 126#32 = word (-(n.val : ℤ)) := by decide +kernel

/-- The threshold's word. -/
theorem step_word : ∀ n : Fin 255, IntOp.addi (IntOp.subi (BitVec.ofNat 32 n.val) 126#32) 127#32 = BitVec.ofNat 32 (n.val + 1) := by decide +kernel

/-- Adding up ones counts them. -/
theorem fold_count {n : ℕ} (p : ℕ → Prop) [DecidablePred p] :
    Finset.fold IntOp.addi (0#32) (fun x : Fin n => if p x.val then 1#32 else 0#32) Finset.univ
      = BitVec.ofNat 32 ((Finset.range n).filter p).card := by
  have key : ∀ S : Finset (Fin n), Finset.fold IntOp.addi (0#32) (fun x : Fin n => if p x.val then 1#32 else 0#32) S
      = BitVec.ofNat 32 (S.filter fun x => p x.val).card := by
    intro S
    induction S using Finset.induction_on with
    | empty => rfl
    | insert a S ha ih =>
      rw [Finset.fold_insert ha, ih, Finset.filter_insert]
      split
      · rw [Finset.card_insert_of_notMem (by simp [ha])]
        show 1#32 + _ = _
        rw [BitVec.ofNat_add, BitVec.add_comm]
      · show 0#32 + _ = _
        rw [BitVec.zero_add]
  rw [key]
  refine congrArg _ ?_
  refine Finset.card_bij (fun x _ => x.val) ?_ ?_ ?_
  · intro a ha
    simp only [Finset.mem_filter, Finset.mem_univ, true_and] at ha
    simp [ha, a.isLt]
  · intro a _ b _ h
    exact Fin.ext h
  · intro b hb
    simp only [Finset.mem_filter, Finset.mem_range] at hb
    exact ⟨⟨b, hb.1⟩, by simp [hb.2], rfl⟩
end Cert.Consts

end
-- ==== Proof.TopIdeal.lean ====
/- The attend kernel's scores and their maximum at an index, over the extended reals. -/
module

public import proofs.«01_k».proof.Proof.DefsIdeal
public import proofs.«01_k».proof.Proof.Consts

@[expose] public section

set_option maxRecDepth 16384

noncomputable section

namespace Cert.KernelIdeal.Attend

open Idealize.ShloMosaic Cert.KernelIdeal Cert.KernelIdeal.Gen

/-- The token of column `c` of block `i`: the columns are sixteen heads of sixteen tokens. -/
def token (i : grid0.Coords) (c : Fin 256) : ℕ := 16 * (i 1).val + c.val % 16

/-- Key `j`'s component `d`. -/
def keyAt (x1 : Vec Ideal S1x32768x128 .bf16) (j : ℕ) (d : Fin 128) : EReal := x1 (ix3 0 ⟨j % 32768, Nat.mod_lt _ (by decide)⟩ d)
/-- Value `j`'s component `d`. -/
def valueAt (x2 : Vec Ideal S1x128x32768 .fp8e4m3) (d : Fin 128) (j : ℕ) : EReal := x2 (ix3 0 d ⟨j % 32768, Nat.mod_lt _ (by decide)⟩)

/-- A chunk of the keys holds the keys from its first on. -/
theorem kChunk_at (x1 : Vec Ideal S1x32768x128 .bf16) (k : ℕ) (r : Fin 1024) (d : Fin 128) :
    kChunk x1 k (ix3 0 r d) = keyAt x1 (1024 * k + r.val) d := by
  refine congrArg x1 (funext fun a => ?_)
  match a with
  | ⟨0, _⟩ => rfl
  | ⟨1, _⟩ => rfl
  | ⟨2, _⟩ => rfl
/-- A chunk of the values likewise. -/
theorem vChunk_at (x2 : Vec Ideal S1x128x32768 .fp8e4m3) (k : ℕ) (d : Fin 128) (r : Fin 1024) :
    vChunk x2 k (ix3 0 d r) = valueAt x2 d (1024 * k + r.val) := by
  refine congrArg x2 (funext fun a => ?_)
  match a with
  | ⟨0, _⟩ => rfl
  | ⟨1, _⟩ => rfl
  | ⟨2, _⟩ => rfl

/-- `s j` is the score of key `j` against column `c`. -/
def IsScore (x0 : Vec Ideal S1x1x128x256 .bf16) (x1 : Vec Ideal S1x32768x128 .bf16) (c : Fin 256) (s : ℕ → EReal) : Prop :=
  ∀ j, ∑ d : Fin 128, keyAt x1 j d * x0 (ix4 0 0 d c) = s j

/-- A chunk's unmasked scores. -/
theorem score_at (x0 : Vec Ideal S1x1x128x256 .bf16) (x1 : Vec Ideal S1x32768x128 .bf16) (k : ℕ) (r : Fin 1024) (c : Fin 256) :
    score x0 x1 k (ix2 r c) = ∑ d : Fin 128, keyAt x1 (1024 * k + r.val) d * x0 (ix4 0 0 d c) := by
  unfold score
  pointwise [k0_pay3, k0_pay27]
  simp only [kChunk_at]

/-- The running maximum takes in a chunk's 128 slices. -/
theorem chunkMax_at (x0 : Vec Ideal S1x1x128x256 .bf16) (x1 : Vec Ideal S1x32768x128 .bf16) (k : ℕ) (a : FVec Ideal S8x256 .f32)
    (r : Fin 8) (c : Fin 256) (f : ℕ → EReal) (hf : ∀ n (h : n < 1024), score x0 x1 k (ix2 ⟨n, h⟩ c) = f n) :
    chunkMax x0 x1 k a (ix2 r c) = max (a (ix2 r c)) ((Finset.range 128).sup fun g => f (8 * g + r.val)) := by
  unfold chunkMax k0_pay5
  unfold score at hf ⊢
  generalize k0_pay3 (k0_pay27 x0) (kChunk x1 k) = b at hf ⊢
  pointwise [k0_pay29, k0_pay8, k0_pay7, k0_pay6]
  simp only [hf]
  rw [← Row.fold_max (fun g => f (8 * g + r.val)) 127]
  conv_lhs => rw [show f r.val = f (8 * 0 + r.val) by rw [Nat.mul_zero, Nat.zero_add]]
  rfl

/-- One more block of 128 to a maximum. -/
theorem sup_range_add (f : ℕ → EReal) (m n : ℕ) :
    (Finset.range (m + n)).sup f = max ((Finset.range m).sup f) ((Finset.range n).sup fun j => f (m + j)) := by
  induction n with
  | zero => simp
  | succ n ih =>
    rw [← Nat.add_assoc, Finset.range_add_one, Finset.sup_insert, ih, Finset.range_add_one (n := n), Finset.sup_insert]
    exact max_left_comm _ _ _

/-- The running maximum before chunk `k`. -/
theorem runMax_at (x0 : Vec Ideal S1x1x128x256 .bf16) (x1 : Vec Ideal S1x32768x128 .bf16) (k : ℕ) (r : Fin 8) (c : Fin 256) (f : ℕ → EReal)
    (hf : ∀ k' < k, ∀ n (h : n < 1024), score x0 x1 k' (ix2 ⟨n, h⟩ c) = f (1024 * k' + n)) :
    runMax x0 x1 k (ix2 r c) = (Finset.range (128 * k)).sup fun g => f (8 * g + r.val) := by
  induction k with
  | zero =>
    unfold runMax
    pointwise [k0_pay28]
    simp [Consts.ofBits_bot]
  | succ k ih =>
    rw [runMax, chunkMax_at x0 x1 k _ r c (fun n => f (1024 * k + n)) (hf k (Nat.lt_succ_self k)),
      ih fun k' h => hf k' (h.trans (Nat.lt_succ_self k)), Nat.mul_succ, sup_range_add]
    refine congrArg _ (Finset.sup_congr rfl fun g _ => congrArg f (by ring))

/-- The masked chunk's first row. -/
theorem maskWord_eq (i : grid0.Coords) : maskWord i = BitVec.ofNat 32 (1024 * full i) :=
  (by decide +kernel : ∀ n : Fin 2048, maskWord (at1 n) = BitVec.ofNat 32 (1024 * (n.val / 64))) (i 1)

/-- A column's token within the block, as the kernel's word. -/
theorem column_word : ∀ c : Fin 256,
    Scalar.select
      (IntOp.andi
        (IntOp.xori
          (IntOp.cmpi CmpIPredicate.slt
            (IntOp.remsi ArithUnit.vector (BitVec.ofNat 32 c.val) (Scalar.select (Scalar.cmpi CmpIPredicate.eq 16#32 0#32) 1#32 16#32)) 0#32)
          (Scalar.cmpi CmpIPredicate.slt (Scalar.select (Scalar.cmpi CmpIPredicate.eq 16#32 0#32) 1#32 16#32) 0#32))
        (IntOp.cmpi CmpIPredicate.ne
          (IntOp.remsi ArithUnit.vector (BitVec.ofNat 32 c.val) (Scalar.select (Scalar.cmpi CmpIPredicate.eq 16#32 0#32) 1#32 16#32)) 0#32))
      (IntOp.addi
        (IntOp.remsi ArithUnit.vector (BitVec.ofNat 32 c.val) (Scalar.select (Scalar.cmpi CmpIPredicate.eq 16#32 0#32) 1#32 16#32))
        (Scalar.select (Scalar.cmpi CmpIPredicate.eq 16#32 0#32) 1#32 16#32))
      (IntOp.remsi ArithUnit.vector (BitVec.ofNat 32 c.val) (Scalar.select (Scalar.cmpi CmpIPredicate.eq 16#32 0#32) 1#32 16#32))
      = BitVec.ofNat 32 (c.val % 16) := by decide +kernel
/-- The masking test, on words. -/
theorem visible_word (a b m t : ℕ) (ha : a + b < 2 ^ 31) (ht : 16 * m + t < 2 ^ 31) :
    IntOp.cmpi CmpIPredicate.sle (IntOp.addi (BitVec.ofNat 32 a) (BitVec.ofNat 32 b)) (IntOp.addi (Scalar.muli (BitVec.ofNat 32 m) 16#32) (BitVec.ofNat 32 t)) = 1#1
      ↔ a + b ≤ 16 * m + t := by
  have e : IntOp.addi (BitVec.ofNat 32 a) (BitVec.ofNat 32 b) = BitVec.ofNat 32 (a + b) := (BitVec.ofNat_add _ _).symm
  have e' : IntOp.addi (Scalar.muli (BitVec.ofNat 32 m) 16#32) (BitVec.ofNat 32 t) = BitVec.ofNat 32 (16 * m + t) := by
    rw [BitVec.ofNat_add, Nat.mul_comm, BitVec.ofNat_mul]; rfl
  rw [e, e']
  exact WordCmp.cmpi_sle_ofNat_eq_one_iff (by simpa using ha) (by simpa using ht)

/-- The masked chunk's scores: keys after the column's token are minus infinity. -/
theorem masked_at (i : grid0.Coords) (x0 : Vec Ideal S1x1x128x256 .bf16) (x1 : Vec Ideal S1x32768x128 .bf16) (c : Fin 256) (s : ℕ → EReal)
    (hs : IsScore x0 x1 c s) (r : Fin 1024) : masked i x0 x1 (ix2 r c) = Row.mask (token i c) s (1024 * full i + r.val) := by
  unfold masked
  pointwise [k0_pay32, k0_pay31, k0_pay27]
  simp only [kChunk_at, hs (1024 * full i + r.val), maskWord_eq, Consts.ofBits_bot]
  rw [column_word c]
  have h0 := full_lt i
  have h1 : (i 1).val < 2048 := (i 1).isLt
  have hw := visible_word (1024 * full i) r.val (i 1).val (c.val % 16) (by omega) (by omega)
  by_cases h : 1024 * full i + r.val ≤ 16 * (i 1).val + c.val % 16
  · exact (if_pos (hw.2 h)).trans (if_pos h).symm
  · exact (if_neg fun e => h (hw.1 e)).trans (if_neg h).symm

/-- The masked scores as stored are the same. -/
theorem masked_stored (i : grid0.Coords) (x0 : Vec Ideal S1x1x128x256 .bf16) (x1 : Vec Ideal S1x32768x128 .bf16) :
    k0_pay33 (BitVec.ofNat 32 (i 1).val) (k0_pay31 x0 (kChunk x1 (full i))) (maskWord i) (iota .tc S1024x256 32 [0] iota_S1024x256_d0_w32)
      = masked i x0 x1 := by
  unfold k0_pay33 masked
  exact shapeCast_self _ _

/-- What the score buffer holds of chunk `k`: the masked scores. -/
theorem scores_at (i : grid0.Coords) (x0 : Vec Ideal S1x1x128x256 .bf16) (x1 : Vec Ideal S1x32768x128 .bf16) (c : Fin 256) (s : ℕ → EReal)
    (hs : IsScore x0 x1 c s) (k : ℕ) (hk : k < full i + 1) (r : Fin 1024) :
    scores i x0 x1 k (ix2 r c) = Row.mask (token i c) s (1024 * k + r.val) := by
  unfold scores
  split
  next h =>
    rw [score_stored, score_at, hs, Row.mask, if_pos]
    unfold token; unfold full at h; have := r.isLt; omega
  next h =>
    rw [masked_stored, masked_at i x0 x1 c s hs, show k = full i by omega]

/-- The last chunk's slices close the maximum. -/
theorem close_at (i : grid0.Coords) (x0 : Vec Ideal S1x1x128x256 .bf16) (x1 : Vec Ideal S1x32768x128 .bf16) (c : Fin 256) (f : ℕ → EReal)
    (hf : ∀ n (h : n < 1024), masked i x0 x1 (ix2 ⟨n, h⟩ c) = f n) :
    rowMax i x0 x1 (ix2 0 c) = (Finset.univ : Finset (Fin 8)).sup fun r =>
      max (runMax x0 x1 (full i) (ix2 r c)) ((Finset.range 128).sup fun g => f (8 * g + r.val)) := by
  unfold rowMax k0_pay34
  unfold masked at hf ⊢
  generalize k0_pay32 (BitVec.ofNat 32 (i 1).val) (k0_pay31 x0 (kChunk x1 (full i))) (maskWord i) (iota .tc S1024x256 32 [0] iota_S1024x256_d0_w32) = b at hf ⊢
  pointwise [k0_pay38, k0_pay37, k0_pay36, k0_pay35]
  simp only [hf]
  rw [Consts.ofBits_bot]
  refine Finset.sup_congr rfl fun r _ => ?_
  rw [← Row.fold_max (fun g => f (8 * g + r.val)) 127]
  conv_lhs => rw [show f r.val = f (8 * 0 + r.val) by rw [Nat.mul_zero, Nat.zero_add]]
  rfl

/-- The row's maximum is the largest visible score. -/
theorem rowMax_at (i : grid0.Coords) (x0 : Vec Ideal S1x1x128x256 .bf16) (x1 : Vec Ideal S1x32768x128 .bf16) (c : Fin 256) (s : ℕ → EReal)
    (hs : IsScore x0 x1 c s) : rowMax i x0 x1 (ix2 0 c) = Row.top (token i c) s := by
  rw [close_at i x0 x1 c (fun n => Row.mask (token i c) s (1024 * full i + n)) fun n h => masked_at i x0 x1 c s hs ⟨n, h⟩,
    ← Row.mask_sup (N := 1024 * (full i + 1)) (by unfold token full; omega), show 1024 * (full i + 1) = 8 * (128 * full i + 128) by ring,
    ← Row.sup_eight]
  refine Finset.sup_congr rfl fun r _ => ?_
  rw [sup_range_add, runMax_at x0 x1 (full i) r c (Row.mask (token i c) s) fun k hk n h => ?_]
  · refine congrArg _ (Finset.sup_congr rfl fun g _ => congrArg _ (by ring))
  · rw [score_at, hs, Row.mask, if_pos]
    unfold token; unfold full at hk; omega

end Cert.KernelIdeal.Attend
-- ==== Proof.SoftIdeal.lean ====
/- The attend kernel's exponentials, their sum, the row's exponent, the weighted sum of the values and the output block at
   an index, over the extended reals: each is the row's real quantity. -/
module

public import proofs.«01_k».proof.Proof.TopIdeal

@[expose] public section

set_option maxRecDepth 16384

noncomputable section

namespace Cert.KernelIdeal.Attend

open Idealize.ShloMosaic Cert.KernelIdeal Cert.KernelIdeal.Gen

/-- The scale of the scores. -/
abbrev sigma : ℝ := (Real.sqrt 128)⁻¹

/-- The scale is not negative. -/
theorem sigma_nonneg : 0 ≤ sigma := inv_nonneg.2 (Real.sqrt_nonneg _)

/-- The scale of the scores in the unit of the power of two. -/
theorem logit_c : Named.named (F := Ideal) κ "logit_c" (φ := .f32) 0x3E0293EE#32 = (((Real.sqrt 128)⁻¹ * (Real.log 2)⁻¹ : ℝ) : EReal) :=
  IdealRules.named_const.ideal_named_scalar _ _ _ _ rfl

/-- Two to the scaled difference is the exponential of the difference, of an extended real and one at least as large. -/
theorem exp2_power (x y : EReal) (h : x ≤ y) :
    Ideal.exp2 (x * (((Real.sqrt 128)⁻¹ * (Real.log 2)⁻¹ : ℝ) : EReal) - y * (((Real.sqrt 128)⁻¹ * (Real.log 2)⁻¹ : ℝ) : EReal))
      = ((Row.power sigma x y : ℝ) : EReal) := by
  have h2 : 0 < Real.log 2 := Real.log_pos (by norm_num)
  have hc : 0 < (Real.sqrt 128)⁻¹ * (Real.log 2)⁻¹ := mul_pos (by positivity) (inv_pos.2 h2)
  induction x with
  | bot =>
    rw [EReal.bot_mul_coe_of_pos hc, EReal.bot_sub, Row.power_bot]
    exact Ideal.exp2_bot
  | top =>
    rw [top_le_iff.1 h, EReal.top_mul_coe_of_pos hc, Row.power_top]
    exact Ideal.exp2_bot
  | coe a =>
    induction y with
    | bot => exact absurd h (by simp)
    | top =>
      rw [EReal.top_mul_coe_of_pos hc, Row.power_to_top, ← EReal.coe_mul]
      exact Ideal.exp2_bot
    | coe b =>
      rw [Row.power_coe, ← EReal.coe_mul, ← EReal.coe_mul, ← EReal.coe_sub]
      refine (Ideal.exp2_coe _).trans (congrArg _ ?_)
      show (2 : ℝ) ^ (_ : ℝ) = _
      rw [Real.rpow_def_of_pos (by norm_num)]
      congr 1
      field_simp

variable (i : grid0.Coords) (x0 : Vec Ideal S1x1x128x256 .bf16) (x1 : Vec Ideal S1x32768x128 .bf16) (c : Fin 256) (s : ℕ → EReal)

/-- A chunk's exponentials are the softmax numerators. -/
theorem expo_at (hs : IsScore x0 x1 c s) (k : ℕ) (hk : k < full i + 1) (r : Fin 1024) :
    expo i x0 x1 k (ix2 r c) = ((Row.weight sigma (token i c) s (1024 * k + r.val) : ℝ) : EReal) := by
  unfold expo shift
  pointwise [k0_pay15, k0_pay40, k0_pay39]
  rw [scores_at i x0 x1 c s hs k hk, rowMax_at i x0 x1 c s hs, logit_c]
  exact exp2_power _ _ (Row.mask_le_top _ _ _)

/-- The running sum takes in a chunk's 128 slices. -/
theorem chunkSum_at (k : ℕ) (a : FVec Ideal S8x256 .f32) (r : Fin 8) (f : ℕ → EReal)
    (hf : ∀ n (h : n < 1024), expo i x0 x1 k (ix2 ⟨n, h⟩ c) = f n) :
    chunkSum i x0 x1 k a (ix2 r c) = a (ix2 r c) + ∑ g ∈ Finset.range 128, f (8 * g + r.val) := by
  unfold chunkSum k0_pay17
  unfold expo at hf ⊢
  generalize k0_pay15 (shift i x0 x1) (scores i x0 x1 k) = b at hf ⊢
  pointwise [k0_pay42, k0_pay20, k0_pay19, k0_pay18]
  simp only [hf]
  rw [← Row.fold_add (fun g => f (8 * g + r.val)) 127]
  conv_lhs => rw [show f r.val = f (8 * 0 + r.val) by rw [Nat.mul_zero, Nat.zero_add]]
  rfl

/-- The running sum before chunk `k`. -/
theorem runSum_at (k : ℕ) (r : Fin 8) (f : ℕ → EReal)
    (hf : ∀ k' < k, ∀ n (h : n < 1024), expo i x0 x1 k' (ix2 ⟨n, h⟩ c) = f (1024 * k' + n)) :
    runSum i x0 x1 k (ix2 r c) = ∑ g ∈ Finset.range (128 * k), f (8 * g + r.val) := by
  induction k with
  | zero =>
    unfold runSum
    pointwise [k0_pay41]
    simp
  | succ k ih =>
    rw [runSum, chunkSum_at i x0 x1 c k _ r (fun n => f (1024 * k + n)) (hf k (Nat.lt_succ_self k)),
      ih fun k' h => hf k' (h.trans (Nat.lt_succ_self k)), Nat.mul_succ, Finset.sum_range_add]
    refine congrArg _ (Finset.sum_congr rfl fun g _ => congrArg f (by ring))

/-- The row's sum is the softmax denominator. -/
theorem total_at (hs : IsScore x0 x1 c s) : k0_pay44 (total i x0 x1) (ix2 0 c) = ((Row.mass sigma (token i c) s : ℝ) : EReal) := by
  pointwise [k0_pay44]
  unfold total
  simp only [fun r => runSum_at i x0 x1 c (full i + 1) r (fun j => ((Row.weight sigma (token i c) s j : ℝ) : EReal))
    fun k hk n h => expo_at i x0 x1 c s hs k hk ⟨n, h⟩]
  rw [Row.sum_eight (fun j => ((Row.weight sigma (token i c) s j : ℝ) : EReal)), Row.coe_sum, Row.sum_weight]
  unfold token full; omega

/-- A column's token is a token. -/
theorem token_lt : token i c < 32768 := by
  have : (i 1).val < 2048 := (i 1).isLt
  unfold token; omega

/-- The exponent of a row with a denominator, between -23 and 0. -/
theorem expnt_eq (hm : 1 ≤ Row.mass sigma (token i c) s) : ∃ n : Fin 24, Row.expnt sigma (token i c) s = -(n.val : ℤ) := by
  have h1 := Row.expnt_le hm
  have h2 := Row.le_expnt hm sigma_nonneg (token_lt i c)
  exact ⟨⟨(-(Row.expnt sigma (token i c) s)).toNat, by omega⟩, by simp; omega⟩

/-- Counting the powers of two a number reaches gives its exponent. -/
theorem count_word (y : ℝ) (n : Fin 24) (hy : ∀ z : ℤ, (2 : ℝ) ^ z ≤ y ↔ z < -(n.val : ℤ)) :
    IntOp.subi (Finset.fold IntOp.addi 0#32 (fun x : Fin 255 =>
      if Ideal.ofBits .f32 (IntOp.shli .vector (IntOp.addi (IntOp.subi (BitVec.ofNat 32 x.val) 126#32) 127#32) 23#32) ≤ (y : EReal) then 1#32 else 0#32)
      Finset.univ) 126#32 = Consts.word (-(n.val : ℤ)) := by
  have key : ∀ x : Fin 255, (Ideal.ofBits .f32 (IntOp.shli .vector (IntOp.addi (IntOp.subi (BitVec.ofNat 32 x.val) 126#32) 127#32) 23#32) ≤ (y : EReal))
      ↔ x.val < 126 - n.val := by
    intro x
    have hn := n.isLt
    rw [Consts.step_word x]
    by_cases h : x.val + 1 < 255
    · rw [Consts.ofBits_pow _ (by omega) h, EReal.coe_le_coe_iff, hy]
      push_cast; omega
    · rw [show x.val + 1 = 255 by omega, Consts.ofBits_top]
      simp
      omega
  simp only [key]
  rw [Consts.fold_count (n := 255) (fun x => x < 126 - n.val), show ((Finset.range 255).filter fun x => x < 126 - n.val).card = 126 - n.val from ?_]
  · exact (Consts.word_ops n).2.2
  · rw [show (Finset.range 255).filter (fun x => x < 126 - n.val) = Finset.range (126 - n.val) from ?_, Finset.card_range]
    ext x; simp; omega

/-- The row's exponent as the kernel's word. -/
theorem expnt_at (hs : IsScore x0 x1 c s) (hm : 1 ≤ Row.mass sigma (token i c) s) :
    k0_pay45 (total i x0 x1) (ix2 0 c) = Consts.word (Row.expnt sigma (token i c) s) := by
  pointwise [k0_pay45]
  simp only [total_at i x0 x1 c s hs]
  obtain ⟨n, hn⟩ := expnt_eq i c s hm
  have e : Ideal.div 1 ((Row.mass sigma (token i c) s : ℝ) : EReal) * Ideal.ofBits FTy.f32 991054117#32
      = ((Row.peak sigma (token i c) s : ℝ) : EReal) := by
    rw [Ideal.div_coe (zero_lt_one.trans_le hm).ne', one_mul, Consts.ofBits_unit, ← EReal.coe_mul, one_div, Row.peak]
  rw [e, if_neg (by rw [EReal.coe_eq_zero]; exact (Row.peak_pos hm).ne'), hn]
  exact count_word _ n fun z => by rw [Row.zpow_le_peak hm, hn]

/-- Its negation as the kernel's word. -/
theorem neg_expnt_at (hs : IsScore x0 x1 c s) (hm : 1 ≤ Row.mass sigma (token i c) s) :
    k0_pay46 (total i x0 x1) (ix2 0 c) = IntOp.subi 0#32 (Consts.word (Row.expnt sigma (token i c) s)) := by
  rw [← expnt_at i x0 x1 c s hs hm]
  pointwise [k0_pay46, k0_pay45]

/-- The power of two of the exponent. -/
theorem pow_at (hm : 1 ≤ Row.mass sigma (token i c) s) : Ideal.ofBits .f32 (IntOp.shli .vector (IntOp.addi (Consts.word (Row.expnt sigma (token i c) s)) 127#32) 23#32)
    = (((2 : ℝ) ^ Row.expnt sigma (token i c) s : ℝ) : EReal) := by
  obtain ⟨n, hn⟩ := expnt_eq i c s hm
  have h := n.isLt
  rw [hn, (Consts.word_ops n).1, Consts.ofBits_pow _ (by omega) (by omega)]
  congr 2
  omega
/-- The power of two of its negation. -/
theorem neg_pow_at (hm : 1 ≤ Row.mass sigma (token i c) s) : Ideal.ofBits .f32 (IntOp.shli .vector (IntOp.addi (IntOp.subi 0#32 (Consts.word (Row.expnt sigma (token i c) s))) 127#32) 23#32)
    = (((2 : ℝ) ^ (-Row.expnt sigma (token i c) s) : ℝ) : EReal) := by
  obtain ⟨n, hn⟩ := expnt_eq i c s hm
  have h := n.isLt
  rw [hn, (Consts.word_ops n).2.1, Consts.ofBits_pow _ (by omega) (by omega)]
  congr 2
  omega

/-- The exponentials as stored are the same. -/
theorem expoStored_eq (k : ℕ) : expoStored i x0 x1 k = expo i x0 x1 k := by
  unfold expoStored expo k0_pay16
  exact shapeCast_self _ _

variable (x2 : Vec Ideal S1x128x32768 .fp8e4m3) (x3 : Vec Ideal S1x1x128 .f32)

/-- One chunk's quantized weights times its values. -/
theorem accum_step (hs : IsScore x0 x1 c s) (k : ℕ) (hk : k < full i + 1) (d : Fin 128) :
    accum i x0 x1 x2 (k + 1) (ix2 d c) = accum i x0 x1 x2 k (ix2 d c)
      + ∑ r ∈ Finset.range 1024, valueAt x2 d (1024 * k + r) * ((Row.code sigma (token i c) s (1024 * k + r) : ℝ) : EReal) := by
  rw [accum, Finset.sum_range]
  pointwise [k0_pay50, k0_pay48, k0_pay47]
  refine congrArg _ (Finset.sum_congr rfl fun r _ => ?_)
  rw [vChunk_at, expoStored_eq, expo_at i x0 x1 c s hs k hk]
  rcases Row.mass_cases sigma (token i c) s with hm | hm
  · rw [Row.code_of_weight (Row.weight_of_mass hm _), Row.weight_of_mass hm, EReal.coe_zero, zero_mul, Consts.ofBits_448, Consts.ofBits_neg448,
      Row.clip_zero]
  rw [total_at i x0 x1 c s hs, neg_expnt_at i x0 x1 c s hs hm, neg_pow_at i c s hm,
    Ideal.div_coe (zero_lt_one.trans_le hm).ne', Consts.ofBits_448, Consts.ofBits_neg448, ← EReal.coe_mul, ← EReal.coe_mul, Row.clip_coe]
  unfold Row.code
  congr 4
  ring

/-- The accumulator before chunk `k`. -/
theorem accum_at (hs : IsScore x0 x1 c s) (k : ℕ) (hk : k ≤ full i + 1) (d : Fin 128) :
    accum i x0 x1 x2 k (ix2 d c) = ∑ j ∈ Finset.range (1024 * k), valueAt x2 d j * ((Row.code sigma (token i c) s j : ℝ) : EReal) := by
  induction k with
  | zero =>
    unfold accum
    pointwise [k0_pay49]
    simp
  | succ k ih => rw [accum_step i x0 x1 c s x2 hs k (by omega), ih (by omega), Nat.mul_succ, Finset.sum_range_add]

/-- The block's output row of column `c`. -/
theorem rowsOut_at (hs : IsScore x0 x1 c s) (d : Fin 128) :
    rowsOut i x0 x1 x2 x3 (ix2 c d) = Row.out sigma (token i c) s (valueAt x2 d) (x3 (ix3 0 0 d)) := by
  unfold rowsOut
  pointwise [k0_pay52]
  have := full_lt i
  rw [accum_at i x0 x1 c s x2 hs _ le_rfl]
  rcases Row.mass_cases sigma (token i c) s with hm | hm
  · rw [Row.out_of_mass hm, Finset.sum_eq_zero fun j _ => by rw [Row.code_of_weight (Row.weight_of_mass hm j), EReal.coe_zero, mul_zero],
      zero_mul, zero_mul]
  rw [expnt_at i x0 x1 c s hs hm, pow_at i c s hm, Row.sum_code (by unfold token full; omega) (by omega), Row.out]

end Cert.KernelIdeal.Attend
-- ==== Proof.BlockIdeal.lean ====
/- The attend kernel's output block at an index: head `h`'s columns hold the output rows of its sixteen tokens. -/
module

public import proofs.«01_k».proof.Proof.SoftIdeal
public import Idealize.ShloMosaic.Lib.Pipeline.ValueKit

@[expose] public section

set_option maxRecDepth 16384

noncomputable section

namespace Cert.KernelIdeal.Attend

open Idealize.ShloMosaic Cert.KernelIdeal Cert.KernelIdeal.Gen

/-- One head's columns of the block: sixteen rows of the output rows, from row `16 h`. -/
def blockOf (r : FVec Ideal S256x128 .f32) : Vec Ideal S1x16x2048 .bf16 := fun y =>
  r (ix2 ⟨(16 * ((y 2).val / 128) + (y 1).val) % 256, Nat.mod_lt _ (by decide)⟩ ⟨(y 2).val % 128, Nat.mod_lt _ (by decide)⟩)

/-- A store of sixteen rows of the output rows is one head's columns. -/
theorem piece_at (r : FVec Ideal S256x128 .f32) (h : ℕ) (hh : h < 16) (inb : ∀ a : Fin 3, (![0, 0, 128 * h] : Fin 3 → ℕ) a + S1x16x128.size a ≤ S1x16x2048.size a)
    (p : FVec Ideal S1x16x128 .bf16)
    (hp : ∀ (t : Fin 16) (d : Fin 128), p (ix3 0 t d) = r (ix2 ⟨16 * h + t.val, by omega⟩ d)) (x : (headRect (128 * h) inb).shape.Idx) :
    p x = blockOf r ((headRect (128 * h) inb).emb x) := by
  have e := hp (x 1) (x 2)
  have h2 : (x 2).val < 128 := (x 2).isLt
  have h1 : (x 1).val < 16 := (x 1).isLt
  have e1 : ((headRect (128 * h) inb).emb x 1).val = 0 + 1 * (x 1).val := rfl
  have e2 : ((headRect (128 * h) inb).emb x 2).val = 128 * h + 1 * (x 2).val := rfl
  have ex : x = ix3 0 (x 1) (x 2) := by
    funext a
    match a with
    | ⟨0, _⟩ => exact Fin.ext (by have : (x 0).val < 1 := (x 0).isLt; show (x 0).val = 0; omega)
    | ⟨1, _⟩ => rfl
    | ⟨2, _⟩ => rfl
  refine (congrArg p ex).trans (e.trans (congrArg r ?_))
  refine congrArg₂ ix2 (Fin.ext ?_) (Fin.ext ?_)
  · show 16 * h + (x 1).val = (16 * (((headRect (128 * h) inb).emb x 2).val / 128) + ((headRect (128 * h) inb).emb x 1).val) % 256
    rw [e1, e2]; omega
  · show (x 2).val = ((headRect (128 * h) inb).emb x 2).val % 128
    rw [e2]; omega

variable (v362 : IVec S1x256 32) (v485 : Vec Ideal S128x256 .f32) (v487 : Vec Ideal S1x1x128 .f32)

/-- The first head's stored piece is its sixteen rows of the output. -/
theorem head0 (t : Fin 16) (d : Fin 128) : k0_pay53 v362 v485 v487 (ix3 0 t d) = k0_pay52 v362 v485 v487 (ix2 ⟨16 * 0 + t.val, by omega⟩ d) := by
  pointwise [k0_pay53]
/-- The second head's stored piece is its sixteen rows of the output. -/
theorem head1 (t : Fin 16) (d : Fin 128) : k0_pay55 (k0_pay54 v362 v485 v487) (ix3 0 t d) = k0_pay52 v362 v485 v487 (ix2 ⟨16 * 1 + t.val, by omega⟩ d) := by
  pointwise [k0_pay55, k0_pay54]

variable (r : FVec Ideal S256x128 .f32)

/-- The third head's stored piece is its sixteen rows of the output. -/
theorem head2 (t : Fin 16) (d : Fin 128) : k0_pay56 r (ix3 0 t d) = r (ix2 ⟨16 * 2 + t.val, by omega⟩ d) := by
  pointwise [k0_pay56]
/-- The fourth head's stored piece is its sixteen rows of the output. -/
theorem head3 (t : Fin 16) (d : Fin 128) : k0_pay57 r (ix3 0 t d) = r (ix2 ⟨16 * 3 + t.val, by omega⟩ d) := by
  pointwise [k0_pay57]
/-- The fifth head's stored piece is its sixteen rows of the output. -/
theorem head4 (t : Fin 16) (d : Fin 128) : k0_pay58 r (ix3 0 t d) = r (ix2 ⟨16 * 4 + t.val, by omega⟩ d) := by
  pointwise [k0_pay58]
/-- The sixth head's stored piece is its sixteen rows of the output. -/
theorem head5 (t : Fin 16) (d : Fin 128) : k0_pay59 r (ix3 0 t d) = r (ix2 ⟨16 * 5 + t.val, by omega⟩ d) := by
  pointwise [k0_pay59]
/-- The seventh head's stored piece is its sixteen rows of the output. -/
theorem head6 (t : Fin 16) (d : Fin 128) : k0_pay60 r (ix3 0 t d) = r (ix2 ⟨16 * 6 + t.val, by omega⟩ d) := by
  pointwise [k0_pay60]
/-- The eighth head's stored piece is its sixteen rows of the output. -/
theorem head7 (t : Fin 16) (d : Fin 128) : k0_pay61 r (ix3 0 t d) = r (ix2 ⟨16 * 7 + t.val, by omega⟩ d) := by
  pointwise [k0_pay61]
/-- The ninth head's stored piece is its sixteen rows of the output. -/
theorem head8 (t : Fin 16) (d : Fin 128) : k0_pay62 r (ix3 0 t d) = r (ix2 ⟨16 * 8 + t.val, by omega⟩ d) := by
  pointwise [k0_pay62]
/-- The tenth head's stored piece is its sixteen rows of the output. -/
theorem head9 (t : Fin 16) (d : Fin 128) : k0_pay63 r (ix3 0 t d) = r (ix2 ⟨16 * 9 + t.val, by omega⟩ d) := by
  pointwise [k0_pay63]
/-- The eleventh head's stored piece is its sixteen rows of the output. -/
theorem head10 (t : Fin 16) (d : Fin 128) : k0_pay64 r (ix3 0 t d) = r (ix2 ⟨16 * 10 + t.val, by omega⟩ d) := by
  pointwise [k0_pay64]
/-- The twelfth head's stored piece is its sixteen rows of the output. -/
theorem head11 (t : Fin 16) (d : Fin 128) : k0_pay65 r (ix3 0 t d) = r (ix2 ⟨16 * 11 + t.val, by omega⟩ d) := by
  pointwise [k0_pay65]
/-- The thirteenth head's stored piece is its sixteen rows of the output. -/
theorem head12 (t : Fin 16) (d : Fin 128) : k0_pay66 r (ix3 0 t d) = r (ix2 ⟨16 * 12 + t.val, by omega⟩ d) := by
  pointwise [k0_pay66]
/-- The fourteenth head's stored piece is its sixteen rows of the output. -/
theorem head13 (t : Fin 16) (d : Fin 128) : k0_pay67 r (ix3 0 t d) = r (ix2 ⟨16 * 13 + t.val, by omega⟩ d) := by
  pointwise [k0_pay67]
/-- The fifteenth head's stored piece is its sixteen rows of the output. -/
theorem head14 (t : Fin 16) (d : Fin 128) : k0_pay1 (k0_pay68 r) (ix3 0 t d) = r (ix2 ⟨16 * 14 + t.val, by omega⟩ d) := by
  pointwise [k0_pay1, k0_pay68]
/-- The sixteenth head's stored piece is its sixteen rows of the output. -/
theorem head15 (t : Fin 16) (d : Fin 128) : k0_pay2 r (ix3 0 t d) = r (ix2 ⟨16 * 15 + t.val, by omega⟩ d) := by
  pointwise [k0_pay2]

/-- The output block, head by head. -/
theorem outBlock_eq (i : grid0.Coords) (x0 : Vec Ideal S1x1x128x256 .bf16) (x1 : Vec Ideal S1x32768x128 .bf16) (x2 : Vec Ideal S1x128x32768 .fp8e4m3)
    (x3 : Vec Ideal S1x1x128 .f32) (y : S1x16x2048.Idx) : outBlock i x0 x1 x2 x3 y = blockOf (rowsOut i x0 x1 x2 x3) y := by
  unfold outBlock
  refine View.canon_apply_of_pieces (blockOf (rowsOut i x0 x1 x2 x3)) _ ?_ y (pieces_cover _ _ _ y)
  unfold pieces rowsOut
  refine List.forall_mem_cons.2 ⟨fun x => piece_at _ 15 (by decide) inb_S1x16x2048_S1x16x128_0_0_1920 _ (head15 _) x, ?_⟩
  refine List.forall_mem_cons.2 ⟨fun x => piece_at _ 14 (by decide) inb_S1x16x2048_S1x16x128_0_0_1792 _ (head14 _) x, ?_⟩
  refine List.forall_mem_cons.2 ⟨fun x => piece_at _ 13 (by decide) inb_S1x16x2048_S1x16x128_0_0_1664 _ (head13 _) x, ?_⟩
  refine List.forall_mem_cons.2 ⟨fun x => piece_at _ 12 (by decide) inb_S1x16x2048_S1x16x128_0_0_1536 _ (head12 _) x, ?_⟩
  refine List.forall_mem_cons.2 ⟨fun x => piece_at _ 11 (by decide) inb_S1x16x2048_S1x16x128_0_0_1408 _ (head11 _) x, ?_⟩
  refine List.forall_mem_cons.2 ⟨fun x => piece_at _ 10 (by decide) inb_S1x16x2048_S1x16x128_0_0_1280 _ (head10 _) x, ?_⟩
  refine List.forall_mem_cons.2 ⟨fun x => piece_at _ 9 (by decide) inb_S1x16x2048_S1x16x128_0_0_1152 _ (head9 _) x, ?_⟩
  refine List.forall_mem_cons.2 ⟨fun x => piece_at _ 8 (by decide) inb_S1x16x2048_S1x16x128_0_0_1024 _ (head8 _) x, ?_⟩
  refine List.forall_mem_cons.2 ⟨fun x => piece_at _ 7 (by decide) inb_S1x16x2048_S1x16x128_0_0_896 _ (head7 _) x, ?_⟩
  refine List.forall_mem_cons.2 ⟨fun x => piece_at _ 6 (by decide) inb_S1x16x2048_S1x16x128_0_0_768 _ (head6 _) x, ?_⟩
  refine List.forall_mem_cons.2 ⟨fun x => piece_at _ 5 (by decide) inb_S1x16x2048_S1x16x128_0_0_640 _ (head5 _) x, ?_⟩
  refine List.forall_mem_cons.2 ⟨fun x => piece_at _ 4 (by decide) inb_S1x16x2048_S1x16x128_0_0_512 _ (head4 _) x, ?_⟩
  refine List.forall_mem_cons.2 ⟨fun x => piece_at _ 3 (by decide) inb_S1x16x2048_S1x16x128_0_0_384 _ (head3 _) x, ?_⟩
  refine List.forall_mem_cons.2 ⟨fun x => piece_at _ 2 (by decide) inb_S1x16x2048_S1x16x128_0_0_256 _ (head2 _) x, ?_⟩
  refine List.forall_mem_cons.2 ⟨fun x => piece_at _ 1 (by decide) inb_S1x16x2048_S1x16x128_0_0_128 _ (head1 _ _ _) x, ?_⟩
  refine List.forall_mem_cons.2 ⟨fun x => piece_at _ 0 (by decide) inb_S1x16x2048_S1x16x128_0_0_0 _ (head0 _ _ _) x, ?_⟩
  exact fun p hp => absurd hp List.not_mem_nil

end Cert.KernelIdeal.Attend

end
-- ==== Proof.IndexIdeal.lean ====
/- Where the idealized kernel's blocks lie at each grid point, and that the output's blocks cover its array. -/
module

public import proofs.«01_k».proof.Proof.Gen.KernelIdeal.Frame
public import Idealize.ShloMosaic.Lib.Pipeline.ValueKit

@[expose] public section

set_option maxRecDepth 16384

noncomputable section

namespace Cert.KernelIdeal.Attend

open Idealize.ShloMosaic Idealize.ShloMosaic.TcCoe Cert.KernelIdeal Cert.KernelIdeal.Gen

/-- The queries' block of a grid point. -/
theorem index0 : ∀ t : Fin cfg0.N, win0_0.index t = ![(grid0.coords t 0).val, (grid0.coords t 1).val, 0, 0] :=
  (by decide +kernel : ∀ t : Fin grid0.N, _)
/-- The keys' block of a grid point. -/
theorem index1 : ∀ t : Fin cfg0.N, win0_1.index t = ![(grid0.coords t 0).val, 0, 0] :=
  (by decide +kernel : ∀ t : Fin grid0.N, _)
/-- The values' block of a grid point. -/
theorem index2 : ∀ t : Fin cfg0.N, win0_2.index t = ![(grid0.coords t 0).val, 0, 0] :=
  (by decide +kernel : ∀ t : Fin grid0.N, _)
/-- The scales' block of a grid point. -/
theorem index3 : ∀ t : Fin cfg0.N, win0_3.index t = ![(grid0.coords t 0).val, 0, 0] :=
  (by decide +kernel : ∀ t : Fin grid0.N, _)
/-- The output's block of a grid point. -/
theorem index4 : ∀ t : Fin cfg0.N, win0_4.index t = ![(grid0.coords t 0).val, (grid0.coords t 1).val, 0] :=
  (by decide +kernel : ∀ t : Fin grid0.N, _)

/-- The output's blocks cover its array. -/
theorem covers4 : (cfg0.win 4).Covers := by decide +kernel

end Cert.KernelIdeal.Attend

end
-- ==== Proof.Result.lean ====
/- The array both programs leave: for each batch, token and head column, the row's output (Row.lean) at the token's scores. -/
module

public import proofs.«01_k».proof.Proof.Row
public import Idealize.ShloMosaic.Lib.Pointwise

@[expose] public section

noncomputable section

namespace Cert.Result

open Idealize.ShloMosaic

/-- The queries, one row of 256 columns — sixteen heads of sixteen tokens — for each component of each block of tokens. -/
abbrev Queries : Type := (⟨4, ![2, 2048, 128, 256]⟩ : Shape).Idx → EReal
/-- The keys. -/
abbrev Keys : Type := (⟨3, ![2, 32768, 128]⟩ : Shape).Idx → EReal
/-- The values, one to a column. -/
abbrev Values : Type := (⟨3, ![2, 128, 32768]⟩ : Shape).Idx → EReal
/-- The values' scales. -/
abbrev Scales : Type := (⟨3, ![2, 1, 128]⟩ : Shape).Idx → EReal

/-- The scale of the scores. -/
abbrev sigma : ℝ := (Real.sqrt 128)⁻¹

/-- The scale is not negative. -/
theorem sigma_nonneg : 0 ≤ sigma := inv_nonneg.2 (Real.sqrt_nonneg _)

/-- The score of key `j` against token `t` of head `h`. -/
def score (q : Queries) (k : Keys) (b : Fin 2) (t : Fin 32768) (h : Fin 16) (j : ℕ) : EReal :=
  ∑ d : Fin 128, k (ix3 b ⟨j % 32768, Nat.mod_lt _ (by decide)⟩ d)
    * q (ix4 b ⟨t.val / 16, by omega⟩ d ⟨16 * h.val + t.val % 16, by omega⟩)

/-- The result. -/
def result (q : Queries) (k : Keys) (v : Values) (vs : Scales) (b : Fin 2) (t : Fin 32768) (h : Fin 16) (d : Fin 128) : EReal :=
  Row.out sigma t.val (score q k b t h) (fun j => v (ix3 b d ⟨j % 32768, Nat.mod_lt _ (by decide)⟩)) (vs (ix3 b 0 d))

/-- The result as an array, the heads side by side. -/
def array (q : Queries) (k : Keys) (v : Values) (vs : Scales) : (⟨3, ![2, 32768, 2048]⟩ : Shape).Idx → EReal := fun y =>
  result q k v vs (y 0) (y 1) ⟨(y 2).val / 128, by have : (y 2).val < 2048 := (y 2).isLt; omega⟩ ⟨(y 2).val % 128, Nat.mod_lt _ (by decide)⟩

end Cert.Result

end
-- ==== Proof.ArrayIdeal.lean ====
/- The array the idealized kernel leaves: every block is its grid point's output block, and together they are the result. -/
module

public import proofs.«01_k».proof.Proof.BlockIdeal
public import proofs.«01_k».proof.Proof.RunIdeal
public import proofs.«01_k».proof.Proof.IndexIdeal
public import proofs.«01_k».proof.Proof.Result

@[expose] public section

set_option maxRecDepth 16384

noncomputable section

namespace Cert.KernelIdeal.Attend

open Idealize.ShloMosaic Idealize.ShloMosaic.TcCoe Cert.KernelIdeal Cert.KernelIdeal.Gen

variable (m : (ℓ : Loc nD τ sig) → Buf (Elt Ideal) ℓ)

/-- The batch of a grid point. -/
def batch (t : Fin cfg0.N) : Fin 2 := grid0.coords t 0
/-- The token block of a grid point. -/
def block (t : Fin cfg0.N) : Fin 2048 := grid0.coords t 1

/-- The point's queries. -/
theorem iblk0_at (c : Dev nD) (t : Fin cfg0.N) (d : Fin 128) (col : Fin 256) :
    iblk m c 0 t (ix4 0 0 d col) = m ((c : Thread nD τ).loc main_arg0) (ix4 (batch t) (block t) d col) := by
  blk_simp [iblk]
  refine congrArg (m ((c : Thread nD τ).loc main_arg0)) ?_
  blk_ext [index0] <;> rfl
/-- The point's keys. -/
theorem iblk1_at (c : Dev nD) (t : Fin cfg0.N) (j : Fin 32768) (d : Fin 128) :
    iblk m c 1 t (ix3 0 j d) = m ((c : Thread nD τ).loc main_arg1) (ix3 (batch t) j d) := by
  blk_simp [iblk]
  refine congrArg (m ((c : Thread nD τ).loc main_arg1)) ?_
  blk_ext [index1]
  rfl
/-- The point's values. -/
theorem iblk2_at (c : Dev nD) (t : Fin cfg0.N) (d : Fin 128) (j : Fin 32768) :
    iblk m c 2 t (ix3 0 d j) = m ((c : Thread nD τ).loc main_arg2) (ix3 (batch t) d j) := by
  blk_simp [iblk]
  refine congrArg (m ((c : Thread nD τ).loc main_arg2)) ?_
  blk_ext [index2]
  rfl
/-- The point's scales. -/
theorem iblk3_at (c : Dev nD) (t : Fin cfg0.N) (d : Fin 128) :
    iblk m c 3 t (ix3 0 0 d) = m ((c : Thread nD τ).loc main_arg3) (ix3 (batch t) 0 d) := by
  blk_simp [iblk]
  refine congrArg (m ((c : Thread nD τ).loc main_arg3)) ?_
  blk_ext [index3]
  rfl
/-- Where the point's output block lies. -/
theorem emb4_at (t : Fin cfg0.N) (r : Fin 16) (d : Fin 2048) :
    (win0_4.blk t).view.emb (ix3 0 r d) = ix3 (batch t) (⟨16 * (block t).val + r.val, by omega⟩ : Fin 32768) d := by
  blk_ext [index4]
  · rfl
  · show (block t).val * 16 + r.val = _
    omega

/-- A grid point's output block at an index is the result there. -/
theorem block_at (c : Dev nD) (t : Fin cfg0.N) (r : Fin 16) (h : Fin 16) (d : Fin 128)
    (col : Fin 256) (hcol : col.val = 16 * h.val + r.val) :
    rowsOut (grid0.coords t) (iblk m c 0 t) (iblk m c 1 t) (iblk m c 2 t) (iblk m c 3 t) (ix2 col d)
      = Result.result (m ((c : Thread nD τ).loc main_arg0)) (m ((c : Thread nD τ).loc main_arg1)) (m ((c : Thread nD τ).loc main_arg2))
          (m ((c : Thread nD τ).loc main_arg3)) (batch t) ⟨16 * (block t).val + r.val, by omega⟩ h d := by
  have hs : IsScore (iblk m c 0 t) (iblk m c 1 t) col (Result.score (m ((c : Thread nD τ).loc main_arg0)) (m ((c : Thread nD τ).loc main_arg1))
      (batch t) ⟨16 * (block t).val + r.val, by omega⟩ h) := fun j => by
    unfold Result.score keyAt
    refine Finset.sum_congr rfl fun x _ => ?_
    rw [iblk1_at, iblk0_at]
    refine congrArg _ (congrArg (m ((c : Thread nD τ).loc main_arg0)) ?_)
    refine congrArg₂ (fun a b => ix4 (batch t) a x b) (Fin.ext ?_) (Fin.ext ?_)
    · show (block t).val = (16 * (block t).val + r.val) / 16
      omega
    · show col.val = 16 * h.val + (16 * (block t).val + r.val) % 16
      omega
  rw [rowsOut_at _ _ _ _ _ _ _ hs]
  have ht : token (grid0.coords t) col = 16 * (block t).val + r.val := by
    show 16 * (block t).val + col.val % 16 = _
    omega
  unfold Result.result valueAt
  rw [ht, iblk3_at]
  simp only [iblk2_at]

/-- The array the run leaves is the result. -/
theorem array (c : Dev nD) : (dats m 0 c).arrAt 4 cfg0.N
    = Result.array (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ covers4 fun t hf y => ?_
  blk_simp
  rw [after0_4, outBlock_eq]
  obtain ⟨r, d, rfl⟩ : ∃ (r : Fin 16) (d : Fin 2048), y = ix3 0 r d := ⟨y 1, y 2, by
    funext a
    match a with
    | ⟨0, _⟩ => exact Fin.ext (by have : (y 0).val < 1 := (y 0).isLt; show (y 0).val = 0; omega)
    | ⟨1, _⟩ => rfl
    | ⟨2, _⟩ => rfl⟩
  have hr := r.isLt
  have hd := d.isLt
  rw [emb4_at]
  exact block_at m c t r ⟨d.val / 128, by omega⟩ ⟨d.val % 128, Nat.mod_lt _ (by decide)⟩ _ (by
    show (16 * (d.val / 128) + r.val) % 256 = 16 * (d.val / 128) + r.val
    omega)

end Cert.KernelIdeal.Attend

end
-- ==== Proof.RefQueries.lean ====
/- The queries as the reference reads them: one row for each token of each head, and where each element comes from. -/
module

public import proofs.«01_k».proof.Proof.Gen.ReferenceIdeal.Frame
public import Idealize.ShloMosaic.Lib.Pointwise
public import Idealize.ShloMosaic.Lib.Claim

@[expose] public section

set_option maxRecDepth 16384

noncomputable section

namespace Cert.ReferenceIdeal.Attend

open Idealize.ShloMosaic Idealize.ShloMosaic.TcCoe Cert.ReferenceIdeal Cert.ReferenceIdeal.Gen

variable (m : (ℓ : Loc nD τ sig) → Buf (Elt Ideal) ℓ)

/-- The array of query rows is the argument reshaped, transposed and reshaped. -/
theorem rows_eq (c : Dev nD) : V m c main_v2
    = shapeCast S2x524288x128 (transpose S2x2048x16x16x128 [0, 1, 4, 3, 2]
        (shapeCast S2x2048x128x16x16 (m ((c : Thread nD τ).loc main_arg0)) shapeCasts_S2x2048x128x256_S2x2048x128x16x16)
        transposes_S2x2048x128x16x16_S2x2048x16x16x128_0_1_4_3_2) shapeCasts_S2x2048x16x16x128_S2x524288x128 := by
  show StableHlo.after hostOps0 _ (Proc.devRef .tc main_v2) = _
  after_results
  rfl

/-- Row `16 t + h` of the queries is token `t` of head `h`. -/
theorem rows_at (c : Dev nD) (b : Fin 2) (r : Fin 524288) (d : Fin 128) (t : Fin 32768) (h : Fin 16) (hr : r.val = 16 * t.val + h.val) :
    V m c main_v2 (ix3 b r d)
      = m ((c : Thread nD τ).loc main_arg0) (ix4 b ⟨t.val / 16, by omega⟩ d ⟨16 * h.val + t.val % 16, by omega⟩) := by
  rw [rows_eq]
  pointwise []
  have hh := h.isLt
  refine congrArg (m ((c : Thread nD τ).loc main_arg0)) (congrArg₂ (fun x y => ix4 b x d y) (Fin.ext ?_) (Fin.ext ?_))
  · show r.val / 256 = t.val / 16
    omega
  · show r.val % 16 * 16 + r.val / 16 % 16 = 16 * h.val + t.val % 16
    omega

end Cert.ReferenceIdeal.Attend

end
-- ==== Proof.RefRead.lean ====
/- The reference's last stage read at an index. -/
module

public import proofs.«01_k».proof.Proof.Gen.ReferenceIdeal.Skeleton
public import Idealize.ShloMosaic.Lib.Pointwise

@[expose] public section

set_option maxRecDepth 16384

noncomputable section

namespace Cert.ReferenceIdeal.Attend

open Idealize.ShloMosaic Cert.ReferenceIdeal Cert.ReferenceIdeal.Gen

/-- The exponent of a row whose sum of exponentials is `l`. -/
def exponent (l : EReal) : EReal :=
  if Ideal.div 1 l * Ideal.ofBits FTy.f32 991054117#32 = 0 then 0
  else Ideal.liftRound Int.floor (Ideal.div (Ideal.log (Ideal.div 1 l * Ideal.ofBits FTy.f32 991054117#32))
    (Named.named (F := Ideal) κ "ln2" (φ := .f32) 1060205080#32)) + 1

/-- The output at an index, from its row's masked scores `P1`, their maximum `P2` and the sum of exponentials `P3`. -/
theorem read_out (P1 : FVec Ideal S2x524288x32768 .f32) (P2 P3 : FVec Ideal S2x524288x1 .f32) (v71 : Vec Ideal S2x128x32768 .fp8e4m3)
    (v76 : Vec Ideal S2x1x128 .f32) (b : Fin 2) (t : Fin 32768) (c : Fin 2048) (r : Fin 524288) (hr : r.val = t.val * 16 + c.val / 128)
    (d : Fin 128) (hd : d.val = c.val % 128) :
    k0_pay4 P1 P2 P3 v71 v76 (ix3 b t c) = (∑ x : Fin 32768,
      min (Ideal.ofBits FTy.f32 1138753536#32) (max (Ideal.ofBits FTy.f32 3286237184#32)
        (Ideal.div (Ideal.exp (P1 (ix3 b r x) - P2 (ix3 b r 0))) (P3 (ix3 b r 0)) * Ideal.exp2 (0 - exponent (P3 (ix3 b r 0))))) * v71 (ix3 b d x))
      * Ideal.exp2 (exponent (P3 (ix3 b r 0))) * v76 (ix3 b 0 d) := by
  have h1 : t.val * 16 + c.val / 128 < 524288 := by omega
  have h2 : c.val % 128 < 128 := by omega
  have e1 : r = ⟨t.val * 16 + c.val / 128, h1⟩ := Fin.ext hr
  have e2 : d = ⟨c.val % 128, h2⟩ := Fin.ext hd
  clear hr hd
  subst e1 e2
  pointwise [k0_pay4]
  rfl

end Cert.ReferenceIdeal.Attend

end
-- ==== Proof.RefValue.lean ====
/- The reference's body at an index, over the extended reals: each of its rows' quantities is the row's real quantity. -/
module

public import proofs.«01_k».proof.Proof.Gen.ReferenceIdeal.Value
public import proofs.«01_k».proof.Proof.RefRead
public import proofs.«01_k».proof.Proof.Consts
public import proofs.«01_k».proof.Proof.Result

@[expose] public section

set_option maxRecDepth 16384

noncomputable section

namespace Cert.ReferenceIdeal.Attend

open Idealize.ShloMosaic Cert.ReferenceIdeal Cert.ReferenceIdeal.Gen
open Cert.Result (sigma sigma_nonneg)

/-- Division of a small word by sixteen. -/
theorem div_word (r : ℕ) (hr : r < 2 ^ 31) : IntOp.divsi ArithUnit.vector (BitVec.ofNat 32 r) 16#32 = BitVec.ofNat 32 (r / 16) := by
  have e : (BitVec.ofNat 32 r).toNat = r := by rw [BitVec.toNat_ofNat]; omega
  have hm : (BitVec.ofNat 32 r).msb = false := by rw [BitVec.msb_eq_false_iff_two_mul_lt, e]; omega
  unfold IntOp.divsi
  rw [if_neg (by simp [IntOp.SDivCorner]), BitVec.sdiv_eq, hm, show (16#32 : BitVec 32).msb = false from rfl]
  refine BitVec.eq_of_toNat_eq ?_
  show (BitVec.ofNat 32 r / 16#32).toNat = _
  rw [BitVec.toNat_udiv, e, BitVec.toNat_ofNat, BitVec.toNat_ofNat, show 16 % 2 ^ 32 = 16 from rfl]
  omega

/-- The query row's token: floor division of the row's number by the number of heads. -/
theorem token_word (r : ℕ) (hr : r < 2 ^ 31) :
    Scalar.select
      (IntOp.andi
        (IntOp.cmpi CmpIPredicate.ne
          (IntOp.subi (BitVec.setWidth 32 (IntOp.cmpi CmpIPredicate.sgt (BitVec.ofNat 32 r) 0#32))
            (BitVec.setWidth 32 (IntOp.cmpi CmpIPredicate.slt (BitVec.ofNat 32 r) 0#32)))
          (Scalar.subi (Scalar.extui (Scalar.cmpi CmpIPredicate.sgt 16#32 0#32)) (Scalar.extui (Scalar.cmpi CmpIPredicate.slt 16#32 0#32))))
        (IntOp.cmpi CmpIPredicate.ne (IntOp.remsi ArithUnit.vector (BitVec.ofNat 32 r) 16#32) 0#32))
      (IntOp.subi (IntOp.divsi ArithUnit.vector (BitVec.ofNat 32 r) 16#32) 1#32)
      (IntOp.divsi ArithUnit.vector (BitVec.ofNat 32 r) 16#32) = BitVec.ofNat 32 (r / 16) := by
  rw [div_word r hr]
  rcases Nat.eq_zero_or_pos r with rfl | h
  · decide
  · rw [show IntOp.cmpi CmpIPredicate.sgt (BitVec.ofNat 32 r) 0#32 = 1#1 from
        (WordCmp.cmpi_sgt_ofNat_eq_one_iff (a := r) (b := 0) (by simpa using hr) (by decide)).2 h,
      show IntOp.cmpi CmpIPredicate.slt (BitVec.ofNat 32 r) 0#32 = 0#1 from
        (WordCmp.cmpi_slt_ofNat_eq_zero_iff (a := r) (b := 0) (by simpa using hr) (by decide)).2 (by omega)]
    have e : IntOp.cmpi CmpIPredicate.ne (IntOp.subi (BitVec.setWidth 32 1#1) (BitVec.setWidth 32 0#1))
        (Scalar.subi (Scalar.extui (Scalar.cmpi CmpIPredicate.sgt 16#32 0#32)) (Scalar.extui (Scalar.cmpi CmpIPredicate.slt 16#32 0#32))) = 0#1 := by decide
    rw [e]
    refine if_neg fun h => ?_
    rw [show ∀ x : BitVec 1, IntOp.andi 0#1 x = 0#1 from fun x => BitVec.zero_and] at h
    exact absurd h (by decide)

/-- The constant that scales the scores. -/
theorem score_scale : Named.named (F := Ideal) κ "score_scale" (φ := .f32) 0x3DB504F3#32 = (((Real.sqrt 128)⁻¹ : ℝ) : EReal) :=
  IdealRules.named_const.ideal_named_scalar _ _ _ _ rfl
/-- The constant that turns a natural logarithm into one to base two. -/
theorem ln2 : Named.named (F := Ideal) κ "ln2" (φ := .f32) 0x3F317218#32 = ((Real.log 2 : ℝ) : EReal) :=
  IdealRules.named_const.ideal_named_scalar _ _ _ _ rfl

variable (v0 : Vec Ideal S2x524288x128 .bf16) (v2 : Vec Ideal S2x32768x128 .bf16) (b : Fin 2) (r : Fin 524288) (s : ℕ → EReal)

/-- `s j` is the unscaled score of key `j` against row `r`. -/
def IsScore : Prop := ∀ j : Fin 32768, ∑ d : Fin 128, v0 (ix3 b r d) * v2 (ix3 b j d) = s j.val

/-- The masked, scaled scores. -/
theorem scores_at (hs : IsScore v0 v2 b r s) (j : Fin 32768) :
    k0_pay1 v0 v2 (ix3 b r j) = Row.mask (r.val / 16) (fun j => s j * (sigma : EReal)) j.val := by
  pointwise [k0_pay1]
  have hr := r.isLt
  have hj := j.isLt
  rw [token_word r.val (by omega), score_scale, hs j, Consts.ofBits_bot]
  have hw := WordCmp.cmpi_sle_ofNat_eq_one_iff (w := 32) (a := j.val) (b := r.val / 16) (by simp; omega) (by simp; omega)
  by_cases h : j.val ≤ r.val / 16
  · exact (if_pos (hw.2 h)).trans (if_pos h).symm
  · exact (if_neg fun e => h (hw.1 e)).trans (if_neg h).symm

/-- A maximum over all the keys, as a maximum over numbers. -/
theorem sup_fin {n : ℕ} (f : ℕ → EReal) : (Finset.univ : Finset (Fin n)).sup (fun x => f x.val) = (Finset.range n).sup f := by
  refine le_antisymm (Finset.sup_le fun x _ => Finset.le_sup (f := f) (Finset.mem_range.2 x.isLt)) (Finset.sup_le fun j hj => ?_)
  exact Finset.le_sup (f := fun x : Fin n => f x.val) (Finset.mem_univ ⟨j, Finset.mem_range.1 hj⟩)

/-- The same for a fold. -/
theorem fold_fin {n : ℕ} (f : ℕ → EReal) : Finset.fold max ⊥ (fun x : Fin n => f x.val) Finset.univ = (Finset.range n).sup f := sup_fin f

/-- The row's maximum. -/
theorem top_at (hs : IsScore v0 v2 b r s) :
    k0_pay2 v0 v2 (ix3 b r 0) = Row.top (r.val / 16) s * (sigma : EReal) := by
  pointwise [k0_pay2]
  have hr := r.isLt
  simp only [scores_at v0 v2 b r s hs]
  rw [Consts.ofBits_bot, ← Row.top_mul _ _ sigma_nonneg, ← Row.mask_sup (t := r.val / 16) (N := 32768) (by omega), fold_fin]

/-- The exponential of the scaled difference, of an extended real and one at least as large. -/
theorem exp_power (x y : EReal) (h : x ≤ y) : Ideal.exp (x * (sigma : EReal) - y * (sigma : EReal)) = ((Row.power sigma x y : ℝ) : EReal) := by
  have hc : 0 < sigma := by unfold sigma; positivity
  induction x with
  | bot =>
    rw [EReal.bot_mul_coe_of_pos hc, EReal.bot_sub, Row.power_bot]
    exact Ideal.exp_bot
  | top =>
    rw [top_le_iff.1 h, EReal.top_mul_coe_of_pos hc, Row.power_top]
    exact Ideal.exp_bot
  | coe a =>
    induction y with
    | bot => exact absurd h (by simp)
    | top =>
      rw [EReal.top_mul_coe_of_pos hc, Row.power_to_top, ← EReal.coe_mul]
      exact Ideal.exp_bot
    | coe b =>
      rw [Row.power_coe, ← EReal.coe_mul, ← EReal.coe_mul, ← EReal.coe_sub, ← sub_mul]
      exact Ideal.exp_coe _

/-- Scaling the masked scores scales the scores. -/
theorem mask_scaled (t : ℕ) (s : ℕ → EReal) (j : ℕ) : Row.mask t (fun j => s j * (sigma : EReal)) j = Row.mask t s j * (sigma : EReal) := by
  unfold Row.mask
  split
  · rfl
  · rw [EReal.bot_mul_coe_of_pos (by unfold sigma; positivity)]

/-- The exponentials are the softmax numerators. -/
theorem weight_at (hs : IsScore v0 v2 b r s) (j : Fin 32768) :
    Ideal.exp (k0_pay1 v0 v2 (ix3 b r j) - k0_pay2 v0 v2 (ix3 b r 0)) = ((Row.weight sigma (r.val / 16) s j.val : ℝ) : EReal) := by
  rw [scores_at v0 v2 b r s hs, top_at v0 v2 b r s hs]
  exact (congrArg (fun z => Ideal.exp (z - _)) (mask_scaled _ _ _)).trans (exp_power _ _ (Row.mask_le_top _ _ _))

/-- Their sum is the softmax denominator. -/
theorem mass_at (hs : IsScore v0 v2 b r s) : k0_pay3 v0 v2 (ix3 b r 0) = ((Row.mass sigma (r.val / 16) s : ℝ) : EReal) := by
  pointwise [k0_pay3]
  have hr := r.isLt
  simp only [weight_at v0 v2 b r s hs]
  rw [← Row.sum_weight (t := r.val / 16) (N := 32768) (by omega), ← Row.coe_sum, Finset.sum_range]

/-- The largest weight in units of 448. -/
theorem peak_eq (t : ℕ) (hm : 1 ≤ Row.mass sigma t s) : Ideal.div 1 ((Row.mass sigma t s : ℝ) : EReal) * Ideal.ofBits FTy.f32 991054117#32 = ((Row.peak sigma t s : ℝ) : EReal) := by
  rw [Ideal.div_coe (zero_lt_one.trans_le hm).ne', one_mul, Consts.ofBits_unit, ← EReal.coe_mul, one_div, Row.peak]

/-- The row's exponent. -/
theorem expnt_eq (t : ℕ) (hm : 1 ≤ Row.mass sigma t s) : (if ((Row.peak sigma t s : ℝ) : EReal) = 0 then (0 : EReal)
    else Ideal.liftRound Int.floor (Ideal.div (Ideal.log ((Row.peak sigma t s : ℝ) : EReal)) (Named.named (F := Ideal) κ "ln2" (φ := .f32) 1060205080#32)) + 1)
      = (((Row.expnt sigma t s : ℤ) : ℝ) : EReal) := by
  have hp := Row.peak_pos hm
  rw [if_neg (by rw [EReal.coe_eq_zero]; exact hp.ne'), ln2, Ideal.log_coe, if_neg (by linarith), Ideal.div_coe (Real.log_pos (by norm_num)).ne',
    ← EReal.coe_mul, Ideal.liftRound_coe, ← EReal.coe_one, ← EReal.coe_add, Row.expnt]
  congr 1
  push_cast
  rw [mul_one_div]

/-- Two to an integer. -/
theorem exp2_int (e : ℤ) : Ideal.exp2 (((e : ℤ) : ℝ) : EReal) = (((2 : ℝ) ^ e : ℝ) : EReal) := by
  rw [Ideal.exp2_coe]
  exact congrArg _ (Real.rpow_intCast 2 e)
/-- Two to its negation. -/
theorem exp2_neg_int (e : ℤ) : Ideal.exp2 (0 - (((e : ℤ) : ℝ) : EReal)) = (((2 : ℝ) ^ (-e) : ℝ) : EReal) := by
  rw [← exp2_int, ← EReal.coe_zero, ← EReal.coe_sub, zero_sub, Int.cast_neg]

/-- A row without a denominator has the largest of exponents, and its weights are scaled by zero. -/
theorem lost : Ideal.exp2 (0 - (if Ideal.div 1 0 * Ideal.ofBits FTy.f32 991054117#32 = 0 then (0 : EReal)
    else Ideal.liftRound Int.floor (Ideal.div (Ideal.log (Ideal.div 1 0 * Ideal.ofBits FTy.f32 991054117#32))
      (Named.named (F := Ideal) κ "ln2" (φ := .f32) 1060205080#32)) + 1)) = 0 := by
  have h1 : Ideal.div 1 0 = ⊤ := by unfold Ideal.div; rw [if_pos rfl, if_pos zero_lt_one]
  have h2 : (0 : ℝ) < 1 / Real.log 2 := one_div_pos.2 (Real.log_pos (by norm_num))
  rw [h1, Consts.ofBits_unit, EReal.top_mul_coe_of_pos (by unfold Row.unit; norm_num), if_neg (by simp), ln2,
    show Ideal.log ⊤ = ⊤ from rfl, Ideal.div_coe (Real.log_pos (by norm_num)).ne', EReal.top_mul_coe_of_pos h2]
  exact Ideal.exp2_bot

variable (v71 : Vec Ideal S2x128x32768 .fp8e4m3) (v76 : Vec Ideal S2x1x128 .f32)

/-- The output. -/
theorem out_at (hs : IsScore v0 v2 b r s) (t : Fin 32768) (h : Fin 16) (hr : r.val = 16 * t.val + h.val) (d : Fin 128) (c : Fin 2048)
    (hc : c.val = 128 * h.val + d.val) :
    k0_pay4 (k0_pay1 v0 v2) (k0_pay2 v0 v2) (k0_pay3 v0 v2) v71 v76 (ix3 b t c)
      = Row.out sigma t.val s (fun j => v71 (ix3 b d ⟨j % 32768, Nat.mod_lt _ (by decide)⟩)) (v76 (ix3 b 0 d)) := by
  have e3 : r.val / 16 = t.val := by omega
  have hw := weight_at v0 v2 b r s hs
  have hl := mass_at v0 v2 b r s hs
  rw [e3] at hw hl
  rw [read_out _ _ _ v71 v76 b t c r (by omega) d (by omega)]
  simp only [hw, hl]
  rcases Row.mass_cases sigma t.val s with hm | hm
  · simp only [Row.weight_of_mass hm, hm, EReal.coe_zero]
    rw [Row.out_of_mass hm]
    unfold exponent
    rw [lost, Consts.ofBits_448, Consts.ofBits_neg448, mul_zero, Row.clip_zero]
    simp only [zero_mul, Finset.sum_const_zero]
  unfold exponent
  rw [peak_eq s t.val hm, expnt_eq s t.val hm, exp2_int, exp2_neg_int, Row.out, Finset.sum_range]
  refine congrArg₂ (· * ·) (congrArg₂ (· * ·) (Finset.sum_congr rfl fun x _ => ?_) rfl) rfl
  rw [Ideal.div_coe (zero_lt_one.trans_le hm).ne', Consts.ofBits_448, Consts.ofBits_neg448, ← EReal.coe_mul, ← EReal.coe_mul, Row.clip_coe,
    mul_one_div, ← Row.code]
  refine congrArg _ (congrArg v71 (congrArg (ix3 b d) (Fin.ext ?_)))
  show x.val = x.val % 32768
  have := x.isLt
  omega

end Cert.ReferenceIdeal.Attend

end
-- ==== Proof.RefArray.lean ====
/- The array the reference leaves is the result. -/
module

public import proofs.«01_k».proof.Proof.RefQueries
public import proofs.«01_k».proof.Proof.RefValue
public import proofs.«01_k».proof.Proof.Result
public import Idealize.ShloMosaic.Lib.Pipeline.ValueKit

@[expose] public section

set_option maxRecDepth 16384

noncomputable section

namespace Cert.ReferenceIdeal.Attend

open Idealize.ShloMosaic Idealize.ShloMosaic.TcCoe Cert.ReferenceIdeal Cert.ReferenceIdeal.Gen

variable (m : (ℓ : Loc nD τ sig) → Buf (Elt Ideal) ℓ)

/-- The queries' window's one block starts at zero. -/
theorem index0 : ∀ (t : Fin cfg0.N) (a : Fin 3), win0_0.index t a = 0 := by decide +kernel
/-- The keys' window's one block starts at zero. -/
theorem index1 : ∀ (t : Fin cfg0.N) (a : Fin 3), win0_1.index t a = 0 := by decide +kernel
/-- The values' window's one block starts at zero. -/
theorem index2 : ∀ (t : Fin cfg0.N) (a : Fin 3), win0_2.index t a = 0 := by decide +kernel
/-- The scales' window's one block starts at zero. -/
theorem index3 : ∀ (t : Fin cfg0.N) (a : Fin 3), win0_3.index t a = 0 := by decide +kernel
/-- The output's window's one block starts at zero. -/
theorem index4 : ∀ (t : Fin cfg0.N) (a : Fin 3), win0_4.index t a = 0 := by decide +kernel

/-- The one point's block of queries is the whole array of rows. -/
theorem whole0 (c : Dev nD) (t : Fin cfg0.N) (b : Fin 2) (r : Fin 524288) (d : Fin 128) :
    iblk m c 0 t (ix3 b r d) = V m c main_v2 (ix3 b r d) := by
  blk_simp [iblk]
  refine congrArg (V m c main_v2) ?_
  blk_ext [index0]
/-- The block of keys is the whole array. -/
theorem whole1 (c : Dev nD) (t : Fin cfg0.N) (b : Fin 2) (j : Fin 32768) (d : Fin 128) :
    iblk m c 1 t (ix3 b j d) = m ((c : Thread nD τ).loc main_arg1) (ix3 b j d) := by
  rw [← V_main_arg1 m c]
  blk_simp [iblk]
  refine congrArg (V m c main_arg1) ?_
  blk_ext [index1]
/-- The block of values is the whole array. -/
theorem whole2 (c : Dev nD) (t : Fin cfg0.N) (b : Fin 2) (d : Fin 128) (j : Fin 32768) :
    iblk m c 2 t (ix3 b d j) = m ((c : Thread nD τ).loc main_arg2) (ix3 b d j) := by
  rw [← V_main_arg2 m c]
  blk_simp [iblk]
  refine congrArg (V m c main_arg2) ?_
  blk_ext [index2]
/-- The block of scales is the whole array. -/
theorem whole3 (c : Dev nD) (t : Fin cfg0.N) (b : Fin 2) (d : Fin 128) :
    iblk m c 3 t (ix3 b 0 d) = m ((c : Thread nD τ).loc main_arg3) (ix3 b 0 d) := by
  rw [← V_main_arg3 m c]
  blk_simp [iblk]
  refine congrArg (V m c main_arg3) ?_
  blk_ext [index3]

/-- Three zero offsets. -/
theorem zeros : (![0, 0, 0] : Fin 3 → ℕ) = fun _ => 0 := by decide

/-- The output block is the body's value of the four input blocks. -/
theorem out_eq (x0 : Vec Ideal S2x524288x128 .bf16) (x1 : Vec Ideal S2x32768x128 .bf16) (x2 : Vec Ideal S2x128x32768 .fp8e4m3)
    (x3 : Vec Ideal S2x1x128 .f32) : out0_4 x0 x1 x2 x3 = k0_pay4 (k0_pay1 x0 x1) (k0_pay2 x0 x1) (k0_pay3 x0 x1) x2 x3 := by
  rw [out0_4, View.canon_unit_zero zeros, View.ld_unit_zero zeros, View.ld_unit_zero zeros, View.ld_unit_zero zeros, View.ld_unit_zero zeros]

/-- The array the run leaves is the result. -/
theorem array (c : Dev nD) : (dats m 0 c).arrAt 4 cfg0.N
    = Result.array (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t hf y => ?_
  blk_simp
  rw [after0_4, out_eq]
  obtain ⟨b, p, d, rfl⟩ : ∃ (b : Fin 2) (p : Fin 32768) (d : Fin 2048), y = ix3 b p d := ⟨y 0, y 1, y 2, by
    funext a
    match a with
    | ⟨0, _⟩ => rfl
    | ⟨1, _⟩ => rfl
    | ⟨2, _⟩ => rfl⟩
  have hp := p.isLt
  have hd := d.isLt
  have hr : 16 * p.val + d.val / 128 < 524288 := by omega
  have e : (win0_4.blk t).view.emb (ix3 b p d) = ix3 b p d := by blk_ext [index4]
  have hs : IsScore (iblk m c 0 t) (iblk m c 1 t) b ⟨16 * p.val + d.val / 128, hr⟩ (Result.score (m ((c : Thread nD τ).loc main_arg0))
      (m ((c : Thread nD τ).loc main_arg1)) b p ⟨d.val / 128, by omega⟩) := fun j => by
    unfold Result.score
    refine Finset.sum_congr rfl fun x _ => ?_
    rw [whole0, whole1, rows_at m c b _ x p ⟨d.val / 128, by omega⟩ rfl, mul_comm]
    refine congrArg₂ (· * ·) (congrArg (m ((c : Thread nD τ).loc main_arg1)) (congrArg (fun z => ix3 b z x) (Fin.ext ?_))) rfl
    show j.val = j.val % 32768
    have := j.isLt
    omega
  rw [out_at _ _ _ _ _ _ _ hs p ⟨d.val / 128, by omega⟩ rfl ⟨d.val % 128, by omega⟩ d (by show d.val = 128 * (d.val / 128) + d.val % 128; omega)]
  rw [e]
  unfold Result.array Result.result
  rw [whole3]
  simp only [whole2]
  rfl

end Cert.ReferenceIdeal.Attend

end
-- ==== Proof.Quant.lean ====
/- Quantizing a group of numbers by a power of two: the exponent the group's largest magnitude asks for, the two ways the programs
   compute it — by a logarithm, and by counting the powers of two it reaches — and the codes. -/
module

public import proofs.«01_k».proof.Proof.Consts

@[expose] public section

set_option maxRecDepth 16384

noncomputable section

namespace Cert.Quant

open Idealize.ShloMosaic

/-- The largest magnitudes for which counting is exact: zero, or such that a 448th of it is a power of two the count can reach. -/
def Fine (a : EReal) : Prop := a = 0 ∨ ∃ r : ℝ, a = (r : EReal) ∧ 448 * (2 : ℝ) ^ (-127 : ℤ) ≤ r ∧ r ≤ (2 : ℝ) ^ (128 : ℤ)

/-- The exponent of a group whose largest magnitude is `a`. -/
def expnt (a : EReal) : ℤ := if a.toReal * Row.unit = 0 then 0 else ⌊Real.log (a.toReal * Row.unit) / Real.log 2⌋ + 1

/-- The unit is positive. -/
theorem unit_pos : 0 < Row.unit := by unfold Row.unit; norm_num
/-- A power of two is reached exactly if its exponent is at most the logarithm. -/
theorem zpow_le {y : ℝ} (hy : 0 < y) (z : ℤ) : (2 : ℝ) ^ z ≤ y ↔ z ≤ ⌊Real.log y / Real.log 2⌋ := by
  rw [Int.le_floor, le_div_iff₀ (Real.log_pos (by norm_num)), ← Real.log_zpow, Real.log_le_log_iff (by positivity) hy]

/-- A 448th of a nonzero fine magnitude. -/
theorem fine_range {r : ℝ} (h0 : 448 * (2 : ℝ) ^ (-127 : ℤ) ≤ r) (h1 : r ≤ (2 : ℝ) ^ (128 : ℤ)) :
    (2 : ℝ) ^ (-127 : ℤ) ≤ r * Row.unit ∧ r * Row.unit < (2 : ℝ) ^ (121 : ℤ) := by
  have e : (2 : ℝ) ^ (128 : ℤ) = 128 * (2 : ℝ) ^ (121 : ℤ) := by
    rw [show (128 : ℤ) = 7 + 121 by norm_num, zpow_add₀ (by norm_num)]; norm_num
  have p : 0 < (2 : ℝ) ^ (-127 : ℤ) := by positivity
  have q : 0 < (2 : ℝ) ^ (121 : ℤ) := by positivity
  rw [e] at h1
  generalize (2 : ℝ) ^ (-127 : ℤ) = P at *
  generalize (2 : ℝ) ^ (121 : ℤ) = Q at *
  unfold Row.unit
  constructor <;> norm_num <;> linarith

/-- The exponents of fine magnitudes. -/
theorem expnt_fine {a : EReal} (h : Fine a) : ∃ n : Fin 253, expnt a = (n.val : ℤ) - 126 := by
  have key : -126 ≤ expnt a ∧ expnt a ≤ 126 := by
    rcases h with rfl | ⟨r, rfl, h0, h1⟩
    · simp [expnt]
    · obtain ⟨l, u⟩ := fine_range h0 h1
      have hy : 0 < r * Row.unit := lt_of_lt_of_le (by positivity) l
      rw [expnt, EReal.toReal_coe, if_neg hy.ne']
      have a1 := (zpow_le hy _).1 l
      have a2 : ¬ (121 : ℤ) ≤ ⌊Real.log (r * Row.unit) / Real.log 2⌋ := fun c => absurd ((zpow_le hy _).2 c) (not_le.2 u)
      omega
  exact ⟨⟨(expnt a + 126).toNat, by omega⟩, by simp; omega⟩

/-- The words the programs make of an exponent. -/
theorem words : ∀ n : Fin 253, IntOp.addi (Consts.word ((n.val : ℤ) - 126)) 127#32 = BitVec.ofNat 32 (n.val + 1)
    ∧ IntOp.addi (IntOp.subi 0#32 (Consts.word ((n.val : ℤ) - 126))) 127#32 = BitVec.ofNat 32 (253 - n.val)
    ∧ IntOp.subi (BitVec.ofNat 32 n.val) 126#32 = Consts.word ((n.val : ℤ) - 126) := by decide +kernel

/-- The power of two of an exponent, written as bits. -/
theorem pow {a : EReal} (h : Fine a) : Ideal.ofBits .f32 (IntOp.shli .vector (IntOp.addi (Consts.word (expnt a)) 127#32) 23#32)
    = (((2 : ℝ) ^ expnt a : ℝ) : EReal) := by
  obtain ⟨n, hn⟩ := expnt_fine h
  have := n.isLt
  rw [hn, (words n).1, Consts.ofBits_pow _ (by omega) (by omega)]
  refine congrArg (fun z : ℤ => (((2 : ℝ) ^ z : ℝ) : EReal)) ?_
  push_cast
  ring
/-- The power of two of its negation, written as bits. -/
theorem neg_pow {a : EReal} (h : Fine a) :
    Ideal.ofBits .f32 (IntOp.shli .vector (IntOp.addi (IntOp.subi 0#32 (Consts.word (expnt a))) 127#32) 23#32)
      = (((2 : ℝ) ^ (-expnt a) : ℝ) : EReal) := by
  obtain ⟨n, hn⟩ := expnt_fine h
  have := n.isLt
  rw [hn, (words n).2.1, Consts.ofBits_pow _ (by omega) (by omega)]
  refine congrArg (fun z : ℤ => (((2 : ℝ) ^ z : ℝ) : EReal)) ?_
  omega

/-- The exponent by counting: zero for zero, otherwise how many of the powers of two from `-126` up it reaches, less 126. -/
def count (a : EReal) : BitVec 32 :=
  if a * Ideal.ofBits FTy.f32 991054117#32 = 0 then 0#32
  else IntOp.subi (Finset.fold IntOp.addi (0#32) (fun x : Fin 255 =>
    if Ideal.ofBits FTy.f32 (IntOp.shli ArithUnit.vector (IntOp.addi (IntOp.subi (BitVec.ofNat 32 x.val) 126#32) 127#32) 23#32)
      ≤ a * Ideal.ofBits FTy.f32 991054117#32 then 1#32 else 0#32) Finset.univ) 126#32

/-- Counting gives the exponent. -/
theorem count_eq {a : EReal} (h : Fine a) : count a = Consts.word (expnt a) := by
  have h' := h
  rcases h' with rfl | ⟨r, rfl, h0, h1⟩
  · simp [count, expnt, Consts.word]
  · obtain ⟨l, u⟩ := fine_range h0 h1
    have hy : 0 < r * Row.unit := lt_of_lt_of_le (by positivity) l
    obtain ⟨n, hn⟩ := expnt_fine h
    have hf : ⌊Real.log (r * Row.unit) / Real.log 2⌋ = (n.val : ℤ) - 127 := by
      rw [expnt, EReal.toReal_coe, if_neg hy.ne'] at hn
      omega
    have key : ∀ x : Fin 255, (Ideal.ofBits .f32 (IntOp.shli .vector (IntOp.addi (IntOp.subi (BitVec.ofNat 32 x.val) 126#32) 127#32) 23#32)
        ≤ ((r * Row.unit : ℝ) : EReal)) ↔ x.val < n.val := by
      intro x
      have := n.isLt
      rw [Consts.step_word x]
      by_cases hx : x.val + 1 < 255
      · rw [Consts.ofBits_pow _ (by omega) hx, EReal.coe_le_coe_iff, zpow_le hy, hf]
        push_cast; omega
      · rw [show x.val + 1 = 255 by omega, Consts.ofBits_top]
        simp only [top_le_iff, EReal.coe_ne_top, false_iff]
        omega
    rw [count, Consts.ofBits_unit, ← EReal.coe_mul, if_neg (by rw [EReal.coe_eq_zero]; exact hy.ne')]
    simp only [key]
    have := n.isLt
    rw [Consts.fold_count (n := 255) (fun x => x < n.val), show ((Finset.range 255).filter fun x => x < n.val).card = n.val from ?_, (words n).2.2, hn]
    rw [show (Finset.range 255).filter (fun x => x < n.val) = Finset.range n.val from ?_, Finset.card_range]
    ext x; simp; omega

/-- The exponent by the logarithm, whose base two is given by the logarithm `l` of two. -/
def logged (l a : EReal) : EReal :=
  if a * Ideal.ofBits FTy.f32 991054117#32 = 0 then 0
  else Ideal.liftRound Int.floor (Ideal.div (Ideal.log (a * Ideal.ofBits FTy.f32 991054117#32)) l) + 1

/-- The logarithm gives the exponent. -/
theorem logged_eq {a : EReal} (h : Fine a) : logged ((Real.log 2 : ℝ) : EReal) a = (((expnt a : ℤ) : ℝ) : EReal) := by
  rcases h with rfl | ⟨r, rfl, h0, h1⟩
  · simp [logged, expnt]
  · obtain ⟨l, u⟩ := fine_range h0 h1
    have hy : 0 < r * Row.unit := lt_of_lt_of_le (by positivity) l
    rw [logged, expnt, EReal.toReal_coe, if_neg hy.ne', Consts.ofBits_unit, ← EReal.coe_mul, if_neg (by rw [EReal.coe_eq_zero]; exact hy.ne'),
      Ideal.log_coe, if_neg (by linarith), Ideal.div_coe (Real.log_pos (by norm_num)).ne', ← EReal.coe_mul, Ideal.liftRound_coe,
      ← EReal.coe_one, ← EReal.coe_add, mul_one_div]
    refine congrArg _ ?_
    push_cast
    rfl

/-- Two to an integer. -/
theorem exp2_int (e : ℤ) : Ideal.exp2 (((e : ℤ) : ℝ) : EReal) = (((2 : ℝ) ^ e : ℝ) : EReal) := by
  rw [Ideal.exp2_coe]
  exact congrArg _ (Real.rpow_intCast 2 e)
/-- Two to its negation. -/
theorem exp2_neg_int (e : ℤ) : Ideal.exp2 (0 - (((e : ℤ) : ℝ) : EReal)) = (((2 : ℝ) ^ (-e) : ℝ) : EReal) := by
  rw [← exp2_int, ← EReal.coe_zero, ← EReal.coe_sub, zero_sub, Int.cast_neg]

/-- A fine exponent as an integer word. -/
theorem to_word {a : EReal} (h : Fine a) : Ideal.fptosi 32 (((expnt a : ℤ) : ℝ) : EReal) = Consts.word (expnt a) := by
  obtain ⟨n, hn⟩ := expnt_fine h
  have := n.isLt
  have e : Ideal.toIntClamped (-(2 ^ (32 - 1) : ℕ)) ((2 ^ (32 - 1) : ℕ) - 1) (((expnt a : ℤ) : ℝ) : EReal) = expnt a := by
    rw [Ideal.toIntClamped_coe]
    simp only [Int.floor_intCast, Int.ceil_intCast, ite_self]
    norm_num
    omega
  unfold Ideal.fptosi
  rw [e]
  rfl

/-- The code of `w` in a group of exponent `e`: `w` over the power of two, kept within the largest code. -/
def code (w : EReal) (e : ℤ) : EReal :=
  min (Ideal.ofBits FTy.f32 1138753536#32) (max (Ideal.ofBits FTy.f32 3286237184#32) (w * (((2 : ℝ) ^ (-e) : ℝ) : EReal)))
/-- The exponent's byte. -/
def byte (e : ℤ) : BitVec 8 := BitVec.setWidth 8 (IntOp.addi (Consts.word e) 127#32)

end Cert.Quant

end
-- ==== Proof.KvResult.lean ====
/- The six arrays of the quantized keys and values. The keys are quantized in groups of 32 components, the values in one group to a
   component. -/
module

public import proofs.«01_k».proof.Proof.Quant

@[expose] public section

noncomputable section

namespace Cert.KvResult

open Idealize.ShloMosaic

/-- The keys, and the values. -/
abbrev Rows : Type := (⟨3, ![2, 32768, 128]⟩ : Shape).Idx → EReal

/-- The largest magnitude of a group of a key. -/
def keyPeak (k : Rows) (b : Fin 2) (t : Fin 32768) (g : Fin 4) : EReal :=
  Finset.fold max ⊥ (fun x : Fin 32 => max (k (ix3 b t ⟨g.val * 32 + x.val, by omega⟩)) (-k (ix3 b t ⟨g.val * 32 + x.val, by omega⟩))) Finset.univ
/-- The largest magnitude of a component of the values. -/
def valPeak (v : Rows) (b : Fin 2) (d : Fin 128) : EReal :=
  Finset.fold max ⊥ (fun x : Fin 32768 => max (v (ix3 b x d)) (-v (ix3 b x d))) Finset.univ

/-- The exponent of a group of a key. -/
def keyExp (k : Rows) (b : Fin 2) (t : Fin 32768) (g : Fin 4) : ℤ := Quant.expnt (keyPeak k b t g)
/-- The exponent of a component of the values. -/
def valExp (v : Rows) (b : Fin 2) (d : Fin 128) : ℤ := Quant.expnt (valPeak v b d)
/-- The group of a component. -/
def group (d : Fin 128) : Fin 4 := ⟨d.val / 32, by omega⟩

/-- The keys' codes. -/
def keyCodes (k : Rows) : (⟨3, ![2, 32768, 128]⟩ : Shape).Idx → EReal := fun y =>
  Quant.code (k (ix3 (y 0) (y 1) (y 2))) (keyExp k (y 0) (y 1) (group (y 2)))
/-- The keys' exponents, a byte each. -/
def keyBytes (k : Rows) : (⟨3, ![2, 32768, 4]⟩ : Shape).Idx → BitVec 8 := fun y => Quant.byte (keyExp k (y 0) (y 1) (y 2))
/-- The keys read back from their codes. -/
def keyWide (k : Rows) : (⟨3, ![2, 32768, 128]⟩ : Shape).Idx → EReal := fun y =>
  Quant.code (k (ix3 (y 0) (y 1) (y 2))) (keyExp k (y 0) (y 1) (group (y 2))) * (((2 : ℝ) ^ keyExp k (y 0) (y 1) (group (y 2)) : ℝ) : EReal)
/-- The values' codes. -/
def valCodes (v : Rows) : (⟨3, ![2, 32768, 128]⟩ : Shape).Idx → EReal := fun y =>
  Quant.code (v (ix3 (y 0) (y 1) (y 2))) (valExp v (y 0) (y 2))
/-- The values' scales. -/
def valScale (v : Rows) : (⟨3, ![2, 1, 128]⟩ : Shape).Idx → EReal := fun y => (((2 : ℝ) ^ valExp v (y 0) (y 2) : ℝ) : EReal)
/-- The values' codes, one token to a column. -/
def valColumns (v : Rows) : (⟨3, ![2, 128, 32768]⟩ : Shape).Idx → EReal := fun y =>
  Quant.code (v (ix3 (y 0) (y 2) (y 1))) (valExp v (y 0) (y 1))

/-- An index of three coordinates is the triple of them. -/
theorem triple {n0 n1 n2 : ℕ} (y : (⟨3, ![n0, n1, n2]⟩ : Shape).Idx) : y = ix3 (y 0) (y 1) (y 2) := by
  funext a
  match a with
  | ⟨0, _⟩ => rfl
  | ⟨1, _⟩ => rfl
  | ⟨2, _⟩ => rfl

end Cert.KvResult

end
-- ==== Proof.KvStage.lean ====
/- The quantizer kernel's block of keys: its four groups of columns, each quantized by itself, side by side. -/
module

public import proofs.«01_k».proof.Proof.KvResult
public import proofs.«01_k».proof.Proof.Gen.KernelKVIdeal.Skeleton
public import Idealize.ShloMosaic.Lib.Pipeline.Value

@[expose] public section

set_option maxRecDepth 16384

noncomputable section

namespace Cert.KernelKVIdeal.Quantize

open Idealize.ShloMosaic Cert.KernelKVIdeal Cert.KernelKVIdeal.Gen

/-! ### One group of columns -/

/-- The first group's columns; the others' are the program's own terms. -/
def cut0 (w : FVec Ideal S2048x128 .f32) : FVec Ideal S2048x32 .f32 := extractStridedSlice S2048x32 ![0, 0] w slices_S2048x128_o0_0_S2048x32
/-- Each row's largest magnitude. -/
def peaks (s : FVec Ideal S2048x32 .f32) : FVec Ideal S2048 .f32 :=
  multiReduction .maximumf [1] S2048 (absf s) 0xFF800000#32 reduces_S2048x32_S2048 (.inl rfl) rfl
/-- Each row's exponent, of the largest magnitudes. -/
def counts (p : FVec Ideal S2048 .f32) : IVec S2048x1 32 :=
  have v14 : FVec Ideal S2048x1 .f32 := mulf (shapeCast S2048x1 p shapeCasts_S2048_S2048x1) (broadcast S2048x1 (Scalar.ofBits .f32 0x3B124925#32))
  have v21 : IVec S2048x255 32 := shli (addi (subi (iota .tc S2048x255 32 [1] iota_S2048x255_d1_w32) (broadcast S2048x255 126#32))
    (broadcast S2048x255 127#32)) (broadcast S2048x255 23#32)
  have v24 : IVec S2048x255 1 := cmpf .oge (broadcastTo S2048x255 v14 broadcasts_S2048x1_S2048x255) (bitcastToFloat .f32 v21)
  have v30 : IVec S2048 32 := multiReductionI .add [1] S2048 (select v24 (broadcast S2048x255 1#32) (broadcast S2048x255 0#32)) 0#32
    reduces_S2048x255_S2048 rfl
  select (cmpf .oeq v14 (broadcast S2048x1 (Scalar.ofBits .f32 0x00000000#32))) (broadcast S2048x1 0#32)
    (subi (shapeCast S2048x1 v30 shapeCasts_S2048_S2048x1) (broadcast S2048x1 126#32))
/-- The group's codes. -/
def codes (s : FVec Ideal S2048x32 .f32) (e : IVec S2048x1 32) : FVec Ideal S2048x32 .fp8e4m3 :=
  truncf .fp8e4m3 (minimumf (broadcast S2048x32 (Scalar.ofBits .f32 0x43E00000#32)) (maximumf (broadcast S2048x32 (Scalar.ofBits .f32 0xC3E00000#32))
    (mulf s (broadcastTo S2048x32 (bitcastToFloat .f32 (shli (addi (subi (broadcast S2048x1 0#32) e) (broadcast S2048x1 127#32))
      (broadcast S2048x1 23#32))) broadcasts_S2048x1_S2048x32)))) bitsLt_fp8e4m3_f32
/-- The group's exponents above the bias. -/
def biased (e : IVec S2048x1 32) : IVec S2048x1 32 := addi e (broadcast S2048x1 127#32)
/-- The group read back. -/
def wide (c : FVec Ideal S2048x32 .fp8e4m3) (e : IVec S2048x1 32) : FVec Ideal S2048x32 .bf16 :=
  truncf .bf16 (mulf (extf .f32 c bitsLt_fp8e4m3_f32) (broadcastTo S2048x32 (bitcastToFloat .f32 (shli (addi e (broadcast S2048x1 127#32))
    (broadcast S2048x1 23#32))) broadcasts_S2048x1_S2048x32)) bitsLt_bf16_f32

/-- A number's code, of its group's exponent as a word. -/
def rawCode (a : EReal) (e : BitVec 32) : EReal := min (Ideal.ofBits FTy.f32 1138753536#32) (max (Ideal.ofBits FTy.f32 3286237184#32)
  (a * Ideal.ofBits .f32 (IntOp.shli .vector (IntOp.addi (IntOp.subi 0#32 e) 127#32) 23#32)))
/-- The power of two of an exponent word. -/
def rawPow (e : BitVec 32) : EReal := Ideal.ofBits .f32 (IntOp.shli .vector (IntOp.addi e 127#32) 23#32)

/-- A row's largest magnitude. -/
theorem peaks_read (s : FVec Ideal S2048x32 .f32) (r : Fin 2048) :
    peaks s (ix1 r) = Finset.fold max ⊥ (fun x : Fin 32 => max (s (ix2 r x)) (-s (ix2 r x))) Finset.univ := by
  pointwise [peaks]
  rw [Consts.ofBits_bot]
  exact congrArg (fun f => Finset.fold max ⊥ f Finset.univ) (funext fun x => rfl)
/-- A row's exponent. -/
theorem counts_read (p : FVec Ideal S2048 .f32) (r : Fin 2048) : counts p (ix2 r 0) = Quant.count (p (ix1 r)) := by
  pointwise [counts]
  rfl
/-- A code. -/
theorem codes_read (s : FVec Ideal S2048x32 .f32) (e : IVec S2048x1 32) (r : Fin 2048) (x : Fin 32) :
    codes s e (ix2 r x) = rawCode (s (ix2 r x)) (e (ix2 r 0)) := by
  pointwise [codes]
  rfl
/-- An exponent above the bias. -/
theorem biased_read (e : IVec S2048x1 32) (r : Fin 2048) : biased e (ix2 r 0) = IntOp.addi (e (ix2 r 0)) 127#32 := by
  pointwise [biased]
/-- A number read back. -/
theorem wide_read (c : FVec Ideal S2048x32 .fp8e4m3) (e : IVec S2048x1 32) (r : Fin 2048) (x : Fin 32) :
    wide c e (ix2 r x) = c (ix2 r x) * rawPow (e (ix2 r 0)) := by
  pointwise [wide]
  rfl

/-- A column of the first group. -/
theorem cut0_read (w : FVec Ideal S2048x128 .f32) (r : Fin 2048) (x : Fin 32) : cut0 w (ix2 r x) = w (ix2 r ⟨0 + x.val, by omega⟩) := by
  pointwise [cut0]
/-- A column of the second group. -/
theorem cut1_read (w : FVec Ideal S2048x128 .f32) (r : Fin 2048) (x : Fin 32) : k0_pay14 w (ix2 r x) = w (ix2 r ⟨32 + x.val, by omega⟩) := by
  pointwise [k0_pay14]
/-- A column of the third group. -/
theorem cut2_read (w : FVec Ideal S2048x128 .f32) (r : Fin 2048) (x : Fin 32) : k0_pay21 w (ix2 r x) = w (ix2 r ⟨64 + x.val, by omega⟩) := by
  pointwise [k0_pay21]
/-- A column of the fourth group. -/
theorem cut3_read (w : FVec Ideal S2048x128 .f32) (r : Fin 2048) (x : Fin 32) : k0_pay29 w (ix2 r x) = w (ix2 r ⟨96 + x.val, by omega⟩) := by
  pointwise [k0_pay29]

end Cert.KernelKVIdeal.Quantize

end
-- ==== Proof.KvBlock.lean ====
/- The quantizer kernel's block of keys: what its three output blocks hold at an index. -/
module

public import proofs.«01_k».proof.Proof.KvStage

@[expose] public section

set_option maxRecDepth 16384

noncomputable section

namespace Cert.KernelKVIdeal.Quantize

open Idealize.ShloMosaic Cert.KernelKVIdeal Cert.KernelKVIdeal.Gen

/-- The exponents of a group of columns. -/
def exps (s : FVec Ideal S2048x32 .f32) : IVec S2048x1 32 := counts (peaks s)
/-- The codes of a group of columns. -/
def coded (s : FVec Ideal S2048x32 .f32) : FVec Ideal S2048x32 .fp8e4m3 := codes s (exps s)

/-- The block's codes. -/
def codesBlock (w : FVec Ideal S2048x128 .f32) : FVec Ideal S1x2048x128 .fp8e4m3 :=
  shapeCast S1x2048x128 (concatenate S2048x128 1 [⟨S2048x32, coded (cut0 w)⟩, ⟨S2048x32, coded (k0_pay14 w)⟩, ⟨S2048x32, coded (k0_pay21 w)⟩,
    ⟨S2048x32, coded (k0_pay29 w)⟩] concatenates_S2048x32_S2048x32_S2048x32_S2048x32_S2048x128_d1) shapeCasts_S2048x128_S1x2048x128
/-- The block's bytes. -/
def bytesBlock (w : FVec Ideal S2048x128 .f32) : IVec S1x2048x4 8 :=
  shapeCast S1x2048x4 (trunci 8 (concatenate S2048x4 1 [⟨S2048x1, biased (exps (cut0 w))⟩, ⟨S2048x1, biased (exps (k0_pay14 w))⟩,
    ⟨S2048x1, biased (exps (k0_pay21 w))⟩, ⟨S2048x1, biased (exps (k0_pay29 w))⟩] concatenates_S2048x1_S2048x1_S2048x1_S2048x1_S2048x4_d1) natLt_8_32)
    shapeCasts_S2048x4_S1x2048x4
/-- The block read back. -/
def wideBlock (w : FVec Ideal S2048x128 .f32) : FVec Ideal S1x2048x128 .bf16 :=
  shapeCast S1x2048x128 (concatenate S2048x128 1 [⟨S2048x32, wide (coded (cut0 w)) (exps (cut0 w))⟩, ⟨S2048x32, wide (coded (k0_pay14 w)) (exps (k0_pay14 w))⟩,
    ⟨S2048x32, wide (coded (k0_pay21 w)) (exps (k0_pay21 w))⟩, ⟨S2048x32, wide (coded (k0_pay29 w)) (exps (k0_pay29 w))⟩]
    concatenates_S2048x32_S2048x32_S2048x32_S2048x32_S2048x128_d1) shapeCasts_S2048x128_S1x2048x128

section Terms
variable (x : Vec Ideal S1x2048x128 .bf16) (w : FVec Ideal S2048x128 .f32)

/-- The program's term for the first group's exponents. -/
theorem exps0_eq : k0_pay9 x = exps (cut0 (k0_pay7 x)) := rfl
/-- The program's term for the second group's exponents. -/
theorem exps1_eq : k0_pay15 w = exps (k0_pay14 w) := rfl
/-- The program's term for the third group's exponents. -/
theorem exps2_eq : k0_pay25 (k0_pay23 w) (k0_pay24 w) = exps (k0_pay21 w) := rfl
/-- The program's term for the fourth group's exponents. -/
theorem exps3_eq : k0_pay32 (k0_pay30 w) (k0_pay31 w) = exps (k0_pay29 w) := rfl
/-- The program's term for the first group's codes. -/
theorem codes0_eq : k0_pay11 (Scalar.ofBits .f32 0x43E00000#32) (k0_pay10 x) = codes (cut0 (k0_pay7 x)) (k0_pay9 x) := rfl
/-- The program's term for the second group's codes. -/
theorem codes1_eq : k0_pay18 (k0_pay14 w) (k0_pay16 w) k0_pay17 = codes (k0_pay14 w) (k0_pay15 w) := rfl
/-- The program's term for the third group's codes. -/
theorem codes2_eq : k0_pay26 (k0_pay21 w) (k0_pay23 w) (k0_pay24 w) = codes (k0_pay21 w) (k0_pay25 (k0_pay23 w) (k0_pay24 w)) := rfl
/-- The program's term for the fourth group's codes. -/
theorem codes3_eq : k0_pay33 (k0_pay29 w) (k0_pay30 w) (k0_pay31 w) = codes (k0_pay29 w) (k0_pay32 (k0_pay30 w) (k0_pay31 w)) := rfl

/-- The program's term for the block's codes. -/
theorem codesBlock_eq (h : w = k0_pay7 x) : k0_pay36 (k0_pay11 (Scalar.ofBits .f32 0x43E00000#32) (k0_pay10 x)) (k0_pay18 (k0_pay14 w) (k0_pay16 w) k0_pay17)
    (k0_pay26 (k0_pay21 w) (k0_pay23 w) (k0_pay24 w)) (k0_pay29 w) (k0_pay30 w) (k0_pay31 w) = codesBlock w := by
  subst h
  unfold k0_pay36
  rw [codes0_eq, codes1_eq, codes2_eq, codes3_eq, exps0_eq, exps1_eq, exps2_eq, exps3_eq]
  rfl
/-- The program's term for the block's bytes. -/
theorem bytesBlock_eq (h : w = k0_pay7 x) : k0_pay37 (k0_pay34 (k0_pay12 (k0_pay9 x)) (k0_pay19 (k0_pay15 w)) (k0_pay27 (k0_pay23 w) (k0_pay24 w))
    (k0_pay30 w) (k0_pay31 w)) = bytesBlock w := by
  subst h
  unfold k0_pay37 k0_pay34 k0_pay27
  rw [exps0_eq, exps1_eq, exps2_eq, exps3_eq]
  rfl
/-- The program's term for the block read back. -/
theorem wideBlock_eq (h : w = k0_pay7 x) : k0_pay38 (k0_pay35 (k0_pay13 (k0_pay9 x) (Scalar.ofBits .f32 0x43E00000#32) (k0_pay10 x))
    (k0_pay20 (k0_pay14 w) (k0_pay15 w) (k0_pay16 w) k0_pay17) (k0_pay28 (k0_pay21 w) (k0_pay23 w) (k0_pay24 w)) (k0_pay29 w) (k0_pay30 w) (k0_pay31 w))
      = wideBlock w := by
  subst h
  unfold k0_pay38 k0_pay35 k0_pay13 k0_pay20 k0_pay28
  rw [codes0_eq, codes1_eq, codes2_eq, codes3_eq, exps0_eq, exps1_eq, exps2_eq, exps3_eq]
  rfl
end Terms

/-- The largest magnitude of a group of a row of the block. -/
def blockPeak (w : FVec Ideal S2048x128 .f32) (r : Fin 2048) (g : Fin 4) : EReal :=
  Finset.fold max ⊥ (fun x : Fin 32 => max (w (ix2 r ⟨g.val * 32 + x.val, by omega⟩)) (-w (ix2 r ⟨g.val * 32 + x.val, by omega⟩))) Finset.univ

/-- Four groups of columns side by side, read in group `k`. -/
theorem side (f : Fin 4 → FVec Ideal S2048x32 .f32) (k : Fin 4) (r : Fin 2048) (x : Fin 32) :
    concatenate S2048x128 1 [⟨S2048x32, f 0⟩, ⟨S2048x32, f 1⟩, ⟨S2048x32, f 2⟩, ⟨S2048x32, f 3⟩]
      concatenates_S2048x32_S2048x32_S2048x32_S2048x32_S2048x128_d1 (ix2 r ⟨k.val * 32 + x.val, by omega⟩) = f k (ix2 r x) := by
  have off : ∀ (d : Fin 128) (b : Fin S2048x32.rank), b.cast rfl ≠ (1 : Fin S2048x128.rank) → ((ix2 r x : S2048x32.Idx) b).val
      = ((ix2 r d : S2048x128.Idx) (b.cast rfl)).val := fun d b hb => by
    match b with
    | ⟨0, _⟩ => rfl
    | ⟨1, _⟩ => exact absurd rfl hb
  match k with
  | ⟨0, _⟩ => exact concatenate_apply_piece (t := S2048x128) 1 _ _ _ 0 (by show 0 < 4; omega) S2048x32 (f 0) rfl rfl 0 rfl (ix2 r x) (off _) (by show 0 + x.val = 0 * 32 + x.val; omega)
  | ⟨1, _⟩ => exact concatenate_apply_piece (t := S2048x128) 1 _ _ _ 1 (by show 1 < 4; omega) S2048x32 (f 1) rfl rfl 32 rfl (ix2 r x) (off _) (by show 32 + x.val = 1 * 32 + x.val; omega)
  | ⟨2, _⟩ => exact concatenate_apply_piece (t := S2048x128) 1 _ _ _ 2 (by show 2 < 4; omega) S2048x32 (f 2) rfl rfl 64 rfl (ix2 r x) (off _) (by show 64 + x.val = 2 * 32 + x.val; omega)
  | ⟨3, _⟩ => exact concatenate_apply_piece (t := S2048x128) 1 _ _ _ 3 (by show 3 < 4; omega) S2048x32 (f 3) rfl rfl 96 rfl (ix2 r x) (off _) (by show 96 + x.val = 3 * 32 + x.val; omega)
/-- Four columns side by side. -/
theorem side_words (f : Fin 4 → IVec S2048x1 32) (k : Fin 4) (r : Fin 2048) :
    concatenate S2048x4 1 [⟨S2048x1, f 0⟩, ⟨S2048x1, f 1⟩, ⟨S2048x1, f 2⟩, ⟨S2048x1, f 3⟩]
      concatenates_S2048x1_S2048x1_S2048x1_S2048x1_S2048x4_d1 (ix2 r k) = f k (ix2 r 0) := by
  have off : ∀ (d : Fin 4) (b : Fin S2048x1.rank), b.cast rfl ≠ (1 : Fin S2048x4.rank) → ((ix2 r 0 : S2048x1.Idx) b).val
      = ((ix2 r d : S2048x4.Idx) (b.cast rfl)).val := fun d b hb => by
    match b with
    | ⟨0, _⟩ => rfl
    | ⟨1, _⟩ => exact absurd rfl hb
  match k with
  | ⟨0, _⟩ => exact concatenate_apply_piece (t := S2048x4) 1 _ _ _ 0 (by show 0 < 4; omega) S2048x1 (f 0) rfl rfl 0 rfl (ix2 r 0) (off _) rfl
  | ⟨1, _⟩ => exact concatenate_apply_piece (t := S2048x4) 1 _ _ _ 1 (by show 1 < 4; omega) S2048x1 (f 1) rfl rfl 1 rfl (ix2 r 0) (off _) rfl
  | ⟨2, _⟩ => exact concatenate_apply_piece (t := S2048x4) 1 _ _ _ 2 (by show 2 < 4; omega) S2048x1 (f 2) rfl rfl 2 rfl (ix2 r 0) (off _) rfl
  | ⟨3, _⟩ => exact concatenate_apply_piece (t := S2048x4) 1 _ _ _ 3 (by show 3 < 4; omega) S2048x1 (f 3) rfl rfl 3 rfl (ix2 r 0) (off _) rfl

/-- The columns of a group. -/
def cut (w : FVec Ideal S2048x128 .f32) : Fin 4 → FVec Ideal S2048x32 .f32 := ![cut0 w, k0_pay14 w, k0_pay21 w, k0_pay29 w]
/-- A column of a group. -/
theorem cut_read (w : FVec Ideal S2048x128 .f32) (k : Fin 4) (r : Fin 2048) (x : Fin 32) :
    cut w k (ix2 r x) = w (ix2 r ⟨k.val * 32 + x.val, by omega⟩) := by
  match k with
  | ⟨0, _⟩ => exact (cut0_read w r x).trans (congrArg (fun d => w (ix2 r d)) (Fin.ext (by show 0 + x.val = 0 * 32 + x.val; omega)))
  | ⟨1, _⟩ => exact (cut1_read w r x).trans (congrArg (fun d => w (ix2 r d)) (Fin.ext (by show 32 + x.val = 1 * 32 + x.val; omega)))
  | ⟨2, _⟩ => exact (cut2_read w r x).trans (congrArg (fun d => w (ix2 r d)) (Fin.ext (by show 64 + x.val = 2 * 32 + x.val; omega)))
  | ⟨3, _⟩ => exact (cut3_read w r x).trans (congrArg (fun d => w (ix2 r d)) (Fin.ext (by show 96 + x.val = 3 * 32 + x.val; omega)))
/-- A group's exponent. -/
theorem exps_read (w : FVec Ideal S2048x128 .f32) (k : Fin 4) (r : Fin 2048) : exps (cut w k) (ix2 r 0) = Quant.count (blockPeak w r k) := by
  rw [exps, counts_read, peaks_read]
  simp only [cut_read]
  rfl
/-- A group's code. -/
theorem coded_read (w : FVec Ideal S2048x128 .f32) (k : Fin 4) (r : Fin 2048) (x : Fin 32) :
    coded (cut w k) (ix2 r x) = rawCode (w (ix2 r ⟨k.val * 32 + x.val, by omega⟩)) (Quant.count (blockPeak w r k)) := by
  rw [coded, codes_read, exps_read, cut_read]

/-- A leading axis of one. -/
theorem lead_read (y : FVec Ideal S2048x128 .f32) (r : Fin 2048) (d : Fin 128) :
    shapeCast S1x2048x128 y shapeCasts_S2048x128_S1x2048x128 (ix3 0 r d) = y (ix2 r d) := by
  pointwise
/-- A leading axis of one, of bytes. -/
theorem byte_read (y : IVec S2048x4 32) (r : Fin 2048) (g : Fin 4) :
    shapeCast S1x2048x4 (trunci 8 y natLt_8_32) shapeCasts_S2048x4_S1x2048x4 (ix3 0 r g) = BitVec.setWidth 8 (y (ix2 r g)) := by
  pointwise

/-- The block's codes at an index. -/
theorem codesBlock_read (w : FVec Ideal S2048x128 .f32) (k : Fin 4) (r : Fin 2048) (x : Fin 32) :
    codesBlock w (ix3 0 r ⟨k.val * 32 + x.val, by omega⟩)
      = rawCode (w (ix2 r ⟨k.val * 32 + x.val, by omega⟩)) (Quant.count (blockPeak w r k)) :=
  (lead_read _ r _).trans ((side (fun j => coded (cut w j)) k r x).trans (coded_read w k r x))
/-- The block's bytes at an index. -/
theorem bytesBlock_read (w : FVec Ideal S2048x128 .f32) (k : Fin 4) (r : Fin 2048) :
    bytesBlock w (ix3 0 r k) = BitVec.setWidth 8 (IntOp.addi (Quant.count (blockPeak w r k)) 127#32) := by
  refine (byte_read _ r k).trans (congrArg _ ((side_words (fun j => biased (exps (cut w j))) k r).trans ?_))
  show biased (exps (cut w k)) (ix2 r 0) = _
  rw [biased_read, exps_read]
/-- The block read back at an index. -/
theorem wideBlock_read (w : FVec Ideal S2048x128 .f32) (k : Fin 4) (r : Fin 2048) (x : Fin 32) :
    wideBlock w (ix3 0 r ⟨k.val * 32 + x.val, by omega⟩)
      = rawCode (w (ix2 r ⟨k.val * 32 + x.val, by omega⟩)) (Quant.count (blockPeak w r k)) * rawPow (Quant.count (blockPeak w r k)) := by
  refine (lead_read _ r _).trans ((side (fun j => wide (coded (cut w j)) (exps (cut w j))) k r x).trans ?_)
  show wide (coded (cut w k)) (exps (cut w k)) (ix2 r x) = _
  rw [wide_read, coded_read, exps_read]

end Cert.KernelKVIdeal.Quantize

end
-- ==== Proof.KvOut.lean ====
/- What a grid point of the quantizer kernel leaves: its blocks of the six results, and the running largest magnitudes of the values. -/
module

public import proofs.«01_k».proof.Proof.KvBlock
public import proofs.«01_k».proof.Proof.Gen.KernelKVIdeal.Frame
public import Idealize.ShloMosaic.Lib.Pipeline.ValueKit

@[expose] public section

set_option maxRecDepth 16384

noncomputable section

namespace Cert.KernelKVIdeal.Quantize

open Idealize.ShloMosaic Idealize.ShloMosaic.TcCoe Cert.KernelKVIdeal Cert.KernelKVIdeal.Gen

/-- The offsets of a whole block. -/
theorem zeros3 : (![0, 0, 0] : Fin 3 → ℕ) = fun _ => 0 := by decide
/-- The offsets of a whole row. -/
theorem zeros2 : (![0, 0] : Fin 2 → ℕ) = fun _ => 0 := by decide

variable (c : Dev nD) (i : grid0.Coords) (arg3 : Memref sig .tc .vmem S1x2048x128 .bf16) (harg3 : arg3.IsWhole) (arg4 : Memref sig .tc .vmem S1x2048x128 .bf16) (harg4 : arg4.IsWhole)
    (arg5 : Memref sig .tc .vmem S1x2048x128 .fp8e4m3) (harg5 : arg5.IsWhole) (arg6 : Memref sig .tc .vmem S1x2048x4 .i8) (harg6 : arg6.IsWhole)
    (arg7 : Memref sig .tc .vmem S1x2048x128 .bf16) (harg7 : arg7.IsWhole) (arg8 : Memref sig .tc .vmem S1x2048x128 .fp8e4m3) (harg8 : arg8.IsWhole)
    (arg9 : Memref sig .tc .vmem S1x1x128 .f32) (harg9 : arg9.IsWhole) (arg10 : Memref sig .tc .vmem S1x128x2048 .fp8e4m3) (harg10 : arg10.IsWhole)
    (arg11 : Memref sig .tc .vmem S1x128 .f32) (harg11 : arg11.IsWhole)
  (x0 x1 : Vec Ideal S1x2048x128 .bf16) (xs : Vec Ideal S1x128 .f32)

/-- The block's codes. -/
theorem out2_eq (hc0 : ¬cond0_0 i) (hc2 : cond0_2 i) : out0_C_2 c i arg3 harg3 arg4 harg4 arg5 harg5 arg6 harg6 arg7 harg7 arg8 harg8 arg9 harg9 arg10 harg10 arg11 harg11 hc0 hc2 x0 x1 xs = codesBlock (k0_pay7 x0) := by
  unfold out0_C_2
  rw [View.read_writes_eq_canon _ _ _ (cover0_C_2 c i arg3 harg3 arg4 harg4 arg5 harg5 arg6 harg6 arg7 harg7 arg8 harg8 arg9 harg9 arg10 harg10 arg11 harg11 hc0 hc2 x0 x1 xs)]
  unfold kernelRun0_C
  dsimp only
  sl_unfold_words
  rw [View.canon_unit_zero zeros3]
  simp only [View.readAt_eq_ld, harg3.read_unread, harg4.read_unread, harg11.read_unread, View.ld_unit_zero (S := S1x2048x128) zeros3,
    View.ld_unit_zero (S := S1x128) zeros2]
  exact codesBlock_eq x0 _ rfl
/-- The block's bytes. -/
theorem out3_eq (hc0 : ¬cond0_0 i) (hc2 : cond0_2 i) : out0_C_3 c i arg3 harg3 arg4 harg4 arg5 harg5 arg6 harg6 arg7 harg7 arg8 harg8 arg9 harg9 arg10 harg10 arg11 harg11 hc0 hc2 x0 x1 xs = bytesBlock (k0_pay7 x0) := by
  unfold out0_C_3
  rw [View.read_writes_eq_canon _ _ _ (cover0_C_3 c i arg3 harg3 arg4 harg4 arg5 harg5 arg6 harg6 arg7 harg7 arg8 harg8 arg9 harg9 arg10 harg10 arg11 harg11 hc0 hc2 x0 x1 xs)]
  unfold kernelRun0_C
  dsimp only
  sl_unfold_words
  rw [View.canon_unit_zero zeros3]
  simp only [View.readAt_eq_ld, harg3.read_unread, harg4.read_unread, harg11.read_unread, View.ld_unit_zero (S := S1x2048x128) zeros3,
    View.ld_unit_zero (S := S1x128) zeros2]
  exact bytesBlock_eq x0 _ rfl
/-- The block's rows read back. -/
theorem out4_eq (hc0 : ¬cond0_0 i) (hc2 : cond0_2 i) : out0_C_4 c i arg3 harg3 arg4 harg4 arg5 harg5 arg6 harg6 arg7 harg7 arg8 harg8 arg9 harg9 arg10 harg10 arg11 harg11 hc0 hc2 x0 x1 xs = wideBlock (k0_pay7 x0) := by
  unfold out0_C_4
  rw [View.read_writes_eq_canon _ _ _ (cover0_C_4 c i arg3 harg3 arg4 harg4 arg5 harg5 arg6 harg6 arg7 harg7 arg8 harg8 arg9 harg9 arg10 harg10 arg11 harg11 hc0 hc2 x0 x1 xs)]
  unfold kernelRun0_C
  dsimp only
  sl_unfold_words
  rw [View.canon_unit_zero zeros3]
  simp only [View.readAt_eq_ld, harg3.read_unread, harg4.read_unread, harg11.read_unread, View.ld_unit_zero (S := S1x2048x128) zeros3,
    View.ld_unit_zero (S := S1x128) zeros2]
  exact wideBlock_eq x0 _ rfl
/-- The block's values' codes. -/
theorem out5_eq (hc0 : ¬cond0_0 i) (hc2 : cond0_2 i) : out0_C_5 c i arg3 harg3 arg4 harg4 arg5 harg5 arg6 harg6 arg7 harg7 arg8 harg8 arg9 harg9 arg10 harg10 arg11 harg11 hc0 hc2 x0 x1 xs = k0_pay4 (k0_pay40 x1) (k0_pay41 xs) := by
  unfold out0_C_5
  rw [View.read_writes_eq_canon _ _ _ (cover0_C_5 c i arg3 harg3 arg4 harg4 arg5 harg5 arg6 harg6 arg7 harg7 arg8 harg8 arg9 harg9 arg10 harg10 arg11 harg11 hc0 hc2 x0 x1 xs)]
  unfold kernelRun0_C
  dsimp only
  sl_unfold_words
  rw [View.canon_unit_zero zeros3]
  simp only [View.readAt_eq_ld, harg3.read_unread, harg4.read_unread, harg11.read_unread, View.ld_unit_zero (S := S1x2048x128) zeros3,
    View.ld_unit_zero (S := S1x128) zeros2]

/-- The block's values' scales. -/
theorem out6_eq (hc0 : ¬cond0_0 i) (hc2 : cond0_2 i) : out0_C_6 c i arg3 harg3 arg4 harg4 arg5 harg5 arg6 harg6 arg7 harg7 arg8 harg8 arg9 harg9 arg10 harg10 arg11 harg11 hc0 hc2 x0 x1 xs = k0_pay5 (F := Ideal) (k0_pay39 xs) := by
  unfold out0_C_6
  rw [View.read_writes_eq_canon _ _ _ (cover0_C_6 c i arg3 harg3 arg4 harg4 arg5 harg5 arg6 harg6 arg7 harg7 arg8 harg8 arg9 harg9 arg10 harg10 arg11 harg11 hc0 hc2 x0 x1 xs)]
  unfold kernelRun0_C
  dsimp only
  sl_unfold_words
  rw [View.canon_unit_zero zeros3]
  simp only [View.readAt_eq_ld, harg3.read_unread, harg4.read_unread, harg11.read_unread, View.ld_unit_zero (S := S1x2048x128) zeros3,
    View.ld_unit_zero (S := S1x128) zeros2]

/-- The block's values' codes in columns. -/
theorem out7_eq (hc0 : ¬cond0_0 i) (hc2 : cond0_2 i) : out0_C_7 c i arg3 harg3 arg4 harg4 arg5 harg5 arg6 harg6 arg7 harg7 arg8 harg8 arg9 harg9 arg10 harg10 arg11 harg11 hc0 hc2 x0 x1 xs = k0_pay6 (k0_pay40 x1) (k0_pay41 xs) := by
  unfold out0_C_7
  rw [View.read_writes_eq_canon _ _ _ (cover0_C_7 c i arg3 harg3 arg4 harg4 arg5 harg5 arg6 harg6 arg7 harg7 arg8 harg8 arg9 harg9 arg10 harg10 arg11 harg11 hc0 hc2 x0 x1 xs)]
  unfold kernelRun0_C
  dsimp only
  sl_unfold_words
  rw [View.canon_unit_zero zeros3]
  simp only [View.readAt_eq_ld, harg3.read_unread, harg4.read_unread, harg11.read_unread, View.ld_unit_zero (S := S1x2048x128) zeros3,
    View.ld_unit_zero (S := S1x128) zeros2]

/-- The running magnitudes after a batch's first block. -/
theorem first_eq (hc0 : cond0_0 i) (hc1 : cond0_1 i) (hc2 : ¬cond0_2 i) : sout0_A_0 c i arg3 harg3 arg4 harg4 arg5 harg5 arg6 harg6 arg7 harg7 arg8 harg8 arg9 harg9 arg10 harg10 arg11 harg11 hc0 hc1 hc2 x0 x1 = k0_pay2 x1 (k0_pay1 (F := Ideal)) := by
  unfold sout0_A_0
  rw [View.read_writes_eq_canon _ _ _ (scover0_A_0 c i arg3 harg3 arg4 harg4 arg5 harg5 arg6 harg6 arg7 harg7 arg8 harg8 arg9 harg9 arg10 harg10 arg11 harg11 hc0 hc1 hc2 x0 x1)]
  unfold kernelRun0_A
  dsimp only
  sl_unfold_words
  rw [View.canon_cons_unit_zero (S := S1x128) zeros2, View.readCov_unit_zero (S := S1x128) _ zeros2]
  simp only [View.readAt_eq_ld, harg4.read_unread, View.ld_unit_zero (S := S1x2048x128) zeros3]
/-- The running magnitudes after a later block. -/
theorem later_eq (hc0 : cond0_0 i) (hc1 : ¬cond0_1 i) (hc2 : ¬cond0_2 i) : sout0_B_0 c i arg3 harg3 arg4 harg4 arg5 harg5 arg6 harg6 arg7 harg7 arg8 harg8 arg9 harg9 arg10 harg10 arg11 harg11 hc0 hc1 hc2 x0 x1 xs = k0_pay2 x1 xs := by
  unfold sout0_B_0
  rw [View.read_writes_eq_canon _ _ _ (scover0_B_0 c i arg3 harg3 arg4 harg4 arg5 harg5 arg6 harg6 arg7 harg7 arg8 harg8 arg9 harg9 arg10 harg10 arg11 harg11 hc0 hc1 hc2 x0 x1 xs)]
  unfold kernelRun0_B
  dsimp only
  sl_unfold_words
  rw [View.canon_unit_zero (S := S1x128) zeros2]
  simp only [View.readAt_eq_ld, harg4.read_unread, harg11.read_unread, View.ld_unit_zero (S := S1x2048x128) zeros3,
    View.ld_unit_zero (S := S1x128) zeros2]

end Cert.KernelKVIdeal.Quantize

end
-- ==== Proof.KvIndex.lean ====
/- Where the quantizer kernel's blocks lie at each grid point, when they are written back, and that each output's blocks cover its
   array. The grid runs over the batch, the phase and the block, so point `t` is in batch `t / 32`, phase `t / 16 % 2`, at block
   `t % 16`. -/
module

public import proofs.«01_k».proof.Proof.Gen.KernelKVIdeal.Frame
public import Idealize.ShloMosaic.Lib.Pipeline.ValueKit

@[expose] public section

set_option maxRecDepth 16384

noncomputable section

namespace Cert.KernelKVIdeal.Quantize

open Idealize.ShloMosaic Idealize.ShloMosaic.TcCoe Cert.KernelKVIdeal Cert.KernelKVIdeal.Gen

/-- The keys' block of a grid point in the second phase. -/
theorem index0 : ∀ t : Fin cfg0.N, t.val / 16 % 2 = 1 → win0_0.index t = ![t.val / 32, t.val % 16, 0] :=
  (by decide +kernel : ∀ t : Fin grid0.N, _)
/-- The values' block of a grid point. -/
theorem index1 : ∀ t : Fin cfg0.N, win0_1.index t = ![t.val / 32, t.val % 16, 0] :=
  (by decide +kernel : ∀ t : Fin grid0.N, _)
/-- The keys' codes' block of a grid point in the second phase. -/
theorem index2 : ∀ t : Fin cfg0.N, t.val / 16 % 2 = 1 → win0_2.index t = ![t.val / 32, t.val % 16, 0] :=
  (by decide +kernel : ∀ t : Fin grid0.N, _)
/-- The keys' bytes' block. -/
theorem index3 : ∀ t : Fin cfg0.N, t.val / 16 % 2 = 1 → win0_3.index t = ![t.val / 32, t.val % 16, 0] :=
  (by decide +kernel : ∀ t : Fin grid0.N, _)
/-- The block of the keys read back. -/
theorem index4 : ∀ t : Fin cfg0.N, t.val / 16 % 2 = 1 → win0_4.index t = ![t.val / 32, t.val % 16, 0] :=
  (by decide +kernel : ∀ t : Fin grid0.N, _)
/-- The values' codes' block. -/
theorem index5 : ∀ t : Fin cfg0.N, t.val / 16 % 2 = 1 → win0_5.index t = ![t.val / 32, t.val % 16, 0] :=
  (by decide +kernel : ∀ t : Fin grid0.N, _)
/-- The values' scales' block. -/
theorem index6 : ∀ t : Fin cfg0.N, win0_6.index t = ![t.val / 32, 0, 0] :=
  (by decide +kernel : ∀ t : Fin grid0.N, _)
/-- The block of the values' codes in columns. -/
theorem index7 : ∀ t : Fin cfg0.N, t.val / 16 % 2 = 1 → win0_7.index t = ![t.val / 32, 0, t.val % 16] :=
  (by decide +kernel : ∀ t : Fin grid0.N, _)

/-- The keys' codes are written back in the second phase only. -/
theorem second2 : ∀ t : Fin cfg0.N, (cfg0.win 2).flush t = true → t.val / 16 % 2 = 1 :=
  (by decide +kernel : ∀ t : Fin grid0.N, _)
/-- So are their bytes. -/
theorem second3 : ∀ t : Fin cfg0.N, (cfg0.win 3).flush t = true → t.val / 16 % 2 = 1 :=
  (by decide +kernel : ∀ t : Fin grid0.N, _)
/-- So are the keys read back. -/
theorem second4 : ∀ t : Fin cfg0.N, (cfg0.win 4).flush t = true → t.val / 16 % 2 = 1 :=
  (by decide +kernel : ∀ t : Fin grid0.N, _)
/-- So are the values' codes. -/
theorem second5 : ∀ t : Fin cfg0.N, (cfg0.win 5).flush t = true → t.val / 16 % 2 = 1 :=
  (by decide +kernel : ∀ t : Fin grid0.N, _)
/-- So are the values' scales. -/
theorem second6 : ∀ t : Fin cfg0.N, (cfg0.win 6).flush t = true → t.val / 16 % 2 = 1 :=
  (by decide +kernel : ∀ t : Fin grid0.N, _)
/-- So are the values' codes in columns. -/
theorem second7 : ∀ t : Fin cfg0.N, (cfg0.win 7).flush t = true → t.val / 16 % 2 = 1 :=
  (by decide +kernel : ∀ t : Fin grid0.N, _)

/-- The blocks of the keys' codes cover their array. -/
theorem covers2 : (cfg0.win 2).Covers := by decide +kernel
/-- So do the bytes'. -/
theorem covers3 : (cfg0.win 3).Covers := by decide +kernel
/-- So do those of the keys read back. -/
theorem covers4 : (cfg0.win 4).Covers := by decide +kernel
/-- So do those of the values' codes. -/
theorem covers5 : (cfg0.win 5).Covers := by decide +kernel
/-- So do the scales'. -/
theorem covers6 : (cfg0.win 6).Covers := by decide +kernel
/-- So do those of the codes in columns. -/
theorem covers7 : (cfg0.win 7).Covers := by decide +kernel

end Cert.KernelKVIdeal.Quantize

end
-- ==== Proof.KvValue.lean ====
/- The quantizer kernel's block of values: its running largest magnitudes, and its codes of them. -/
module

public import proofs.«01_k».proof.Proof.KvStage
public import Idealize.ShloMosaic.Lib.Pointwise

@[expose] public section

set_option maxRecDepth 16384

noncomputable section

namespace Cert.KernelKVIdeal.Quantize

open Idealize.ShloMosaic Cert.KernelKVIdeal Cert.KernelKVIdeal.Gen

/-- The magnitudes before the first block. -/
theorem none_read (d : Fin 128) : k0_pay1 (F := Ideal) (ix2 0 d) = 0 := by
  pointwise [k0_pay1]
/-- The magnitudes after a block: each component's largest so far, and the block's. -/
theorem peaks_next (x : Vec Ideal S1x2048x128 .bf16) (y : Vec Ideal S1x128 .f32) (d : Fin 128) : k0_pay2 x y (ix2 0 d)
    = max (y (ix2 0 d)) (Finset.fold max ⊥ (fun r : Fin 2048 => max (x (ix3 0 r d)) (-x (ix3 0 r d))) Finset.univ) := by
  pointwise [k0_pay2]
  rw [Consts.ofBits_bot]
  exact congrArg (fun f => max (y (ix2 0 d)) (Finset.fold max ⊥ f Finset.univ)) (funext fun x => rfl)
/-- The exponents of the magnitudes. -/
theorem valCounts_read (y : Vec Ideal S1x128 .f32) (d : Fin 128) : k0_pay39 y (ix2 0 d) = Quant.count (y (ix2 0 d)) := by
  pointwise [k0_pay39]
  rfl
/-- Their negations. -/
theorem valNegs_read (y : Vec Ideal S1x128 .f32) (d : Fin 128) : k0_pay41 y (ix2 0 d) = IntOp.subi 0#32 (Quant.count (y (ix2 0 d))) := by
  rw [← valCounts_read]
  rfl
/-- A key of the block. -/
theorem keyRow_read (x : Vec Ideal S1x2048x128 .bf16) (r : Fin 2048) (d : Fin 128) : k0_pay7 x (ix2 r d) = x (ix3 0 r d) := by
  pointwise [k0_pay7]
/-- A value of the block. -/
theorem valRow_read (x : Vec Ideal S1x2048x128 .bf16) (r : Fin 2048) (d : Fin 128) : k0_pay40 x (ix2 r d) = x (ix3 0 r d) := by
  pointwise [k0_pay40]
/-- A code, of the negated exponents. -/
theorem valCoded_read (w : FVec Ideal S2048x128 .f32) (n : IVec S1x128 32) (r : Fin 2048) (d : Fin 128) : k0_pay3 w n (ix2 r d)
    = min (Ideal.ofBits FTy.f32 1138753536#32) (max (Ideal.ofBits FTy.f32 3286237184#32)
      (w (ix2 r d) * Ideal.ofBits .f32 (IntOp.shli .vector (IntOp.addi (n (ix2 0 d)) 127#32) 23#32))) := by
  pointwise [k0_pay3]
/-- The block's codes. -/
theorem valBlock_read (x : Vec Ideal S1x2048x128 .bf16) (y : Vec Ideal S1x128 .f32) (r : Fin 2048) (d : Fin 128) :
    k0_pay4 (k0_pay40 x) (k0_pay41 y) (ix3 0 r d) = rawCode (x (ix3 0 r d)) (Quant.count (y (ix2 0 d))) := by
  unfold k0_pay4
  generalize hc : k0_pay3 (k0_pay40 x) (k0_pay41 y) = z
  pointwise
  rw [← hc, valCoded_read, valRow_read, valNegs_read]
  rfl
/-- The block's scales. -/
theorem scaleBlock_read (y : Vec Ideal S1x128 .f32) (d : Fin 128) :
    k0_pay5 (F := Ideal) (k0_pay39 y) (ix3 0 0 d) = rawPow (Quant.count (y (ix2 0 d))) := by
  rw [← valCounts_read]
  generalize k0_pay39 y = z
  pointwise [k0_pay5]
  rfl
/-- The block's codes, one token to a column. -/
theorem columnBlock_read (x : Vec Ideal S1x2048x128 .bf16) (y : Vec Ideal S1x128 .f32) (r : Fin 2048) (d : Fin 128) :
    k0_pay6 (k0_pay40 x) (k0_pay41 y) (ix3 0 d r) = rawCode (x (ix3 0 r d)) (Quant.count (y (ix2 0 d))) := by
  unfold k0_pay6
  generalize hc : k0_pay3 (k0_pay40 x) (k0_pay41 y) = z
  pointwise
  rw [← hc, valCoded_read, valRow_read, valNegs_read]
  rfl

end Cert.KernelKVIdeal.Quantize

end
-- ==== Proof.KvScratch.lean ====
/- The values' running largest magnitudes: in its first phase the quantizer kernel goes through a batch's sixteen blocks of values, after
   which it holds every component's largest magnitude. -/
module

public import proofs.«01_k».proof.Proof.KvOut
public import proofs.«01_k».proof.Proof.KvIndex
public import proofs.«01_k».proof.Proof.KvValue

@[expose] public section

set_option maxRecDepth 16384

noncomputable section

namespace Cert.KernelKVIdeal.Quantize

open Idealize.ShloMosaic Idealize.ShloMosaic.TcCoe Cert.KernelKVIdeal Cert.KernelKVIdeal.Gen Cert.KvResult

variable (m : (ℓ : Loc nD τ sig) → Buf (Elt Ideal) ℓ)

/-- A grid point's number is below 64. -/
theorem point_lt (t : Fin cfg0.N) : t.val < 64 := lt_of_lt_of_eq t.isLt N_0
/-- The batch of a grid point. -/
def batch (t : Fin cfg0.N) : Fin 2 := ⟨t.val / 32, by have := point_lt t; omega⟩
/-- The token of a row of a grid point's block. -/
def token (t : Fin cfg0.N) (r : Fin 2048) : Fin 32768 := ⟨2048 * (t.val % 16) + r.val, by omega⟩

/-- The point's keys, in the second phase. -/
theorem iblk0_at (c : Dev nD) (t : Fin cfg0.N) (h : t.val / 16 % 2 = 1) (r : Fin 2048) (d : Fin 128) :
    iblk m c 0 t (ix3 0 r d) = m ((c : Thread nD τ).loc main_arg0) (ix3 (batch t) (token t r) d) := by
  blk_simp [iblk]
  refine congrArg (m ((c : Thread nD τ).loc main_arg0)) ?_
  blk_ext [index0 t h]
  · rfl
  · show t.val % 16 * 2048 + r.val = 2048 * (t.val % 16) + r.val
    omega
/-- The point's values. -/
theorem iblk1_at (c : Dev nD) (t : Fin cfg0.N) (r : Fin 2048) (d : Fin 128) :
    iblk m c 1 t (ix3 0 r d) = m ((c : Thread nD τ).loc main_arg1) (ix3 (batch t) (token t r) d) := by
  blk_simp [iblk]
  refine congrArg (m ((c : Thread nD τ).loc main_arg1)) ?_
  blk_ext [index1]
  · rfl
  · show t.val % 16 * 2048 + r.val = 2048 * (t.val % 16) + r.val
    omega

/-- A maximum over the numbers below `n`, as one over the naturals. -/
theorem fold_fin {n : ℕ} (f : ℕ → EReal) : Finset.fold max ⊥ (fun x : Fin n => f x.val) Finset.univ = (Finset.range n).sup f := by
  show (Finset.univ : Finset (Fin n)).sup (fun x => f x.val) = (Finset.range n).sup f
  refine le_antisymm (Finset.sup_le fun x _ => Finset.le_sup (f := f) (Finset.mem_range.2 x.isLt)) (Finset.sup_le fun j hj => ?_)
  exact Finset.le_sup (f := fun x : Fin n => f x.val) (Finset.mem_univ ⟨j, Finset.mem_range.1 hj⟩)
/-- A maximum over a longer range. -/
theorem sup_range_add (f : ℕ → EReal) (m n : ℕ) :
    (Finset.range (m + n)).sup f = max ((Finset.range m).sup f) ((Finset.range n).sup fun j => f (m + j)) := by
  induction n with
  | zero => simp
  | succ n ih =>
    rw [← Nat.add_assoc, Finset.range_add_one, Finset.sup_insert, ih, Finset.range_add_one (n := n), Finset.sup_insert]
    exact max_left_comm _ _ _

/-- The magnitude of token `j` of a component of the values. -/
def mag (v : Rows) (b : Fin 2) (d : Fin 128) (j : ℕ) : EReal :=
  if h : j < 32768 then max (v (ix3 b ⟨j, h⟩ d)) (-v (ix3 b ⟨j, h⟩ d)) else ⊥
/-- The largest magnitude of a component. -/
theorem valPeak_eq (v : Rows) (b : Fin 2) (d : Fin 128) : valPeak v b d = (Finset.range 32768).sup (mag v b d) := by
  rw [← fold_fin]
  exact congrArg (fun f => Finset.fold max ⊥ f Finset.univ) (funext fun x => by rw [mag, dif_pos x.isLt])
/-- It is not negative. -/
theorem valPeak_nonneg (v : Rows) (b : Fin 2) (d : Fin 128) : 0 ≤ valPeak v b d := by
  rw [valPeak_eq]
  refine le_trans ?_ (Finset.le_sup (f := mag v b d) (Finset.mem_range.2 (by norm_num : 0 < 32768)))
  rw [mag, dif_pos (by norm_num)]
  rcases le_total 0 (v (ix3 b ⟨0, by norm_num⟩ d)) with h | h
  · exact le_max_of_le_left h
  · exact le_max_of_le_right (EReal.neg_nonneg.2 h)
/-- The largest magnitude of a component within a grid point's block. -/
theorem block_mag (v : Rows) (t : Fin cfg0.N) (d : Fin 128) (x : Vec Ideal S1x2048x128 .bf16)
    (hx : ∀ r : Fin 2048, x (ix3 0 r d) = v (ix3 (batch t) (token t r) d)) :
    Finset.fold max ⊥ (fun r : Fin 2048 => max (x (ix3 0 r d)) (-x (ix3 0 r d))) Finset.univ
      = (Finset.range 2048).sup fun j => mag v (batch t) d (2048 * (t.val % 16) + j) := by
  rw [← fold_fin]
  refine congrArg (fun f => Finset.fold max ⊥ f Finset.univ) (funext fun r => ?_)
  rw [hx, mag, dif_pos (show 2048 * (t.val % 16) + r.val < 32768 from (token t r).isLt)]
  rfl

/-- The running magnitudes after point `t`. -/
def held (c : Dev nD) (t : Fin cfg0.N) : Vec Ideal S1x128 .f32 := (outsAt0 m c t.val t.isLt).2.2.2.2.2.2
/-- After a batch's first block. -/
theorem held_A (c : Dev nD) (t : Fin cfg0.N) (h0 : t.val / 16 % 2 = 0) (h1 : t.val % 16 = 0) :
    held m c t = k0_pay2 (iblk m c 1 t) (k0_pay1 (F := Ideal)) :=
  (congrArg (fun p => p.2.2.2.2.2.2) (outsAt0_A m c t h0 h1 (by omega))).trans
    (first_eq c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (ms0_7 t) (hs0_7 t) scM0_0 (Memref.isWhole_whole _) (iblk m c 0 t) (iblk m c 1 t)
      ((hcond0_0 t).mpr h0) ((hcond0_1 t).mpr h1) (fun h => absurd ((hcond0_2 t).mp h) (by omega)))
/-- After a later block. -/
theorem held_B (c : Dev nD) (t : Fin cfg0.N) (h0 : t.val / 16 % 2 = 0) (h1 : ¬t.val % 16 = 0) :
    held m c t = k0_pay2 (iblk m c 1 t) (held m c ⟨t.val - 1, Nat.lt_of_le_of_lt (Nat.sub_le _ _) t.isLt⟩) :=
  (congrArg (fun p => p.2.2.2.2.2.2) (outsAt0_B m c t h0 h1 (by omega))).trans
    (later_eq c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (ms0_7 t) (hs0_7 t) scM0_0 (Memref.isWhole_whole _) (iblk m c 0 t) (iblk m c 1 t) _
      ((hcond0_0 t).mpr h0) (fun h => h1 ((hcond0_1 t).mp h)) (fun h => absurd ((hcond0_2 t).mp h) (by omega)))
/-- In the second phase they stay. -/
theorem held_C (c : Dev nD) (t : Fin cfg0.N) (h2 : t.val / 16 % 2 = 1) :
    held m c t = held m c ⟨t.val - 1, Nat.lt_of_le_of_lt (Nat.sub_le _ _) t.isLt⟩ := by
  unfold held
  rw [outsAt0_C m c t (by omega) h2]
  dsimp only
  unfold sout0_C_0
  rfl

/-- The running magnitudes after every point: the largest over the blocks gone through. -/
theorem held_at (c : Dev nD) (d : Fin 128) : ∀ (n : ℕ) (h : n < cfg0.N) (b : Fin 2), b.val = n / 32 →
    held m c ⟨n, h⟩ (ix2 0 d) = max 0 ((Finset.range (2048 * min (n % 32 + 1) 16)).sup (mag (m ((c : Thread nD τ).loc main_arg1)) b d)) := by
  intro n
  induction n with
  | zero =>
    intro h b hb
    rw [held_A m c ⟨0, h⟩ (by show 0 / 16 % 2 = 0; norm_num) (Nat.zero_mod _), peaks_next, none_read, block_mag _ ⟨0, h⟩ d _ (fun r => iblk1_at m c ⟨0, h⟩ r d), show batch ⟨0, h⟩ = b from Fin.ext hb.symm]
    simp
  | succ n ih =>
    intro h b hb
    have hn : n + 1 < 64 := lt_of_lt_of_eq h N_0
    have hbt : batch ⟨n + 1, h⟩ = b := Fin.ext hb.symm
    by_cases h0 : (n + 1) / 16 % 2 = 0
    · by_cases h1 : (n + 1) % 16 = 0
      · rw [held_A m c ⟨n + 1, h⟩ h0 h1, peaks_next, none_read, block_mag _ ⟨n + 1, h⟩ d _ (fun r => iblk1_at m c ⟨n + 1, h⟩ r d), hbt, show min ((n + 1) % 32 + 1) 16 = 1 by omega]
        simp only [h1]
        simp
      · rw [held_B m c ⟨n + 1, h⟩ h0 h1, peaks_next, block_mag _ ⟨n + 1, h⟩ d _ (fun r => iblk1_at m c ⟨n + 1, h⟩ r d), hbt]
        rw [show held m c ⟨(⟨n + 1, h⟩ : Fin cfg0.N).val - 1, _⟩ (ix2 0 d) = _ from ih (by omega) b (by omega),
          show 2048 * min ((n + 1) % 32 + 1) 16 = 2048 * min (n % 32 + 1) 16 + 2048 by omega, sup_range_add, max_assoc]
        simp only [show (n + 1) % 16 = min (n % 32 + 1) 16 by omega]
    · have h2 : (n + 1) / 16 % 2 = 1 := by omega
      rw [held_C m c ⟨n + 1, h⟩ h2, show held m c ⟨(⟨n + 1, h⟩ : Fin cfg0.N).val - 1, _⟩ (ix2 0 d) = _ from ih (by omega) b (by omega),
        show min ((n + 1) % 32 + 1) 16 = min (n % 32 + 1) 16 by omega]

/-- What a point of the second phase finds: every component's largest magnitude. -/
theorem found_at (c : Dev nD) (t : Fin cfg0.N) (h2 : t.val / 16 % 2 = 1) (d : Fin 128) :
    held m c ⟨t.val - 1, Nat.lt_of_le_of_lt (Nat.sub_le _ _) t.isLt⟩ (ix2 0 d) = valPeak (m ((c : Thread nD τ).loc main_arg1)) (batch t) d := by
  rw [held_at m c d (t.val - 1) _ (batch t) (by show t.val / 32 = (t.val - 1) / 32; omega), show min ((t.val - 1) % 32 + 1) 16 = 16 by omega,
    show 2048 * 16 = 32768 from rfl, ← valPeak_eq]
  exact max_eq_right (valPeak_nonneg _ _ _)

end Cert.KernelKVIdeal.Quantize

end
-- ==== Proof.KvArray.lean ====
/- The six arrays the quantizer kernel leaves, where the groups' largest magnitudes are fine: each block is its grid point's, and together
   they are the quantized keys and values. -/
module

public import proofs.«01_k».proof.Proof.KvScratch

@[expose] public section

set_option maxRecDepth 16384

noncomputable section

namespace Cert.KernelKVIdeal.Quantize

open Idealize.ShloMosaic Idealize.ShloMosaic.TcCoe Cert.KernelKVIdeal Cert.KernelKVIdeal.Gen Cert.KvResult

/-- A code, of a fine magnitude's count. -/
theorem rawCode_eq {a : EReal} (h : Quant.Fine a) (w : EReal) : rawCode w (Quant.count a) = Quant.code w (Quant.expnt a) := by
  unfold rawCode Quant.code
  rw [Quant.count_eq h, Quant.neg_pow h]
/-- A power of two, of a fine magnitude's count. -/
theorem rawPow_eq {a : EReal} (h : Quant.Fine a) : rawPow (Quant.count a) = (((2 : ℝ) ^ Quant.expnt a : ℝ) : EReal) := by
  unfold rawPow
  rw [Quant.count_eq h, Quant.pow h]
/-- A component is one of its group's. -/
theorem split (d : Fin 128) : ∃ (g : Fin 4) (x : Fin 32), d = ⟨g.val * 32 + x.val, by omega⟩ :=
  ⟨⟨d.val / 32, by omega⟩, ⟨d.val % 32, by omega⟩, Fin.ext (Nat.div_add_mod' d.val 32).symm⟩
/-- The group of a component of group `g`. -/
theorem group_of (g : Fin 4) (x : Fin 32) : group ⟨g.val * 32 + x.val, by omega⟩ = g := Fin.ext (by show (g.val * 32 + x.val) / 32 = g.val; omega)

section Blocks
variable (k : Rows) (b : Fin 2) (s : Fin 32768) (r : Fin 2048) (x : Vec Ideal S1x2048x128 .bf16) (hx : ∀ d, x (ix3 0 r d) = k (ix3 b s d))
include hx

/-- The largest magnitude of a group of a row is the key's. -/
theorem blockPeak_eq (g : Fin 4) : blockPeak (k0_pay7 x) r g = keyPeak k b s g := by
  unfold blockPeak keyPeak
  simp only [keyRow_read, hx]
/-- The row's codes are the key's. -/
theorem codes_at (hk : ∀ g, Quant.Fine (keyPeak k b s g)) (d : Fin 128) :
    codesBlock (k0_pay7 x) (ix3 0 r d) = Quant.code (k (ix3 b s d)) (keyExp k b s (group d)) := by
  obtain ⟨g, j, rfl⟩ := split d
  rw [codesBlock_read, blockPeak_eq k b s r x hx, rawCode_eq (hk g), keyRow_read, hx, group_of]
  rfl
/-- The row's bytes are the key's. -/
theorem bytes_at (hk : ∀ g, Quant.Fine (keyPeak k b s g)) (g : Fin 4) :
    bytesBlock (k0_pay7 x) (ix3 0 r g) = Quant.byte (keyExp k b s g) := by
  rw [bytesBlock_read, blockPeak_eq k b s r x hx, Quant.count_eq (hk g)]
  rfl
/-- The row read back is the key read back. -/
theorem wide_at (hk : ∀ g, Quant.Fine (keyPeak k b s g)) (d : Fin 128) : wideBlock (k0_pay7 x) (ix3 0 r d)
    = Quant.code (k (ix3 b s d)) (keyExp k b s (group d)) * (((2 : ℝ) ^ keyExp k b s (group d) : ℝ) : EReal) := by
  obtain ⟨g, j, rfl⟩ := split d
  rw [wideBlock_read, blockPeak_eq k b s r x hx, rawCode_eq (hk g), rawPow_eq (hk g), keyRow_read, hx, group_of]
  rfl
end Blocks

/-- A row of a block. -/
theorem row3 {n1 n2 : ℕ} (y : (⟨3, ![1, n1, n2]⟩ : Shape).Idx) : ∃ (r : Fin n1) (d : Fin n2), y = ix3 0 r d := ⟨y 1, y 2, by
  funext a
  match a with
  | ⟨0, _⟩ => exact Fin.ext (by have : (y 0).val < 1 := (y 0).isLt; show (y 0).val = 0; omega)
  | ⟨1, _⟩ => rfl
  | ⟨2, _⟩ => rfl⟩

variable (m : (ℓ : Loc nD τ sig) → Buf (Elt Ideal) ℓ)

/-- The keys. -/
abbrev keys (c : Dev nD) : Rows := m ((c : Thread nD τ).loc main_arg0)
/-- The values. -/
abbrev vals (c : Dev nD) : Rows := m ((c : Thread nD τ).loc main_arg1)
/-- What the running magnitudes are before point `t`. -/
abbrev before (c : Dev nD) (t : Fin cfg0.N) : Vec Ideal S1x128 .f32 := held m c ⟨t.val - 1, Nat.lt_of_le_of_lt (Nat.sub_le _ _) t.isLt⟩
/-- In the second phase they are the values' largest magnitudes. -/
theorem found (c : Dev nD) (t : Fin cfg0.N) (h2 : t.val / 16 % 2 = 1) (d : Fin 128) : before m c t (ix2 0 d) = valPeak (vals m c) (batch t) d :=
  found_at m c t h2 d

/-- The block of keys' codes a point of the second phase leaves. -/
theorem left2 (c : Dev nD) (t : Fin cfg0.N) (h2 : t.val / 16 % 2 = 1) : (dats m 0 c).after 2 t = codesBlock (k0_pay7 (iblk m c 0 t)) := by
  rw [after0_2, outsAt0_C m c t (by omega) h2]
  dsimp only
  rw [out2_eq]
/-- Where it lies. -/
theorem emb2_at (t : Fin cfg0.N) (h2 : t.val / 16 % 2 = 1) (r : Fin 2048) (d : Fin 128) : (win0_2.blk t).view.emb (ix3 0 r d) = ix3 (batch t) (token t r) d := by
  blk_ext [index2 t h2]
  · rfl
  · show t.val % 16 * 2048 + r.val = 2048 * (t.val % 16) + r.val
    omega
/-- The array of keys' codes. -/
theorem array2 (c : Dev nD) (hk : ∀ b s g, Quant.Fine (keyPeak (keys m c) b s g)) : (dats m 0 c).arrAt 2 cfg0.N = keyCodes (keys m c) := by
  refine (dats m 0 c).arrAt_eq_of_covers 2 _ covers2 fun t hf y => ?_
  have h2 := second2 t hf
  blk_simp
  rw [left2 m c t h2]
  obtain ⟨r, d, rfl⟩ := row3 y
  rw [emb2_at t h2 r d]
  exact codes_at (keys m c) (batch t) (token t r) r _ (iblk0_at m c t h2 r) (hk _ _) d

/-- The block of keys' bytes a point of the second phase leaves. -/
theorem left3 (c : Dev nD) (t : Fin cfg0.N) (h2 : t.val / 16 % 2 = 1) : (dats m 0 c).after 3 t = bytesBlock (k0_pay7 (iblk m c 0 t)) := by
  rw [after0_3, outsAt0_C m c t (by omega) h2]
  dsimp only
  rw [out3_eq]
/-- Where it lies. -/
theorem emb3_at (t : Fin cfg0.N) (h2 : t.val / 16 % 2 = 1) (r : Fin 2048) (d : Fin 4) : (win0_3.blk t).view.emb (ix3 0 r d) = ix3 (batch t) (token t r) d := by
  blk_ext [index3 t h2]
  · rfl
  · show t.val % 16 * 2048 + r.val = 2048 * (t.val % 16) + r.val
    omega
/-- The array of keys' bytes. -/
theorem array3 (c : Dev nD) (hk : ∀ b s g, Quant.Fine (keyPeak (keys m c) b s g)) : (dats m 0 c).arrAt 3 cfg0.N = keyBytes (keys m c) := by
  refine (dats m 0 c).arrAt_eq_of_covers 3 _ covers3 fun t hf y => ?_
  have h2 := second3 t hf
  blk_simp
  rw [left3 m c t h2]
  obtain ⟨r, d, rfl⟩ := row3 y
  rw [emb3_at t h2 r d]
  exact bytes_at (keys m c) (batch t) (token t r) r _ (iblk0_at m c t h2 r) (hk _ _) d

/-- The block of keys read back a point of the second phase leaves. -/
theorem left4 (c : Dev nD) (t : Fin cfg0.N) (h2 : t.val / 16 % 2 = 1) : (dats m 0 c).after 4 t = wideBlock (k0_pay7 (iblk m c 0 t)) := by
  rw [after0_4, outsAt0_C m c t (by omega) h2]
  dsimp only
  rw [out4_eq]
/-- Where it lies. -/
theorem emb4_at (t : Fin cfg0.N) (h2 : t.val / 16 % 2 = 1) (r : Fin 2048) (d : Fin 128) : (win0_4.blk t).view.emb (ix3 0 r d) = ix3 (batch t) (token t r) d := by
  blk_ext [index4 t h2]
  · rfl
  · show t.val % 16 * 2048 + r.val = 2048 * (t.val % 16) + r.val
    omega
/-- The array of keys read back. -/
theorem array4 (c : Dev nD) (hk : ∀ b s g, Quant.Fine (keyPeak (keys m c) b s g)) : (dats m 0 c).arrAt 4 cfg0.N = keyWide (keys m c) := by
  refine (dats m 0 c).arrAt_eq_of_covers 4 _ covers4 fun t hf y => ?_
  have h2 := second4 t hf
  blk_simp
  rw [left4 m c t h2]
  obtain ⟨r, d, rfl⟩ := row3 y
  rw [emb4_at t h2 r d]
  exact wide_at (keys m c) (batch t) (token t r) r _ (iblk0_at m c t h2 r) (hk _ _) d

/-- The block of values' codes a point of the second phase leaves. -/
theorem left5 (c : Dev nD) (t : Fin cfg0.N) (h2 : t.val / 16 % 2 = 1) : (dats m 0 c).after 5 t = k0_pay4 (k0_pay40 (iblk m c 1 t)) (k0_pay41 (before m c t)) := by
  rw [after0_5, outsAt0_C m c t (by omega) h2]
  dsimp only
  rw [out5_eq]
  rfl
/-- Where it lies. -/
theorem emb5_at (t : Fin cfg0.N) (h2 : t.val / 16 % 2 = 1) (r : Fin 2048) (d : Fin 128) : (win0_5.blk t).view.emb (ix3 0 r d) = ix3 (batch t) (token t r) d := by
  blk_ext [index5 t h2]
  · rfl
  · show t.val % 16 * 2048 + r.val = 2048 * (t.val % 16) + r.val
    omega
/-- The array of values' codes. -/
theorem array5 (c : Dev nD) (hv : ∀ b d, Quant.Fine (valPeak (vals m c) b d)) : (dats m 0 c).arrAt 5 cfg0.N = valCodes (vals m c) := by
  refine (dats m 0 c).arrAt_eq_of_covers 5 _ covers5 fun t hf y => ?_
  have h2 := second5 t hf
  blk_simp
  rw [left5 m c t h2]
  obtain ⟨r, d, rfl⟩ := row3 y
  rw [emb5_at t h2 r d]
  rw [valBlock_read, found m c t h2, iblk1_at, rawCode_eq (hv _ _)]
  rfl

/-- The block of values' scales a point of the second phase leaves. -/
theorem left6 (c : Dev nD) (t : Fin cfg0.N) (h2 : t.val / 16 % 2 = 1) : (dats m 0 c).after 6 t = k0_pay5 (F := Ideal) (k0_pay39 (before m c t)) := by
  rw [after0_6, outsAt0_C m c t (by omega) h2]
  dsimp only
  rw [out6_eq]
  rfl
/-- Where it lies. -/
theorem emb6_at (t : Fin cfg0.N) (d : Fin 128) : (win0_6.blk t).view.emb (ix3 0 0 d) = ix3 (batch t) 0 d := by
  blk_ext [index6]
  · rfl
/-- The array of values' scales. -/
theorem array6 (c : Dev nD) (hv : ∀ b d, Quant.Fine (valPeak (vals m c) b d)) : (dats m 0 c).arrAt 6 cfg0.N = valScale (vals m c) := by
  refine (dats m 0 c).arrAt_eq_of_covers 6 _ covers6 fun t hf y => ?_
  have h2 := second6 t hf
  blk_simp
  rw [left6 m c t h2]
  obtain ⟨o, d, rfl⟩ := row3 y
  obtain rfl : o = 0 := Subsingleton.elim _ _
  rw [emb6_at t d]
  rw [scaleBlock_read, found m c t h2, rawPow_eq (hv _ _)]
  rfl

/-- The block of values' codes in columns a point of the second phase leaves. -/
theorem left7 (c : Dev nD) (t : Fin cfg0.N) (h2 : t.val / 16 % 2 = 1) : (dats m 0 c).after 7 t = k0_pay6 (k0_pay40 (iblk m c 1 t)) (k0_pay41 (before m c t)) := by
  rw [after0_7, outsAt0_C m c t (by omega) h2]
  dsimp only
  rw [out7_eq]
  rfl
/-- Where it lies. -/
theorem emb7_at (t : Fin cfg0.N) (h2 : t.val / 16 % 2 = 1) (r : Fin 2048) (d : Fin 128) : (win0_7.blk t).view.emb (ix3 0 d r) = ix3 (batch t) d (token t r) := by
  blk_ext [index7 t h2]
  · rfl
  · show t.val % 16 * 2048 + r.val = 2048 * (t.val % 16) + r.val
    omega
/-- The array of values' codes in columns. -/
theorem array7 (c : Dev nD) (hv : ∀ b d, Quant.Fine (valPeak (vals m c) b d)) : (dats m 0 c).arrAt 7 cfg0.N = valColumns (vals m c) := by
  refine (dats m 0 c).arrAt_eq_of_covers 7 _ covers7 fun t hf y => ?_
  have h2 := second7 t hf
  blk_simp
  rw [left7 m c t h2]
  obtain ⟨d, r, rfl⟩ := row3 y
  rw [emb7_at t h2 r d]
  rw [columnBlock_read, found m c t h2, iblk1_at, rawCode_eq (hv _ _)]
  rfl

end Cert.KernelKVIdeal.Quantize

end
-- ==== Proof.RefKv.lean ====
/- The arrays the reference quantizer leaves. -/
module

public import proofs.«01_k».proof.Proof.KvResult
public import proofs.«01_k».proof.Proof.Gen.ReferenceKVIdeal.Skeleton

@[expose] public section

set_option maxRecDepth 16384

noncomputable section

namespace Cert.ReferenceKVIdeal.Quantize

open Idealize.ShloMosaic Cert.ReferenceKVIdeal Cert.ReferenceKVIdeal.Gen Cert.KvResult

/-- The logarithm of two. -/
theorem ln2 : Named.named (F := Ideal) κ "ln2" (φ := .f32) 0x3F317218#32 = ((Real.log 2 : ℝ) : EReal) :=
  IdealRules.named_const.ideal_named_scalar _ _ _ _ rfl

variable (k v : Vec Ideal S2x32768x128 .bf16)

/-- The largest magnitudes of the groups of the keys. -/
def keyPeaks : FVec Ideal S2x32768x4 .f32 :=
  multiReduction .maximumf [3] S2x32768x4 (absf (k0_pay2 k)) 0xFF800000#32 reduces_S2x32768x4x32_S2x32768x4 (.inl rfl) rfl
/-- The largest magnitudes of the components of the values. -/
def valPeaks : FVec Ideal S2x128 .f32 :=
  multiReduction .maximumf [1] S2x128 (absf (k0_pay10 v)) 0xFF800000#32 reduces_S2x32768x128_S2x128 (.inl rfl) rfl

/-- The exponents the reference makes of the largest magnitudes of the keys' groups. -/
def keyExps (p : FVec Ideal S2x32768x4 .f32) : FVec Ideal S2x32768x4x1 .f32 :=
  have y : FVec Ideal S2x32768x4x1 .f32 := mulf (shapeCast S2x32768x4x1 p shapeCasts_S2x32768x4_S2x32768x4x1) (broadcast S2x32768x4x1 (Scalar.ofBits .f32 0x3B124925#32))
  select (cmpf .oeq y (broadcast S2x32768x4x1 (Scalar.ofBits (F := Ideal) .f32 0x00000000#32)))
    (broadcast S2x32768x4x1 (Scalar.ofBits (F := Ideal) .f32 0x00000000#32))
    (addf (floor (divf (log y) (broadcast S2x32768x4x1 (Named.named κ "ln2" 0x3F317218#32)))) (broadcast S2x32768x4x1 (Scalar.ofBits .f32 0x3F800000#32)))
/-- The exponents the reference makes of the largest magnitudes of the values' components. -/
def valExps (p : FVec Ideal S2x128 .f32) : FVec Ideal S2x1x128 .f32 :=
  have y : FVec Ideal S2x1x128 .f32 := mulf (shapeCast S2x1x128 p shapeCasts_S2x128_S2x1x128) (broadcast S2x1x128 (Scalar.ofBits .f32 0x3B124925#32))
  select (cmpf .oeq y (broadcast S2x1x128 (Scalar.ofBits (F := Ideal) .f32 0x00000000#32)))
    (broadcast S2x1x128 (Scalar.ofBits (F := Ideal) .f32 0x00000000#32))
    (addf (floor (divf (log y) (broadcast S2x1x128 (Named.named κ "ln2" 0x3F317218#32)))) (broadcast S2x1x128 (Scalar.ofBits .f32 0x3F800000#32)))

/-- The keys' exponents are made of their largest magnitudes. -/
theorem keyExps_eq : k0_pay3 k = keyExps (keyPeaks k) := rfl
/-- The values' exponents are made of their largest magnitudes. -/
theorem valExps_eq : k0_pay11 v = valExps (valPeaks v) := rfl

/-- The largest magnitude of a group. -/
theorem keyPeaks_read (b : Fin 2) (t : Fin 32768) (g : Fin 4) : keyPeaks k (ix3 b t g) = keyPeak k b t g := by
  pointwise [keyPeaks, k0_pay2]
  rw [Consts.ofBits_bot]
  unfold keyPeak
  exact congrArg (fun f => Finset.fold max ⊥ f Finset.univ) (funext fun x => rfl)
/-- The largest magnitude of a component. -/
theorem valPeaks_read (b : Fin 2) (d : Fin 128) : valPeaks v (ix2 b d) = valPeak v b d := by
  pointwise [valPeaks, k0_pay10]
  rw [Consts.ofBits_bot]
  unfold valPeak
  exact congrArg (fun f => Finset.fold max ⊥ f Finset.univ) (funext fun x => rfl)

/-- A group's exponent, by the logarithm. -/
theorem keyExps_read (p : FVec Ideal S2x32768x4 .f32) (b : Fin 2) (t : Fin 32768) (g : Fin 4) :
    keyExps p (ix4 b t g 0) = Quant.logged (Named.named (F := Ideal) κ "ln2" (φ := .f32) 0x3F317218#32) (p (ix3 b t g)) := by
  pointwise [keyExps]
  rfl
/-- A component's exponent, by the logarithm. -/
theorem valExps_read (p : FVec Ideal S2x128 .f32) (b : Fin 2) (d : Fin 128) :
    valExps p (ix3 b 0 d) = Quant.logged (Named.named (F := Ideal) κ "ln2" (φ := .f32) 0x3F317218#32) (p (ix2 b d)) := by
  pointwise [valExps]
  rfl

/-- The codes of numbers in groups, at given exponents. -/
def keyCodesOf (w : FVec Ideal S2x32768x4x32 .f32) (e : FVec Ideal S2x32768x4x1 .f32) : FVec Ideal S2x32768x4x32 .fp8e4m3 :=
  truncf .fp8e4m3 (minimumf (broadcast S2x32768x4x32 (Scalar.ofBits .f32 0x43E00000#32)) (maximumf (broadcast S2x32768x4x32 (Scalar.ofBits .f32 0xC3E00000#32))
    (mulf w (broadcastTo S2x32768x4x32 (exp2 (subf (broadcast S2x32768x4x1 (Scalar.ofBits .f32 0x00000000#32)) e)) broadcasts_S2x32768x4x1_S2x32768x4x32))))
    bitsLt_fp8e4m3_f32
/-- The codes of numbers in columns, at given exponents. -/
def valCodesOf (w : FVec Ideal S2x32768x128 .f32) (e : FVec Ideal S2x1x128 .f32) : FVec Ideal S2x32768x128 .fp8e4m3 :=
  truncf .fp8e4m3 (minimumf (broadcast S2x32768x128 (Scalar.ofBits .f32 0x43E00000#32)) (maximumf (broadcast S2x32768x128 (Scalar.ofBits .f32 0xC3E00000#32))
    (mulf w (broadcastTo S2x32768x128 (exp2 (subf (broadcast S2x1x128 (Scalar.ofBits .f32 0x00000000#32)) e)) broadcasts_S2x1x128_S2x32768x128))))
    bitsLt_fp8e4m3_f32
/-- The bytes of given exponents. -/
def bytesOf (e : FVec Ideal S2x32768x4x1 .f32) : IVec S2x32768x4 8 :=
  trunci 8 (addi (fptosi 32 (shapeCast S2x32768x4 e shapeCasts_S2x32768x4x1_S2x32768x4)) (broadcast S2x32768x4 127#32)) natLt_8_32
/-- The numbers read back from codes, at given exponents. -/
def wideOf (c : FVec Ideal S2x32768x4x32 .fp8e4m3) (e : FVec Ideal S2x32768x4x1 .f32) : FVec Ideal S2x32768x128 .bf16 :=
  shapeCast S2x32768x128 (truncf .bf16 (mulf (extf .f32 c bitsLt_fp8e4m3_f32) (broadcastTo S2x32768x4x32 (exp2 e) broadcasts_S2x32768x4x1_S2x32768x4x32))
    bitsLt_bf16_f32) shapeCasts_S2x32768x4x32_S2x32768x128
/-- Codes with the token along the column. -/
def columnsOf (c : FVec Ideal S2x32768x128 .fp8e4m3) : FVec Ideal S2x128x32768 .fp8e4m3 :=
  truncf .fp8e4m3 (transpose S2x128x32768 [0, 2, 1] (extf .f32 c bitsLt_fp8e4m3_f32) transposes_S2x32768x128_p0_2_1_S2x128x32768) bitsLt_fp8e4m3_f32

/-- The reference's six arrays, in these terms. -/
theorem keyCodes_eq : k0_pay5 k = shapeCast S2x32768x128 (keyCodesOf (k0_pay2 k) (k0_pay3 k)) shapeCasts_S2x32768x4x32_S2x32768x128 := rfl
/-- The keys' bytes, of the exponents. -/
theorem keyBytes_eq : k0_pay6 k = bytesOf (k0_pay3 k) := rfl
/-- The keys read back, of the exponents. -/
theorem keyWide_eq : k0_pay9 (k0_pay7 k) (k0_pay8 k) = wideOf (keyCodesOf (k0_pay2 k) (k0_pay3 k)) (k0_pay3 k) := rfl
/-- The values' codes, of the exponents. -/
theorem valCodes_eq : k0_pay12 v = valCodesOf (k0_pay10 v) (k0_pay11 v) := rfl
/-- The values' scales, of the exponents. -/
theorem valScale_eq : k0_pay13 v = exp2 (k0_pay11 v) := rfl
/-- The values' codes in columns, of the exponents. -/
theorem valColumns_eq : k0_pay1 (k0_pay14 v) = columnsOf (k0_pay12 v) := rfl

/-- The keys in groups. -/
theorem groups_read (b : Fin 2) (t : Fin 32768) (g : Fin 4) (x : Fin 32) :
    k0_pay2 k (ix4 b t g x) = k (ix3 b t ⟨g.val * 32 + x.val, by omega⟩) := by
  pointwise [k0_pay2]
/-- The values. -/
theorem rows_read (b : Fin 2) (t : Fin 32768) (d : Fin 128) : k0_pay10 v (ix3 b t d) = v (ix3 b t d) := by
  pointwise [k0_pay10]

/-- A code of the keys. -/
theorem keyCodesOf_read (w : FVec Ideal S2x32768x4x32 .f32) (e : FVec Ideal S2x32768x4x1 .f32) (b : Fin 2) (t : Fin 32768) (g : Fin 4) (x : Fin 32) :
    keyCodesOf w e (ix4 b t g x) = min (Ideal.ofBits FTy.f32 1138753536#32) (max (Ideal.ofBits FTy.f32 3286237184#32)
      (w (ix4 b t g x) * Ideal.exp2 (0 - e (ix4 b t g 0)))) := by
  pointwise [keyCodesOf]
  rfl
/-- A code of the values. -/
theorem valCodesOf_read (w : FVec Ideal S2x32768x128 .f32) (e : FVec Ideal S2x1x128 .f32) (b : Fin 2) (t : Fin 32768) (d : Fin 128) :
    valCodesOf w e (ix3 b t d) = min (Ideal.ofBits FTy.f32 1138753536#32) (max (Ideal.ofBits FTy.f32 3286237184#32)
      (w (ix3 b t d) * Ideal.exp2 (0 - e (ix3 b 0 d)))) := by
  pointwise [valCodesOf]
  rfl
/-- Groups laid side by side. -/
theorem flat_read (c : FVec Ideal S2x32768x4x32 .fp8e4m3) (b : Fin 2) (t : Fin 32768) (d : Fin 128) :
    shapeCast S2x32768x128 c shapeCasts_S2x32768x4x32_S2x32768x128 (ix3 b t d) = c (ix4 b t ⟨d.val / 32, by omega⟩ ⟨d.val % 32, by omega⟩) := by
  pointwise
/-- A byte. -/
theorem bytesOf_read (e : FVec Ideal S2x32768x4x1 .f32) (b : Fin 2) (t : Fin 32768) (g : Fin 4) :
    bytesOf e (ix3 b t g) = BitVec.setWidth 8 (IntOp.addi (Ideal.fptosi 32 (e (ix4 b t g 0))) 127#32) := by
  pointwise [bytesOf]
  rfl
/-- A number read back. -/
theorem wideOf_read (c : FVec Ideal S2x32768x4x32 .fp8e4m3) (e : FVec Ideal S2x32768x4x1 .f32) (b : Fin 2) (t : Fin 32768) (d : Fin 128) :
    wideOf c e (ix3 b t d) = c (ix4 b t ⟨d.val / 32, by omega⟩ ⟨d.val % 32, by omega⟩) * Ideal.exp2 (e (ix4 b t ⟨d.val / 32, by omega⟩ 0)) := by
  pointwise [wideOf]
  rfl
/-- A code in its column. -/
theorem columnsOf_read (c : FVec Ideal S2x32768x128 .fp8e4m3) (b : Fin 2) (d : Fin 128) (t : Fin 32768) : columnsOf c (ix3 b d t) = c (ix3 b t d) := by
  pointwise [columnsOf]

end Cert.ReferenceKVIdeal.Quantize

end
-- ==== Proof.RefKvArray.lean ====
/- The six arrays the reference quantizer leaves, where the groups' largest magnitudes are fine. -/
module

public import proofs.«01_k».proof.Proof.RefKv
public import proofs.«01_k».proof.Proof.Gen.ReferenceKVIdeal.Value

@[expose] public section

set_option maxRecDepth 16384

noncomputable section

namespace Cert.ReferenceKVIdeal.Quantize

open Idealize.ShloMosaic Cert.ReferenceKVIdeal Cert.ReferenceKVIdeal.Gen Cert.KvResult

variable (k v : Vec Ideal S2x32768x128 .bf16) (hk : ∀ b t g, Quant.Fine (keyPeak k b t g)) (hv : ∀ b d, Quant.Fine (valPeak v b d))

include hk in
/-- A group's exponent. -/
theorem keyExp_at (b : Fin 2) (t : Fin 32768) (g : Fin 4) : k0_pay3 k (ix4 b t g 0) = (((keyExp k b t g : ℤ) : ℝ) : EReal) := by
  rw [keyExps_eq, keyExps_read, keyPeaks_read, ln2, Quant.logged_eq (hk b t g), keyExp]
include hv in
/-- A component's exponent. -/
theorem valExp_at (b : Fin 2) (d : Fin 128) : k0_pay11 v (ix3 b 0 d) = (((valExp v b d : ℤ) : ℝ) : EReal) := by
  rw [valExps_eq, valExps_read, valPeaks_read, ln2, Quant.logged_eq (hv b d), valExp]

include hk in
/-- A code of the keys, in its group. -/
theorem keyCode_at (b : Fin 2) (t : Fin 32768) (g : Fin 4) (x : Fin 32) : keyCodesOf (k0_pay2 k) (k0_pay3 k) (ix4 b t g x)
    = Quant.code (k (ix3 b t ⟨g.val * 32 + x.val, by omega⟩)) (keyExp k b t g) := by
  rw [keyCodesOf_read, groups_read, keyExp_at k hk, Quant.exp2_neg_int, Quant.code]

/-- A component is in its group. -/
theorem place (d : Fin 128) (h : d.val / 32 * 32 + d.val % 32 < 128) : (⟨d.val / 32 * 32 + d.val % 32, h⟩ : Fin 128) = d :=
  Fin.ext (Nat.div_add_mod' d.val 32)

include hk in
/-- The keys' codes. -/
theorem keyCodes_at : k0_pay5 k = keyCodes k := by
  funext y
  obtain ⟨b, t, d, rfl⟩ : ∃ (b : Fin 2) (t : Fin 32768) (d : Fin 128), y = ix3 b t d := ⟨y 0, y 1, y 2, triple y⟩
  rw [keyCodes_eq, flat_read, keyCode_at k hk]
  simp only [place]
  rfl
include hk in
/-- The keys' bytes. -/
theorem keyBytes_at : k0_pay6 k = keyBytes k := by
  funext y
  obtain ⟨b, t, g, rfl⟩ : ∃ (b : Fin 2) (t : Fin 32768) (g : Fin 4), y = ix3 b t g := ⟨y 0, y 1, y 2, triple y⟩
  rw [keyBytes_eq, bytesOf_read, keyExp_at k hk]
  unfold keyExp
  rw [Quant.to_word (hk b t g)]
  rfl
include hk in
/-- The keys read back. -/
theorem keyWide_at : k0_pay9 (k0_pay7 k) (k0_pay8 k) = keyWide k := by
  funext y
  obtain ⟨b, t, d, rfl⟩ : ∃ (b : Fin 2) (t : Fin 32768) (d : Fin 128), y = ix3 b t d := ⟨y 0, y 1, y 2, triple y⟩
  rw [keyWide_eq, wideOf_read, keyCode_at k hk, keyExp_at k hk, Quant.exp2_int]
  simp only [place]
  rfl
include hv in
/-- A code of the values. -/
theorem valCode_at (b : Fin 2) (t : Fin 32768) (d : Fin 128) : k0_pay12 v (ix3 b t d) = Quant.code (v (ix3 b t d)) (valExp v b d) := by
  rw [valCodes_eq, valCodesOf_read, rows_read, valExp_at v hv, Quant.exp2_neg_int, Quant.code]
include hv in
/-- The values' codes. -/
theorem valCodes_at : k0_pay12 v = valCodes v := by
  funext y
  obtain ⟨b, t, d, rfl⟩ : ∃ (b : Fin 2) (t : Fin 32768) (d : Fin 128), y = ix3 b t d := ⟨y 0, y 1, y 2, triple y⟩
  exact valCode_at v hv b t d
/-- The elementwise power of two, at an index. -/
theorem exp2_at (e : FVec Ideal S2x1x128 .f32) (y : S2x1x128.Idx) : exp2 e y = Ideal.exp2 (e y) := rfl
include hv in
/-- The values' scales. -/
theorem valScale_at : k0_pay13 v = valScale v := by
  funext y
  obtain ⟨b, o, d, rfl⟩ : ∃ (b : Fin 2) (o : Fin 1) (d : Fin 128), y = ix3 b o d := ⟨y 0, y 1, y 2, triple y⟩
  obtain rfl : o = 0 := Subsingleton.elim _ _
  rw [valScale_eq, exp2_at]
  rw [valExp_at v hv, Quant.exp2_int]
  rfl
include hv in
/-- The values' codes, one token to a column. -/
theorem valColumns_at : k0_pay1 (k0_pay14 v) = valColumns v := by
  funext y
  obtain ⟨b, d, t, rfl⟩ : ∃ (b : Fin 2) (d : Fin 128) (t : Fin 32768), y = ix3 b d t := ⟨y 0, y 1, y 2, triple y⟩
  rw [valColumns_eq, columnsOf_read]
  exact valCode_at v hv b t d

include hk hv in
/-- The six arrays the run leaves, of keys `k'` and values `v'` that are `k` and `v`. -/
theorem arrays (k' v' : Vec Ideal S2x32768x128 .bf16) (ek : k' = k) (ev : v' = v) : Value.G2 k' v' = keyCodes k ∧ Value.G3 k' v' = keyBytes k
    ∧ Value.G4 k' v' = keyWide k ∧ Value.G5 k' v' = valCodes v ∧ Value.G6 k' v' = valScale v ∧ Value.G7 k' v' = valColumns v := by
  subst ek ev
  exact ⟨keyCodes_at k' hk, keyBytes_at k' hk, keyWide_at k' hk, valCodes_at v' hv, valScale_at v' hv, valColumns_at v' hv⟩

end Cert.ReferenceKVIdeal.Quantize

end
-- ==== Proof.KvRange.lean ====
/- What the quantizer's precondition says: the largest magnitude of every group of the keys, and of every component of the values, is
   fine. -/
module

public import proofs.«01_k».proof.Proof.Gen.Pre_in_range
public import proofs.«01_k».proof.Proof.KvResult
public import Idealize.ShloMosaic.Lib.ReduceAll
public import Idealize.ShloMosaic.Lib.Pointwise
public import Idealize.ShloMosaic.PureOps.Ideal

@[expose] public section

set_option maxRecDepth 16384

noncomputable section

namespace Cert.Pre_in_range.Quantize

open Idealize.ShloMosaic Cert.Pre_in_range Cert.Pre_in_range.Gen Cert.KvResult

/-- The least nonzero magnitude allowed. -/
theorem ofBits_low : Ideal.ofBits FTy.bf16 0x0460#16 = ((448 * (2 : ℝ) ^ (-127 : ℤ) : ℝ) : EReal) := by
  generalize hx : (448 * (2 : ℝ) ^ (-127 : ℤ) : ℝ) = x
  simp [Ideal.ofBits, Ideal.ieee]
  rw [← hx]
  norm_num
  rw [← EReal.coe_mul]
  norm_num
/-- The greatest magnitude allowed. -/
theorem ofBits_high : Ideal.ofBits FTy.bf16 0x7F7F#16 = (((2 : ℝ) ^ (128 : ℤ) - (2 : ℝ) ^ (120 : ℤ) : ℝ) : EReal) := by
  generalize hx : ((2 : ℝ) ^ (128 : ℤ) - (2 : ℝ) ^ (120 : ℤ) : ℝ) = x
  simp [Ideal.ofBits, Ideal.ieee]
  rw [← EReal.coe_pow, ← EReal.coe_mul, ← hx]
  norm_num
/-- Nothing is below the start of a maximum. -/
theorem ofBits_bot : Ideal.ofBits FTy.bf16 0xFF80#16 = (⊥ : EReal) := by simp [Ideal.ofBits, Ideal.ieee]
/-- Zero. -/
theorem ofBits_zero : Ideal.ofBits FTy.bf16 0x0000#16 = (0 : EReal) := by simp [Ideal.ofBits, Ideal.ieee]

/-- A word of one bit made of a decision that is one: the decision holds. -/
theorem of_word {p : Prop} [Decidable p] (h : BitVec.ofBool (decide p) = 1#1) : p := by
  by_contra hn
  rw [decide_eq_false hn] at h
  exact absurd h (by decide)

/-- A magnitude that passes the precondition's test is fine. -/
theorem fine_of {a : EReal} (h : IntOp.ori (FloatOps.cmpf (F := Ideal) (φ := .bf16) .oeq a (Ideal.ofBits FTy.bf16 0x0000#16))
    (IntOp.andi (FloatOps.cmpf (F := Ideal) (φ := .bf16) .oge a (Ideal.ofBits FTy.bf16 0x0460#16))
      (FloatOps.cmpf (F := Ideal) (φ := .bf16) .ole a (Ideal.ofBits FTy.bf16 0x7F7F#16))) = 1#1) : Quant.Fine a := by
  rcases IntOp.ori_eq_one.1 h with e | e
  · refine .inl ?_
    rw [← ofBits_zero]
    exact of_word e
  · obtain ⟨l, u⟩ := IntOp.andi_eq_one.1 e
    have l' : Ideal.ofBits FTy.bf16 0x0460#16 ≤ a := of_word l
    have u' : a ≤ Ideal.ofBits FTy.bf16 0x7F7F#16 := of_word u
    rw [ofBits_low] at l'
    rw [ofBits_high] at u'
    induction a with
    | bot => exact absurd l' (not_le.2 (EReal.bot_lt_coe _))
    | top => exact absurd u' (not_le.2 (EReal.coe_lt_top _))
    | coe r =>
      refine .inr ⟨r, rfl, EReal.coe_le_coe_iff.1 l', (EReal.coe_le_coe_iff.1 u').trans ?_⟩
      have : (0 : ℝ) < (2 : ℝ) ^ (120 : ℤ) := by positivity
      linarith

/-- The same of an array's element. -/
theorem fine_at {s : Shape} (w z l u : FVec Ideal s .bf16) (i : s.Idx) (h : ori (cmpf .oeq w z) (andi (cmpf .oge w l) (cmpf .ole w u)) i = 1#1)
    (hz : z i = Ideal.ofBits FTy.bf16 0x0000#16) (hl : l i = Ideal.ofBits FTy.bf16 0x0460#16) (hu : u i = Ideal.ofBits FTy.bf16 0x7F7F#16) :
    Quant.Fine (w i) := by
  refine fine_of ?_
  rw [← hz, ← hl, ← hu]
  exact h

variable (k v : FVec Ideal S2x32768x128 .bf16)

/-- The largest magnitudes the precondition tests: the keys', by group. -/
def keyTops : FVec Ideal S2x32768x4 .bf16 := Host.reduce FloatOps.maximumf (shapeCast S2x32768x4x32 (Host.absf k) shapeCasts_S2x32768x128_S2x32768x4x32)
  (constant S_ .bf16 0xFF80#16) reducesTo_S2x32768x4x32_S2x32768x4_d3 h_S_
/-- And the values', by component. -/
def valTops : FVec Ideal S2x128 .bf16 := Host.reduce FloatOps.maximumf (Host.absf v) (constant S_ .bf16 0xFF80#16)
  reducesTo_S2x32768x128_S2x128_d1 h_S_
/-- A group's. -/
theorem keyTops_read (b : Fin 2) (t : Fin 32768) (g : Fin 4) : keyTops k (ix3 b t g) = keyPeak k b t g := by
  pointwise [keyTops]
  rw [ofBits_bot]
  exact congrArg (fun f => Finset.fold max ⊥ f Finset.univ) (funext fun x => rfl)
/-- A component's. -/
theorem valTops_read (b : Fin 2) (d : Fin 128) : valTops v (ix2 b d) = valPeak v b d := by
  pointwise [valTops]
  rw [ofBits_bot]
  exact congrArg (fun f => Finset.fold max ⊥ f Finset.univ) (funext fun x => rfl)

/-- Where the precondition holds both of its halves do. -/
theorem halves (h : fn k v = fun _ => 1#1) (j : S_.Idx) :
    Host.reduce IntOp.andi (ori (cmpf .oeq (keyTops k) (broadcastInDim S2x32768x4 ![] bcast_S_S2x32768x4 (constant S_ .bf16 0x0000#16)))
        (andi (cmpf .oge (keyTops k) (broadcastInDim S2x32768x4 ![] bcast_S_S2x32768x4 (constant S_ .bf16 0x0460#16)))
          (cmpf .ole (keyTops k) (broadcastInDim S2x32768x4 ![] bcast_S_S2x32768x4 (constant S_ .bf16 0x7F7F#16)))))
        (constantI S_ 1 1#1) reducesTo_S2x32768x4_S_d0_1_2 h_S_ j = 1#1
      ∧ Host.reduce IntOp.andi (ori (cmpf .oeq (valTops v) (broadcastInDim S2x128 ![] bcast_S_S2x128 (constant S_ .bf16 0x0000#16)))
        (andi (cmpf .oge (valTops v) (broadcastInDim S2x128 ![] bcast_S_S2x128 (constant S_ .bf16 0x0460#16)))
          (cmpf .ole (valTops v) (broadcastInDim S2x128 ![] bcast_S_S2x128 (constant S_ .bf16 0x7F7F#16)))))
        (constantI S_ 1 1#1) reducesTo_S2x128_S_d0_1 h_S_ j = 1#1 := by
  unfold fn fn_part1 at h
  dsimp only at h
  have e := congrFun h j
  exact IntOp.andi_eq_one.1 e

/-- A constant array. -/
theorem keyConst_read (x : BitVec 16) (i : S2x32768x4.Idx) : broadcastInDim S2x32768x4 ![] bcast_S_S2x32768x4 (constant S_ .bf16 x) i
    = Ideal.ofBits FTy.bf16 x := rfl
/-- Another. -/
theorem valConst_read (x : BitVec 16) (i : S2x128.Idx) : broadcastInDim S2x128 ![] bcast_S_S2x128 (constant S_ .bf16 x) i
    = Ideal.ofBits FTy.bf16 x := rfl

/-- Under the precondition every group of the keys is fine. -/
theorem keys_fine (h : fn k v = fun _ => 1#1) (b : Fin 2) (t : Fin 32768) (g : Fin 4) : Quant.Fine (keyPeak k b t g) := by
  rw [← keyTops_read]
  exact fine_at _ _ _ _ _ (Host.reduce_andi_all _ _ _ _ (fun a => a.elim0) (halves k v h _).1 (ix3 b t g)) (keyConst_read _ _) (keyConst_read _ _)
    (keyConst_read _ _)
/-- Under the precondition every component of the values is fine. -/
theorem vals_fine (h : fn k v = fun _ => 1#1) (b : Fin 2) (d : Fin 128) : Quant.Fine (valPeak v b d) := by
  rw [← valTops_read]
  exact fine_at _ _ _ _ _ (Host.reduce_andi_all _ _ _ _ (fun a => a.elim0) (halves k v h _).2 (ix2 b d)) (valConst_read _ _) (valConst_read _ _)
    (valConst_read _ _)

end Cert.Pre_in_range.Quantize

end
-- ==== Proof.QResult.lean ====
/- The three arrays of the quantized queries. A token's 2048 numbers are sixteen heads of 128 components, quantized in groups of 32. -/
module

public import proofs.«01_k».proof.Proof.KvResult

@[expose] public section

noncomputable section

namespace Cert.QResult

open Idealize.ShloMosaic

/-- The queries. -/
abbrev Rows : Type := (⟨3, ![2, 32768, 2048]⟩ : Shape).Idx → EReal

/-- The largest magnitude of a group of a token. -/
def peak (q : Rows) (b : Fin 2) (t : Fin 32768) (g : Fin 64) : EReal :=
  Finset.fold max ⊥ (fun x : Fin 32 => max (q (ix3 b t ⟨g.val * 32 + x.val, by omega⟩)) (-q (ix3 b t ⟨g.val * 32 + x.val, by omega⟩))) Finset.univ
/-- The exponent of a group of a token. -/
def exponent (q : Rows) (b : Fin 2) (t : Fin 32768) (g : Fin 64) : ℤ := Quant.expnt (peak q b t g)
/-- The group of a number. -/
def group (d : Fin 2048) : Fin 64 := ⟨d.val / 32, by omega⟩
/-- A number's code. -/
def code (q : Rows) (b : Fin 2) (t : Fin 32768) (d : Fin 2048) : EReal := Quant.code (q (ix3 b t d)) (exponent q b t (group d))
/-- A number read back from its code. -/
def back (q : Rows) (b : Fin 2) (t : Fin 32768) (d : Fin 2048) : EReal := code q b t d * (((2 : ℝ) ^ exponent q b t (group d) : ℝ) : EReal)

/-- The codes. -/
def codes (q : Rows) : (⟨3, ![2, 32768, 2048]⟩ : Shape).Idx → EReal := fun y => code q (y 0) (y 1) (y 2)
/-- The exponents, a byte each. -/
def bytes (q : Rows) : (⟨3, ![2, 32768, 64]⟩ : Shape).Idx → BitVec 8 := fun y => Quant.byte (exponent q (y 0) (y 1) (y 2))
/-- The token of column `j` of tile `i`: a tile is sixteen tokens, and a column is one head of one of them. -/
def token (i : Fin 2048) (j : Fin 256) : Fin 32768 := ⟨i.val * 16 + j.val % 16, by omega⟩
/-- The number of a token that stands in row `d` of column `j` of its tile. -/
def number (d : Fin 128) (j : Fin 256) : Fin 2048 := ⟨j.val / 16 * 128 + d.val, by omega⟩
/-- The queries read back, in tiles of sixteen tokens. -/
def tiles (q : Rows) : (⟨4, ![2, 2048, 128, 256]⟩ : Shape).Idx → EReal := fun y => back q (y 0) (token (y 1) (y 3)) (number (y 2) (y 3))

end Cert.QResult

end
-- ==== Proof.QStage.lean ====
/- One head of a block of queries: its four groups of columns, each quantized by itself. -/
module

public import proofs.«01_k».proof.Proof.QResult
public import proofs.«01_k».proof.Proof.Gen.KernelQIdeal.Skeleton
public import Idealize.ShloMosaic.Lib.Pipeline.Value

@[expose] public section

set_option maxRecDepth 16384

noncomputable section

namespace Cert.KernelQIdeal.Quantize

open Idealize.ShloMosaic Cert.KernelQIdeal Cert.KernelQIdeal.Gen

/-! ### One group of columns -/

/-- The first group's columns. -/
def cut0 (w : FVec Ideal S128x128 .f32) : FVec Ideal S128x32 .f32 := extractStridedSlice S128x32 ![0, 0] w slices_S128x128_o0_0_S128x32
/-- The second group's columns. -/
def cut1 (w : FVec Ideal S128x128 .f32) : FVec Ideal S128x32 .f32 := extractStridedSlice S128x32 ![0, 32] w slices_S128x128_o0_32_S128x32
/-- The third group's columns. -/
def cut2 (w : FVec Ideal S128x128 .f32) : FVec Ideal S128x32 .f32 := extractStridedSlice S128x32 ![0, 64] w slices_S128x128_o0_64_S128x32
/-- The fourth group's columns. -/
def cut3 (w : FVec Ideal S128x128 .f32) : FVec Ideal S128x32 .f32 := extractStridedSlice S128x32 ![0, 96] w slices_S128x128_o0_96_S128x32
/-- Each row's largest magnitude. -/
def peaks (s : FVec Ideal S128x32 .f32) : FVec Ideal S128 .f32 :=
  multiReduction .maximumf [1] S128 (absf s) 0xFF800000#32 reduces_S128x32_S128 (.inl rfl) rfl
/-- Each row's exponent, of the largest magnitudes. -/
def counts (p : FVec Ideal S128 .f32) : IVec S128x1 32 :=
  have v14 : FVec Ideal S128x1 .f32 := mulf (shapeCast S128x1 p shapeCasts_S128_S128x1) (broadcast S128x1 (Scalar.ofBits .f32 0x3B124925#32))
  have v21 : IVec S128x255 32 := shli (addi (subi (iota .tc S128x255 32 [1] iota_S128x255_d1_w32) (broadcast S128x255 126#32))
    (broadcast S128x255 127#32)) (broadcast S128x255 23#32)
  have v24 : IVec S128x255 1 := cmpf .oge (broadcastTo S128x255 v14 broadcasts_S128x1_S128x255) (bitcastToFloat .f32 v21)
  have v30 : IVec S128 32 := multiReductionI .add [1] S128 (select v24 (broadcast S128x255 1#32) (broadcast S128x255 0#32)) 0#32
    reduces_S128x255_S128 rfl
  select (cmpf .oeq v14 (broadcast S128x1 (Scalar.ofBits .f32 0x00000000#32))) (broadcast S128x1 0#32)
    (subi (shapeCast S128x1 v30 shapeCasts_S128_S128x1) (broadcast S128x1 126#32))
/-- The group's codes. -/
def codes (s : FVec Ideal S128x32 .f32) (e : IVec S128x1 32) : FVec Ideal S128x32 .fp8e4m3 :=
  truncf .fp8e4m3 (minimumf (broadcast S128x32 (Scalar.ofBits .f32 0x43E00000#32)) (maximumf (broadcast S128x32 (Scalar.ofBits .f32 0xC3E00000#32))
    (mulf s (broadcastTo S128x32 (bitcastToFloat .f32 (shli (addi (subi (broadcast S128x1 0#32) e) (broadcast S128x1 127#32))
      (broadcast S128x1 23#32))) broadcasts_S128x1_S128x32)))) bitsLt_fp8e4m3_f32
/-- The group's exponents above the bias. -/
def biased (e : IVec S128x1 32) : IVec S128x1 32 := addi e (broadcast S128x1 127#32)
/-- The group read back. -/
def wide (c : FVec Ideal S128x32 .fp8e4m3) (e : IVec S128x1 32) : FVec Ideal S128x32 .bf16 :=
  truncf .bf16 (mulf (extf .f32 c bitsLt_fp8e4m3_f32) (broadcastTo S128x32 (bitcastToFloat .f32 (shli (addi e (broadcast S128x1 127#32))
    (broadcast S128x1 23#32))) broadcasts_S128x1_S128x32)) bitsLt_bf16_f32

/-- A number's code, of its group's exponent as a word. -/
def rawCode (a : EReal) (e : BitVec 32) : EReal := min (Ideal.ofBits FTy.f32 1138753536#32) (max (Ideal.ofBits FTy.f32 3286237184#32)
  (a * Ideal.ofBits .f32 (IntOp.shli .vector (IntOp.addi (IntOp.subi 0#32 e) 127#32) 23#32)))
/-- The power of two of an exponent word. -/
def rawPow (e : BitVec 32) : EReal := Ideal.ofBits .f32 (IntOp.shli .vector (IntOp.addi e 127#32) 23#32)

/-- A row's largest magnitude. -/
theorem peaks_read (s : FVec Ideal S128x32 .f32) (r : Fin 128) :
    peaks s (ix1 r) = Finset.fold max ⊥ (fun x : Fin 32 => max (s (ix2 r x)) (-s (ix2 r x))) Finset.univ := by
  pointwise [peaks]
  rw [Consts.ofBits_bot]
  exact congrArg (fun f => Finset.fold max ⊥ f Finset.univ) (funext fun x => rfl)
/-- A row's exponent. -/
theorem counts_read (p : FVec Ideal S128 .f32) (r : Fin 128) : counts p (ix2 r 0) = Quant.count (p (ix1 r)) := by
  pointwise [counts]
  rfl
/-- A code. -/
theorem codes_read (s : FVec Ideal S128x32 .f32) (e : IVec S128x1 32) (r : Fin 128) (x : Fin 32) :
    codes s e (ix2 r x) = rawCode (s (ix2 r x)) (e (ix2 r 0)) := by
  pointwise [codes]
  rfl
/-- An exponent above the bias. -/
theorem biased_read (e : IVec S128x1 32) (r : Fin 128) : biased e (ix2 r 0) = IntOp.addi (e (ix2 r 0)) 127#32 := by
  pointwise [biased]
/-- A number read back. -/
theorem wide_read (c : FVec Ideal S128x32 .fp8e4m3) (e : IVec S128x1 32) (r : Fin 128) (x : Fin 32) :
    wide c e (ix2 r x) = c (ix2 r x) * rawPow (e (ix2 r 0)) := by
  pointwise [wide]
  rfl

/-- A column of the first group. -/
theorem cut0_read (w : FVec Ideal S128x128 .f32) (r : Fin 128) (x : Fin 32) : cut0 w (ix2 r x) = w (ix2 r ⟨0 + x.val, by omega⟩) := by
  pointwise [cut0]
/-- A column of the second group. -/
theorem cut1_read (w : FVec Ideal S128x128 .f32) (r : Fin 128) (x : Fin 32) : cut1 w (ix2 r x) = w (ix2 r ⟨32 + x.val, by omega⟩) := by
  pointwise [cut1]
/-- A column of the third group. -/
theorem cut2_read (w : FVec Ideal S128x128 .f32) (r : Fin 128) (x : Fin 32) : cut2 w (ix2 r x) = w (ix2 r ⟨64 + x.val, by omega⟩) := by
  pointwise [cut2]
/-- A column of the fourth group. -/
theorem cut3_read (w : FVec Ideal S128x128 .f32) (r : Fin 128) (x : Fin 32) : cut3 w (ix2 r x) = w (ix2 r ⟨96 + x.val, by omega⟩) := by
  pointwise [cut3]

end Cert.KernelQIdeal.Quantize

end
-- ==== Proof.QBlock.lean ====
/- One head of a block of queries: what its codes, its bytes and its numbers read back hold at an index. -/
module

public import proofs.«01_k».proof.Proof.QStage

@[expose] public section

set_option maxRecDepth 16384

noncomputable section

namespace Cert.KernelQIdeal.Quantize

open Idealize.ShloMosaic Cert.KernelQIdeal Cert.KernelQIdeal.Gen

/-- The exponents of a group of columns. -/
def exps (s : FVec Ideal S128x32 .f32) : IVec S128x1 32 := counts (peaks s)
/-- The codes of a group of columns. -/
def coded (s : FVec Ideal S128x32 .f32) : FVec Ideal S128x32 .fp8e4m3 := codes s (exps s)

/-- The block's codes. -/
def codesBlock (w : FVec Ideal S128x128 .f32) : FVec Ideal S1x128x128 .fp8e4m3 :=
  shapeCast S1x128x128 (concatenate S128x128 1 [⟨S128x32, coded (cut0 w)⟩, ⟨S128x32, coded (cut1 w)⟩, ⟨S128x32, coded (cut2 w)⟩,
    ⟨S128x32, coded (cut3 w)⟩] concatenates_S128x32_S128x32_S128x32_S128x32_S128x128_d1) shapeCasts_S128x128_S1x128x128
/-- The block's bytes. -/
def bytesBlock (w : FVec Ideal S128x128 .f32) : IVec S1x128x4 8 :=
  shapeCast S1x128x4 (trunci 8 (concatenate S128x4 1 [⟨S128x1, biased (exps (cut0 w))⟩, ⟨S128x1, biased (exps (cut1 w))⟩,
    ⟨S128x1, biased (exps (cut2 w))⟩, ⟨S128x1, biased (exps (cut3 w))⟩] concatenates_S128x1_S128x1_S128x1_S128x1_S128x4_d1) natLt_8_32)
    shapeCasts_S128x4_S1x128x4
/-- The block read back. -/
def wideBlock (w : FVec Ideal S128x128 .f32) : FVec Ideal S128x128 .bf16 :=
  concatenate S128x128 1 [⟨S128x32, wide (coded (cut0 w)) (exps (cut0 w))⟩, ⟨S128x32, wide (coded (cut1 w)) (exps (cut1 w))⟩,
    ⟨S128x32, wide (coded (cut2 w)) (exps (cut2 w))⟩, ⟨S128x32, wide (coded (cut3 w)) (exps (cut3 w))⟩]
    concatenates_S128x32_S128x32_S128x32_S128x32_S128x128_d1
/-- A head's numbers. -/
def head (y : Vec Ideal S1x128x128 .bf16) : FVec Ideal S128x128 .f32 := extf .f32 (shapeCast S128x128 y shapeCasts_S1x128x128_S128x128) bitsLt_bf16_f32
/-- A head's numbers at an index. -/
theorem head_read (y : Vec Ideal S1x128x128 .bf16) (r d : Fin 128) : head y (ix2 r d) = y (ix3 0 r d) := by
  pointwise [head]

/-- The largest magnitude of a group of a row of the block. -/
def blockPeak (w : FVec Ideal S128x128 .f32) (r : Fin 128) (g : Fin 4) : EReal :=
  Finset.fold max ⊥ (fun x : Fin 32 => max (w (ix2 r ⟨g.val * 32 + x.val, by omega⟩)) (-w (ix2 r ⟨g.val * 32 + x.val, by omega⟩))) Finset.univ

/-- Four groups of columns side by side, read in group `k`. -/
theorem side (f : Fin 4 → FVec Ideal S128x32 .f32) (k : Fin 4) (r : Fin 128) (x : Fin 32) :
    concatenate S128x128 1 [⟨S128x32, f 0⟩, ⟨S128x32, f 1⟩, ⟨S128x32, f 2⟩, ⟨S128x32, f 3⟩]
      concatenates_S128x32_S128x32_S128x32_S128x32_S128x128_d1 (ix2 r ⟨k.val * 32 + x.val, by omega⟩) = f k (ix2 r x) := by
  have off : ∀ (d : Fin 128) (b : Fin S128x32.rank), b.cast rfl ≠ (1 : Fin S128x128.rank) → ((ix2 r x : S128x32.Idx) b).val
      = ((ix2 r d : S128x128.Idx) (b.cast rfl)).val := fun d b hb => by
    match b with
    | ⟨0, _⟩ => rfl
    | ⟨1, _⟩ => exact absurd rfl hb
  match k with
  | ⟨0, _⟩ => exact concatenate_apply_piece (t := S128x128) 1 _ _ _ 0 (by show 0 < 4; omega) S128x32 (f 0) rfl rfl 0 rfl (ix2 r x) (off _) (by show 0 + x.val = 0 * 32 + x.val; omega)
  | ⟨1, _⟩ => exact concatenate_apply_piece (t := S128x128) 1 _ _ _ 1 (by show 1 < 4; omega) S128x32 (f 1) rfl rfl 32 rfl (ix2 r x) (off _) (by show 32 + x.val = 1 * 32 + x.val; omega)
  | ⟨2, _⟩ => exact concatenate_apply_piece (t := S128x128) 1 _ _ _ 2 (by show 2 < 4; omega) S128x32 (f 2) rfl rfl 64 rfl (ix2 r x) (off _) (by show 64 + x.val = 2 * 32 + x.val; omega)
  | ⟨3, _⟩ => exact concatenate_apply_piece (t := S128x128) 1 _ _ _ 3 (by show 3 < 4; omega) S128x32 (f 3) rfl rfl 96 rfl (ix2 r x) (off _) (by show 96 + x.val = 3 * 32 + x.val; omega)
/-- Four columns side by side. -/
theorem side_words (f : Fin 4 → IVec S128x1 32) (k : Fin 4) (r : Fin 128) :
    concatenate S128x4 1 [⟨S128x1, f 0⟩, ⟨S128x1, f 1⟩, ⟨S128x1, f 2⟩, ⟨S128x1, f 3⟩]
      concatenates_S128x1_S128x1_S128x1_S128x1_S128x4_d1 (ix2 r k) = f k (ix2 r 0) := by
  have off : ∀ (d : Fin 4) (b : Fin S128x1.rank), b.cast rfl ≠ (1 : Fin S128x4.rank) → ((ix2 r 0 : S128x1.Idx) b).val
      = ((ix2 r d : S128x4.Idx) (b.cast rfl)).val := fun d b hb => by
    match b with
    | ⟨0, _⟩ => rfl
    | ⟨1, _⟩ => exact absurd rfl hb
  match k with
  | ⟨0, _⟩ => exact concatenate_apply_piece (t := S128x4) 1 _ _ _ 0 (by show 0 < 4; omega) S128x1 (f 0) rfl rfl 0 rfl (ix2 r 0) (off _) rfl
  | ⟨1, _⟩ => exact concatenate_apply_piece (t := S128x4) 1 _ _ _ 1 (by show 1 < 4; omega) S128x1 (f 1) rfl rfl 1 rfl (ix2 r 0) (off _) rfl
  | ⟨2, _⟩ => exact concatenate_apply_piece (t := S128x4) 1 _ _ _ 2 (by show 2 < 4; omega) S128x1 (f 2) rfl rfl 2 rfl (ix2 r 0) (off _) rfl
  | ⟨3, _⟩ => exact concatenate_apply_piece (t := S128x4) 1 _ _ _ 3 (by show 3 < 4; omega) S128x1 (f 3) rfl rfl 3 rfl (ix2 r 0) (off _) rfl

/-- The columns of a group. -/
def cut (w : FVec Ideal S128x128 .f32) : Fin 4 → FVec Ideal S128x32 .f32 := ![cut0 w, cut1 w, cut2 w, cut3 w]
/-- A column of a group. -/
theorem cut_read (w : FVec Ideal S128x128 .f32) (k : Fin 4) (r : Fin 128) (x : Fin 32) :
    cut w k (ix2 r x) = w (ix2 r ⟨k.val * 32 + x.val, by omega⟩) := by
  match k with
  | ⟨0, _⟩ => exact (cut0_read w r x).trans (congrArg (fun d => w (ix2 r d)) (Fin.ext (by show 0 + x.val = 0 * 32 + x.val; omega)))
  | ⟨1, _⟩ => exact (cut1_read w r x).trans (congrArg (fun d => w (ix2 r d)) (Fin.ext (by show 32 + x.val = 1 * 32 + x.val; omega)))
  | ⟨2, _⟩ => exact (cut2_read w r x).trans (congrArg (fun d => w (ix2 r d)) (Fin.ext (by show 64 + x.val = 2 * 32 + x.val; omega)))
  | ⟨3, _⟩ => exact (cut3_read w r x).trans (congrArg (fun d => w (ix2 r d)) (Fin.ext (by show 96 + x.val = 3 * 32 + x.val; omega)))
/-- A group's exponent. -/
theorem exps_read (w : FVec Ideal S128x128 .f32) (k : Fin 4) (r : Fin 128) : exps (cut w k) (ix2 r 0) = Quant.count (blockPeak w r k) := by
  rw [exps, counts_read, peaks_read]
  simp only [cut_read]
  rfl
/-- A group's code. -/
theorem coded_read (w : FVec Ideal S128x128 .f32) (k : Fin 4) (r : Fin 128) (x : Fin 32) :
    coded (cut w k) (ix2 r x) = rawCode (w (ix2 r ⟨k.val * 32 + x.val, by omega⟩)) (Quant.count (blockPeak w r k)) := by
  rw [coded, codes_read, exps_read, cut_read]

/-- A leading axis of one. -/
theorem lead_read (y : FVec Ideal S128x128 .f32) (r : Fin 128) (d : Fin 128) :
    shapeCast S1x128x128 y shapeCasts_S128x128_S1x128x128 (ix3 0 r d) = y (ix2 r d) := by
  pointwise
/-- A leading axis of one, of bytes. -/
theorem byte_read (y : IVec S128x4 32) (r : Fin 128) (g : Fin 4) :
    shapeCast S1x128x4 (trunci 8 y natLt_8_32) shapeCasts_S128x4_S1x128x4 (ix3 0 r g) = BitVec.setWidth 8 (y (ix2 r g)) := by
  pointwise

/-- The block's codes at an index. -/
theorem codesBlock_read (w : FVec Ideal S128x128 .f32) (k : Fin 4) (r : Fin 128) (x : Fin 32) :
    codesBlock w (ix3 0 r ⟨k.val * 32 + x.val, by omega⟩)
      = rawCode (w (ix2 r ⟨k.val * 32 + x.val, by omega⟩)) (Quant.count (blockPeak w r k)) :=
  (lead_read _ r _).trans ((side (fun j => coded (cut w j)) k r x).trans (coded_read w k r x))
/-- The block's bytes at an index. -/
theorem bytesBlock_read (w : FVec Ideal S128x128 .f32) (k : Fin 4) (r : Fin 128) :
    bytesBlock w (ix3 0 r k) = BitVec.setWidth 8 (IntOp.addi (Quant.count (blockPeak w r k)) 127#32) := by
  refine (byte_read _ r k).trans (congrArg _ ((side_words (fun j => biased (exps (cut w j))) k r).trans ?_))
  show biased (exps (cut w k)) (ix2 r 0) = _
  rw [biased_read, exps_read]
/-- The block read back at an index. -/
theorem wideBlock_read (w : FVec Ideal S128x128 .f32) (k : Fin 4) (r : Fin 128) (x : Fin 32) :
    wideBlock w (ix2 r ⟨k.val * 32 + x.val, by omega⟩)
      = rawCode (w (ix2 r ⟨k.val * 32 + x.val, by omega⟩)) (Quant.count (blockPeak w r k)) * rawPow (Quant.count (blockPeak w r k)) := by
  refine (side (fun j => wide (coded (cut w j)) (exps (cut w j))) k r x).trans ?_
  show wide (coded (cut w k)) (exps (cut w k)) (ix2 r x) = _
  rw [wide_read, coded_read, exps_read]

end Cert.KernelQIdeal.Quantize

end
-- ==== Proof.QHeads.lean ====
/- The program's terms for the sixteen heads of a block of queries: each head's codes, its bytes and its numbers read back are
   the same functions of the head's numbers. -/
module

public import proofs.«01_k».proof.Proof.QBlock
public import proofs.«01_k».proof.Proof.Gen.KernelQIdeal.Frame

@[expose] public section

set_option maxRecDepth 16384

noncomputable section

namespace Cert.KernelQIdeal.Quantize

open Idealize.ShloMosaic Cert.KernelQIdeal Cert.KernelQIdeal.Gen

variable (x : Vec Ideal S1x128x2048 .bf16)

/-- The codes of head 0. -/
theorem codes0_eq : k0_pay31 (k0_pay28 (k0_pay6 (k0_pay522 x) (Scalar.ofBits .f32 0xC3E00000#32) (Scalar.ofBits .f32 0x43E00000#32)) (k0_pay12 (k0_pay523 x) (k0_pay525 x)) (k0_pay20 (k0_pay526 x) (k0_pay527 x) (k0_pay528 x)) (k0_pay529 x) (k0_pay530 x) (k0_pay531 x)) = codesBlock (head (View.ld x r0_0)) := rfl
/-- The bytes of head 0. -/
theorem bytes0_eq : k0_pay32 (k0_pay29 (k0_pay7 (k0_pay521 x)) (k0_pay13 (k0_pay524 x)) (k0_pay21 (k0_pay527 x) (k0_pay528 x)) (k0_pay530 x) (k0_pay531 x)) = bytesBlock (head (View.ld x r0_0)) := rfl
/-- The numbers of head 0 read back. -/
theorem wide0_eq : k0_pay532 x = wideBlock (head (View.ld x r0_0)) := rfl
/-- The codes of head 1. -/
theorem codes1_eq : k0_pay63 (k0_pay37 (k0_pay534 x) (k0_pay536 x)) (k0_pay45 (k0_pay537 x) (k0_pay538 x) (k0_pay539 x) 126#32) (k0_pay52 (k0_pay540 x) (k0_pay541 x) (k0_pay542 x) (Scalar.ofBits .f32 0x00000000#32)) (k0_pay59 (k0_pay544 x) (k0_pay545 x) (k0_pay543 x) (k0_pay546 x)) = codesBlock (head (View.ld x r0_2)) := rfl
/-- The bytes of head 1. -/
theorem bytes1_eq : k0_pay64 (k0_pay38 (k0_pay535 x)) (k0_pay46 (k0_pay538 x) (k0_pay539 x) 126#32) (k0_pay53 (k0_pay541 x) (k0_pay542 x) (Scalar.ofBits .f32 0x00000000#32)) (k0_pay60 (k0_pay545 x) (k0_pay543 x) (k0_pay546 x)) = bytesBlock (head (View.ld x r0_2)) := rfl
/-- The numbers of head 1 read back. -/
theorem wide1_eq : k0_pay547 x = wideBlock (head (View.ld x r0_2)) := rfl
/-- The codes of head 2. -/
theorem codes2_eq : k0_pay98 (k0_pay71 (k0_pay549 x) (k0_pay550 x) (k0_pay551 x) 0#32) (k0_pay79 (k0_pay552 x) (k0_pay553 x) (k0_pay554 x) 1#32) (k0_pay87 (k0_pay555 x) (k0_pay556 x) (k0_pay557 x) (k0_pay558 x)) (k0_pay93 (k0_pay559 x) (k0_pay560 x)) = codesBlock (head (View.ld x r0_4)) := rfl
/-- The bytes of head 2. -/
theorem bytes2_eq : k0_pay99 (k0_pay72 (k0_pay550 x) (k0_pay551 x) 0#32) (k0_pay80 (k0_pay553 x) (k0_pay554 x) 1#32) (k0_pay88 (k0_pay556 x) (k0_pay557 x) (k0_pay558 x)) (k0_pay94 (k0_pay560 x)) = bytesBlock (head (View.ld x r0_4)) := rfl
/-- The numbers of head 2 read back. -/
theorem wide2_eq : k0_pay561 x = wideBlock (head (View.ld x r0_4)) := rfl
/-- The codes of head 3. -/
theorem codes3_eq : k0_pay134 (k0_pay108 (k0_pay563 x) (k0_pay564 x) (k0_pay565 x) (k0_pay566 x) (k0_pay567 x)) (k0_pay116 (k0_pay568 x) (k0_pay569 x) (k0_pay570 x) (k0_pay571 x)) (k0_pay122 (k0_pay572 x) (k0_pay573 x) (Scalar.ofBits .f32 0x3B124925#32)) (k0_pay575 x) (k0_pay576 x) = codesBlock (head (View.ld x r0_6)) := rfl
/-- The bytes of head 3. -/
theorem bytes3_eq : k0_pay135 (k0_pay109 (k0_pay564 x) (k0_pay565 x) (k0_pay566 x) (k0_pay567 x)) (k0_pay117 (k0_pay569 x) (k0_pay570 x) (k0_pay571 x)) (k0_pay123 (k0_pay573 x) (Scalar.ofBits .f32 0x3B124925#32)) (k0_pay574 x) = bytesBlock (head (View.ld x r0_6)) := rfl
/-- The numbers of head 3 read back. -/
theorem wide3_eq : k0_pay577 x = wideBlock (head (View.ld x r0_6)) := rfl
/-- The codes of head 4. -/
theorem codes4_eq : k0_pay163 (k0_pay142 (k0_pay579 x) (k0_pay580 x) (k0_pay581 x) (k0_pay582 x)) (k0_pay148 (k0_pay584 x) (k0_pay585 x) (k0_pay583 x)) (k0_pay587 x) (k0_pay588 x) (k0_pay590 x) = codesBlock (head (View.ld x r0_8)) := rfl
/-- The bytes of head 4. -/
theorem bytes4_eq : k0_pay164 (k0_pay143 (k0_pay580 x) (k0_pay581 x) (k0_pay582 x)) (k0_pay149 (k0_pay585 x) (k0_pay583 x)) (k0_pay156 (k0_pay586 x) 127#32) (k0_pay589 x) = bytesBlock (head (View.ld x r0_8)) := rfl
/-- The numbers of head 4 read back. -/
theorem wide4_eq : k0_pay591 x = wideBlock (head (View.ld x r0_8)) := rfl
/-- The codes of head 5. -/
theorem codes5_eq : k0_pay189 (k0_pay170 (k0_pay593 x) (k0_pay594 x) (k0_pay595 x)) (k0_pay175 (k0_pay596 x)) (k0_pay182 (k0_pay598 x)) (k0_pay599 x) (k0_pay600 x) 0#32 = codesBlock (head (View.ld x r0_10)) := rfl
/-- The bytes of head 5. -/
theorem bytes5_eq : k0_pay190 (k0_pay171 (k0_pay594 x) (k0_pay595 x)) (k0_pay176 (k0_pay596 x)) (k0_pay183 (k0_pay597 x)) (k0_pay600 x) = bytesBlock (head (View.ld x r0_10)) := rfl
/-- The numbers of head 5 read back. -/
theorem wide5_eq : k0_pay601 x = wideBlock (head (View.ld x r0_10)) := rfl
/-- The codes of head 6. -/
theorem codes6_eq : k0_pay220 (k0_pay195 (k0_pay603 x) (k0_pay604 x)) (k0_pay204 (k0_pay606 x) (Scalar.ofBits .f32 0x43E00000#32) (k0_pay607 x)) (k0_pay210 (k0_pay608 x) (k0_pay610 x) 127#32) (k0_pay611 x) (k0_pay612 x) (k0_pay613 x) = codesBlock (head (View.ld x r0_12)) := rfl
/-- The bytes of head 6. -/
theorem bytes6_eq : k0_pay221 (k0_pay196 (k0_pay604 x)) (k0_pay205 (k0_pay605 x)) (k0_pay211 (k0_pay609 x)) (k0_pay612 x) (k0_pay613 x) = bytesBlock (head (View.ld x r0_12)) := rfl
/-- The numbers of head 6 read back. -/
theorem wide6_eq : k0_pay614 x = wideBlock (head (View.ld x r0_12)) := rfl
/-- The codes of head 7. -/
theorem codes7_eq : k0_pay251 (k0_pay226 (k0_pay617 x)) (k0_pay232 (k0_pay618 x) (k0_pay620 x) 23#32) (k0_pay241 (k0_pay621 x) (k0_pay622 x) (k0_pay623 x) (k0_pay624 x)) (k0_pay625 x) (k0_pay626 x) (k0_pay627 x) (k0_pay628 x) = codesBlock (head (View.ld x r0_14)) := rfl
/-- The bytes of head 7. -/
theorem bytes7_eq : k0_pay253 (k0_pay252 (k0_pay227 (k0_pay616 x)) (k0_pay233 (k0_pay619 x)) (k0_pay242 (k0_pay622 x) (k0_pay623 x) (k0_pay624 x)) (k0_pay626 x) (k0_pay627 x) (k0_pay628 x)) = bytesBlock (head (View.ld x r0_14)) := rfl
/-- The numbers of head 7 read back. -/
theorem wide7_eq : k0_pay629 x = wideBlock (head (View.ld x r0_14)) := rfl
/-- The codes of head 8. -/
theorem codes8_eq : k0_pay286 (k0_pay283 (k0_pay258 (k0_pay631 x) (k0_pay633 x)) (k0_pay267 (k0_pay634 x) (k0_pay635 x) (k0_pay636 x) (k0_pay637 x)) (k0_pay275 (k0_pay638 x) (k0_pay639 x) (k0_pay640 x) 1#32 0#32) (k0_pay641 x) (k0_pay642 x) (k0_pay643 x)) = codesBlock (head (View.ld x r0_16)) := rfl
/-- The bytes of head 8. -/
theorem bytes8_eq : k0_pay287 (k0_pay284 (k0_pay259 (k0_pay632 x)) (k0_pay268 (k0_pay635 x) (k0_pay636 x) (k0_pay637 x)) (k0_pay276 (k0_pay639 x) (k0_pay640 x) 1#32 0#32) (k0_pay642 x) (k0_pay643 x)) = bytesBlock (head (View.ld x r0_16)) := rfl
/-- The numbers of head 8 read back. -/
theorem wide8_eq : k0_pay644 x = wideBlock (head (View.ld x r0_16)) := rfl
/-- The codes of head 9. -/
theorem codes9_eq : k0_pay319 (k0_pay292 (k0_pay646 x) (k0_pay647 x) (k0_pay648 x)) (k0_pay300 (k0_pay649 x) (k0_pay650 x) (k0_pay651 x)) (k0_pay307 (k0_pay652 x) (k0_pay653 x) (k0_pay654 x)) (k0_pay314 (k0_pay655 x) (k0_pay656 x) (k0_pay657 x)) = codesBlock (head (View.ld x r0_18)) := rfl
/-- The bytes of head 9. -/
theorem bytes9_eq : k0_pay320 (k0_pay293 (k0_pay647 x)) (k0_pay301 (k0_pay650 x) (k0_pay651 x)) (k0_pay308 (k0_pay653 x) (k0_pay654 x)) (k0_pay315 (k0_pay656 x) (k0_pay657 x)) = bytesBlock (head (View.ld x r0_18)) := rfl
/-- The numbers of head 9 read back. -/
theorem wide9_eq : k0_pay658 x = wideBlock (head (View.ld x r0_18)) := rfl
/-- The codes of head 10. -/
theorem codes10_eq : k0_pay349 (k0_pay327 (k0_pay660 x) (k0_pay661 x) (k0_pay662 x)) (k0_pay334 (k0_pay663 x) (k0_pay664 x) (k0_pay665 x)) (k0_pay340 (k0_pay667 x) (k0_pay668 x) (k0_pay666 x) 126#32) (k0_pay670 x) = codesBlock (head (View.ld x r0_20)) := rfl
/-- The bytes of head 10. -/
theorem bytes10_eq : k0_pay350 (k0_pay328 (k0_pay661 x) (k0_pay662 x)) (k0_pay335 (k0_pay664 x) (k0_pay665 x)) (k0_pay341 (k0_pay668 x) (k0_pay666 x) 126#32) (k0_pay669 x) k0_pay347 = bytesBlock (head (View.ld x r0_20)) := rfl
/-- The numbers of head 10 read back. -/
theorem wide10_eq : k0_pay671 x = wideBlock (head (View.ld x r0_20)) := rfl
/-- The codes of head 11. -/
theorem codes11_eq : k0_pay379 (k0_pay357 (k0_pay673 x) (k0_pay674 x) (k0_pay675 x)) (k0_pay364 (k0_pay676 x) (k0_pay677 x) (k0_pay678 x) 127#32) (k0_pay370 (k0_pay679 x) (k0_pay680 x)) (k0_pay682 x) (Scalar.ofBits .f32 0xC3E00000#32) = codesBlock (head (View.ld x r0_22)) := rfl
/-- The bytes of head 11. -/
theorem bytes11_eq : k0_pay380 (k0_pay358 (k0_pay674 x) (k0_pay675 x)) (k0_pay365 (k0_pay677 x) (k0_pay678 x) 127#32) (k0_pay371 (k0_pay680 x)) (k0_pay681 x) = bytesBlock (head (View.ld x r0_22)) := rfl
/-- The numbers of head 11 read back. -/
theorem wide11_eq : k0_pay683 x = wideBlock (head (View.ld x r0_22)) := rfl
/-- The codes of head 12. -/
theorem codes12_eq : k0_pay409 (k0_pay386 (k0_pay685 x) (k0_pay686 x) (k0_pay687 x) 23#32) (k0_pay392 (k0_pay688 x) (k0_pay689 x)) (k0_pay400 (Scalar.ofBits .f32 0x43E00000#32) (k0_pay691 x)) (k0_pay692 x) (k0_pay694 x) (k0_pay695 x) = codesBlock (head (View.ld x r0_24)) := rfl
/-- The bytes of head 12. -/
theorem bytes12_eq : k0_pay410 (k0_pay387 (k0_pay686 x) (k0_pay687 x) 23#32) (k0_pay393 (k0_pay689 x)) (k0_pay401 (k0_pay690 x)) (k0_pay693 x) = bytesBlock (head (View.ld x r0_24)) := rfl
/-- The numbers of head 12 read back. -/
theorem wide12_eq : k0_pay696 x = wideBlock (head (View.ld x r0_24)) := rfl
/-- The codes of head 13. -/
theorem codes13_eq : k0_pay439 (k0_pay415 (k0_pay698 x) (k0_pay699 x)) (k0_pay701 x) (k0_pay429 (k0_pay702 x) (k0_pay704 x) (k0_pay705 x)) (k0_pay706 x) (k0_pay707 x) (k0_pay708 x) = codesBlock (head (View.ld x r0_26)) := rfl
/-- The bytes of head 13. -/
theorem bytes13_eq : k0_pay440 (k0_pay416 (k0_pay699 x)) (k0_pay423 (k0_pay700 x)) (k0_pay430 (k0_pay703 x)) (k0_pay707 x) (k0_pay708 x) = bytesBlock (head (View.ld x r0_26)) := rfl
/-- The numbers of head 13 read back. -/
theorem wide13_eq : k0_pay709 x = wideBlock (head (View.ld x r0_26)) := rfl
/-- The codes of head 14. -/
theorem codes14_eq : k0_pay466 (k0_pay711 x) (k0_pay450 (k0_pay712 x) (k0_pay714 x)) (k0_pay455 (k0_pay715 x) (k0_pay716 x)) (k0_pay717 x) (k0_pay718 x) (k0_pay719 x) 0#32 (k0_pay720 x) = codesBlock (head (View.ld x r0_28)) := rfl
/-- The bytes of head 14. -/
theorem bytes14_eq : k0_pay468 (k0_pay467 (k0_pay445 (k0_pay710 x)) (k0_pay451 (k0_pay713 x)) (k0_pay456 (k0_pay716 x)) (k0_pay718 x) (k0_pay719 x) 0#32 (k0_pay720 x)) = bytesBlock (head (View.ld x r0_28)) := rfl
/-- The numbers of head 14 read back. -/
theorem wide14_eq : k0_pay721 x = wideBlock (head (View.ld x r0_28)) := rfl
/-- The codes of head 15. -/
theorem codes15_eq : k0_pay498 (k0_pay495 (k0_pay473 (k0_pay724 x) (Scalar.ofBits .f32 0xC3E00000#32) (Scalar.ofBits .f32 0x43E00000#32)) (k0_pay479 (k0_pay725 x) (k0_pay727 x)) (k0_pay487 (k0_pay728 x) (k0_pay729 x) (k0_pay730 x)) (k0_pay731 x) (k0_pay732 x) (k0_pay733 x)) = codesBlock (head (View.ld x r0_30)) := rfl
/-- The bytes of head 15. -/
theorem bytes15_eq : k0_pay499 (k0_pay496 (k0_pay474 (k0_pay723 x)) (k0_pay480 (k0_pay726 x)) (k0_pay488 (k0_pay729 x) (k0_pay730 x)) (k0_pay732 x) (k0_pay733 x)) = bytesBlock (head (View.ld x r0_30)) := rfl
/-- The numbers of head 15 read back. -/
theorem wide15_eq : k0_pay734 x = wideBlock (head (View.ld x r0_30)) := rfl

end Cert.KernelQIdeal.Quantize

end
-- ==== Proof.QTile.lean ====
/- The tiles of queries read back: the sixteen heads' rows of sixteen tokens one under another, turned on their side. -/
module

public import proofs.«01_k».proof.Proof.QHeads
public import Idealize.ShloMosaic.Lib.Pipeline.ValueKit

@[expose] public section

set_option maxRecDepth 16384
set_option maxHeartbeats 1000000

noncomputable section

namespace Cert.KernelQIdeal.Quantize

open Idealize.ShloMosaic Cert.KernelQIdeal Cert.KernelQIdeal.Gen

/-- Sixteen rows of a head from row `o` on. -/
def slab (o : ℕ) (ho : S128x128.Slices ![o, 0] S16x128) (w : FVec Ideal S128x128 .bf16) : FVec Ideal S16x128 .bf16 :=
  extractStridedSlice S16x128 ![o, 0] w ho
/-- Sixteen slabs one under another. -/
def stack (f : Fin 16 → FVec Ideal S16x128 .bf16) : FVec Ideal S256x128 .bf16 :=
  concatenate S256x128 0 [⟨S16x128, f 0⟩, ⟨S16x128, f 1⟩, ⟨S16x128, f 2⟩, ⟨S16x128, f 3⟩, ⟨S16x128, f 4⟩, ⟨S16x128, f 5⟩, ⟨S16x128, f 6⟩, ⟨S16x128, f 7⟩, ⟨S16x128, f 8⟩, ⟨S16x128, f 9⟩, ⟨S16x128, f 10⟩, ⟨S16x128, f 11⟩, ⟨S16x128, f 12⟩, ⟨S16x128, f 13⟩, ⟨S16x128, f 14⟩, ⟨S16x128, f 15⟩]
    concatenates_S16x128_S16x128_S16x128_S16x128_S16x128_S16x128_S16x128_S16x128_S16x128_S16x128_S16x128_S16x128_S16x128_S16x128_S16x128_S16x128_S256x128_d0
/-- A tile of sixteen slabs. -/
def tile (f : Fin 16 → FVec Ideal S16x128 .bf16) : FVec Ideal S1x1x128x256 .bf16 :=
  shapeCast S1x1x128x256 (truncf .bf16 (transpose S128x256 [1, 0] (extf .f32 (stack f) bitsLt_bf16_f32) transposes_S256x128_p1_0_S128x256) bitsLt_bf16_f32)
    shapeCasts_S128x256_S1x1x128x256

/-- The heads of a block read back. -/
def wides (x : Vec Ideal S1x128x2048 .bf16) : Fin 16 → FVec Ideal S128x128 .bf16 :=
  ![k0_pay532 x, k0_pay547 x, k0_pay561 x, k0_pay577 x, k0_pay591 x, k0_pay601 x, k0_pay614 x, k0_pay629 x, k0_pay644 x, k0_pay658 x, k0_pay671 x, k0_pay683 x, k0_pay696 x, k0_pay709 x, k0_pay721 x, k0_pay734 x]

section Terms
variable (x : Vec Ideal S1x128x2048 .bf16)

/-- The program's term for tile 0. -/
theorem tile0_eq : k0_pay500 (k0_pay532 x) (k0_pay547 x) (k0_pay561 x) (k0_pay577 x) (k0_pay591 x) (k0_pay601 x) (k0_pay614 x) (k0_pay629 x) (k0_pay644 x) (k0_pay658 x) (k0_pay671 x) (k0_pay683 x) (k0_pay696 x) (k0_pay709 x) (k0_pay721 x) (k0_pay734 x)
    = tile (fun h => slab 0 slices_S128x128_o0_0_S16x128 (wides x h)) := rfl
/-- The program's term for tile 1. -/
theorem tile1_eq : k0_pay502 (k0_pay501 (k0_pay532 x) (k0_pay547 x) (k0_pay561 x) (k0_pay577 x) (k0_pay591 x) (k0_pay601 x) (k0_pay614 x) (k0_pay629 x) (k0_pay644 x) (k0_pay658 x) (k0_pay671 x) (k0_pay683 x) (k0_pay696 x) (k0_pay709 x) (k0_pay721 x) (k0_pay734 x))
    = tile (fun h => slab 16 slices_S128x128_o16_0_S16x128 (wides x h)) := rfl
/-- The program's term for tile 2. -/
theorem tile2_eq : k0_pay503 (k0_pay532 x) (k0_pay547 x) (k0_pay561 x) (k0_pay577 x) (k0_pay591 x) (k0_pay601 x) (k0_pay614 x) (k0_pay629 x) (k0_pay644 x) (k0_pay658 x) (k0_pay671 x) (k0_pay683 x) (k0_pay696 x) (k0_pay709 x) (k0_pay721 x) (k0_pay734 x)
    = tile (fun h => slab 32 slices_S128x128_o32_0_S16x128 (wides x h)) := rfl
/-- The program's term for tile 3. -/
theorem tile3_eq : k0_pay505 (k0_pay504 (k0_pay532 x) (k0_pay547 x) (k0_pay561 x) (k0_pay577 x) (k0_pay591 x) (k0_pay601 x) (k0_pay614 x) (k0_pay629 x) (k0_pay644 x) (k0_pay658 x) (k0_pay671 x) (k0_pay683 x) (k0_pay696 x) (k0_pay709 x) (k0_pay721 x) (k0_pay734 x))
    = tile (fun h => slab 48 slices_S128x128_o48_0_S16x128 (wides x h)) := rfl
/-- The program's term for tile 4. -/
theorem tile4_eq : k0_pay506 (k0_pay532 x) (k0_pay547 x) (k0_pay561 x) (k0_pay577 x) (k0_pay591 x) (k0_pay601 x) (k0_pay614 x) (k0_pay629 x) (k0_pay644 x) (k0_pay658 x) (k0_pay671 x) (k0_pay683 x) (k0_pay696 x) (k0_pay709 x) (k0_pay721 x) (k0_pay734 x)
    = tile (fun h => slab 64 slices_S128x128_o64_0_S16x128 (wides x h)) := rfl
/-- The program's term for tile 5. -/
theorem tile5_eq : k0_pay507 (k0_pay532 x) (k0_pay547 x) (k0_pay561 x) (k0_pay577 x) (k0_pay591 x) (k0_pay601 x) (k0_pay614 x) (k0_pay629 x) (k0_pay644 x) (k0_pay658 x) (k0_pay671 x) (k0_pay683 x) (k0_pay696 x) (k0_pay709 x) (k0_pay721 x) (k0_pay734 x)
    = tile (fun h => slab 80 slices_S128x128_o80_0_S16x128 (wides x h)) := rfl
/-- The program's term for tile 6. -/
theorem tile6_eq : k0_pay510 (k0_pay561 x) (k0_pay577 x) (k0_pay591 x) (k0_pay601 x) (k0_pay614 x) (k0_pay629 x) (k0_pay644 x) (k0_pay658 x) (k0_pay671 x) (k0_pay683 x) (k0_pay696 x) (k0_pay709 x) (k0_pay721 x) (k0_pay734 x) (k0_pay508 (k0_pay532 x)) (k0_pay509 (k0_pay547 x))
    = tile (fun h => slab 96 slices_S128x128_o96_0_S16x128 (wides x h)) := rfl
/-- The program's term for tile 7. -/
theorem tile7_eq : k0_pay1 (k0_pay658 x) (k0_pay671 x) (k0_pay683 x) (k0_pay696 x) (k0_pay709 x) (k0_pay721 x) (k0_pay734 x) (k0_pay511 (k0_pay532 x)) (k0_pay512 (k0_pay547 x)) (k0_pay513 (k0_pay561 x)) (k0_pay514 (k0_pay577 x)) (k0_pay515 (k0_pay591 x)) (k0_pay516 (k0_pay601 x)) (k0_pay517 (k0_pay614 x)) (k0_pay518 (k0_pay629 x)) (k0_pay519 (k0_pay644 x))
    = tile (fun h => slab 112 slices_S128x128_o112_0_S16x128 (wides x h)) := rfl
end Terms

/-- A row of a slab. -/
theorem slab_read (o : ℕ) (ho : S128x128.Slices ![o, 0] S16x128) (w : FVec Ideal S128x128 .bf16) (hb : o ≤ 112) (s : Fin 16) (d : Fin 128) :
    slab o ho w (ix2 s d) = w (ix2 ⟨o + s.val, by omega⟩ d) := by
  pointwise [slab]
section Stack
variable (f : Fin 16 → FVec Ideal S16x128 .bf16) (s : Fin 16) (d : Fin 128)

/-- Off the stacking axis a slab's index is the stack's. -/
theorem off_axis (j : Fin 256) (b : Fin S16x128.rank) (hb : b.cast rfl ≠ (0 : Fin S256x128.rank)) :
    ((ix2 s d : S16x128.Idx) b).val = ((ix2 j d : S256x128.Idx) (b.cast rfl)).val := by
  match b with
  | ⟨0, _⟩ => exact absurd rfl hb
  | ⟨1, _⟩ => rfl
/-- A row of slab 0 in the stack. -/
theorem stack0_read : stack f (ix2 ⟨0 + s.val, by omega⟩ d) = f 0 (ix2 s d) :=
  concatenate_apply_piece (t := S256x128) 0 _ _ _ 0 (by show 0 < 16; omega) S16x128 (f 0) rfl rfl 0 rfl (ix2 s d) (off_axis s d _) rfl
/-- A row of slab 1 in the stack. -/
theorem stack1_read : stack f (ix2 ⟨16 + s.val, by omega⟩ d) = f 1 (ix2 s d) :=
  concatenate_apply_piece (t := S256x128) 0 _ _ _ 1 (by show 1 < 16; omega) S16x128 (f 1) rfl rfl 16 rfl (ix2 s d) (off_axis s d _) rfl
/-- A row of slab 2 in the stack. -/
theorem stack2_read : stack f (ix2 ⟨32 + s.val, by omega⟩ d) = f 2 (ix2 s d) :=
  concatenate_apply_piece (t := S256x128) 0 _ _ _ 2 (by show 2 < 16; omega) S16x128 (f 2) rfl rfl 32 rfl (ix2 s d) (off_axis s d _) rfl
/-- A row of slab 3 in the stack. -/
theorem stack3_read : stack f (ix2 ⟨48 + s.val, by omega⟩ d) = f 3 (ix2 s d) :=
  concatenate_apply_piece (t := S256x128) 0 _ _ _ 3 (by show 3 < 16; omega) S16x128 (f 3) rfl rfl 48 rfl (ix2 s d) (off_axis s d _) rfl
/-- A row of slab 4 in the stack. -/
theorem stack4_read : stack f (ix2 ⟨64 + s.val, by omega⟩ d) = f 4 (ix2 s d) :=
  concatenate_apply_piece (t := S256x128) 0 _ _ _ 4 (by show 4 < 16; omega) S16x128 (f 4) rfl rfl 64 rfl (ix2 s d) (off_axis s d _) rfl
/-- A row of slab 5 in the stack. -/
theorem stack5_read : stack f (ix2 ⟨80 + s.val, by omega⟩ d) = f 5 (ix2 s d) :=
  concatenate_apply_piece (t := S256x128) 0 _ _ _ 5 (by show 5 < 16; omega) S16x128 (f 5) rfl rfl 80 rfl (ix2 s d) (off_axis s d _) rfl
/-- A row of slab 6 in the stack. -/
theorem stack6_read : stack f (ix2 ⟨96 + s.val, by omega⟩ d) = f 6 (ix2 s d) :=
  concatenate_apply_piece (t := S256x128) 0 _ _ _ 6 (by show 6 < 16; omega) S16x128 (f 6) rfl rfl 96 rfl (ix2 s d) (off_axis s d _) rfl
/-- A row of slab 7 in the stack. -/
theorem stack7_read : stack f (ix2 ⟨112 + s.val, by omega⟩ d) = f 7 (ix2 s d) :=
  concatenate_apply_piece (t := S256x128) 0 _ _ _ 7 (by show 7 < 16; omega) S16x128 (f 7) rfl rfl 112 rfl (ix2 s d) (off_axis s d _) rfl
/-- A row of slab 8 in the stack. -/
theorem stack8_read : stack f (ix2 ⟨128 + s.val, by omega⟩ d) = f 8 (ix2 s d) :=
  concatenate_apply_piece (t := S256x128) 0 _ _ _ 8 (by show 8 < 16; omega) S16x128 (f 8) rfl rfl 128 rfl (ix2 s d) (off_axis s d _) rfl
/-- A row of slab 9 in the stack. -/
theorem stack9_read : stack f (ix2 ⟨144 + s.val, by omega⟩ d) = f 9 (ix2 s d) :=
  concatenate_apply_piece (t := S256x128) 0 _ _ _ 9 (by show 9 < 16; omega) S16x128 (f 9) rfl rfl 144 rfl (ix2 s d) (off_axis s d _) rfl
/-- A row of slab 10 in the stack. -/
theorem stack10_read : stack f (ix2 ⟨160 + s.val, by omega⟩ d) = f 10 (ix2 s d) :=
  concatenate_apply_piece (t := S256x128) 0 _ _ _ 10 (by show 10 < 16; omega) S16x128 (f 10) rfl rfl 160 rfl (ix2 s d) (off_axis s d _) rfl
/-- A row of slab 11 in the stack. -/
theorem stack11_read : stack f (ix2 ⟨176 + s.val, by omega⟩ d) = f 11 (ix2 s d) :=
  concatenate_apply_piece (t := S256x128) 0 _ _ _ 11 (by show 11 < 16; omega) S16x128 (f 11) rfl rfl 176 rfl (ix2 s d) (off_axis s d _) rfl
/-- A row of slab 12 in the stack. -/
theorem stack12_read : stack f (ix2 ⟨192 + s.val, by omega⟩ d) = f 12 (ix2 s d) :=
  concatenate_apply_piece (t := S256x128) 0 _ _ _ 12 (by show 12 < 16; omega) S16x128 (f 12) rfl rfl 192 rfl (ix2 s d) (off_axis s d _) rfl
/-- A row of slab 13 in the stack. -/
theorem stack13_read : stack f (ix2 ⟨208 + s.val, by omega⟩ d) = f 13 (ix2 s d) :=
  concatenate_apply_piece (t := S256x128) 0 _ _ _ 13 (by show 13 < 16; omega) S16x128 (f 13) rfl rfl 208 rfl (ix2 s d) (off_axis s d _) rfl
/-- A row of slab 14 in the stack. -/
theorem stack14_read : stack f (ix2 ⟨224 + s.val, by omega⟩ d) = f 14 (ix2 s d) :=
  concatenate_apply_piece (t := S256x128) 0 _ _ _ 14 (by show 14 < 16; omega) S16x128 (f 14) rfl rfl 224 rfl (ix2 s d) (off_axis s d _) rfl
/-- A row of slab 15 in the stack. -/
theorem stack15_read : stack f (ix2 ⟨240 + s.val, by omega⟩ d) = f 15 (ix2 s d) :=
  concatenate_apply_piece (t := S256x128) 0 _ _ _ 15 (by show 15 < 16; omega) S16x128 (f 15) rfl rfl 240 rfl (ix2 s d) (off_axis s d _) rfl

/-- A row of the stack. -/
theorem stack_read (h : Fin 16) (j : Fin 256) (hj : j.val = h.val * 16 + s.val) : stack f (ix2 j d) = f h (ix2 s d) := by
  obtain ⟨j, hj'⟩ := j
  obtain ⟨h, hh⟩ := h
  simp only at hj
  subst hj
  interval_cases h
  · exact stack0_read f s d
  · exact stack1_read f s d
  · exact stack2_read f s d
  · exact stack3_read f s d
  · exact stack4_read f s d
  · exact stack5_read f s d
  · exact stack6_read f s d
  · exact stack7_read f s d
  · exact stack8_read f s d
  · exact stack9_read f s d
  · exact stack10_read f s d
  · exact stack11_read f s d
  · exact stack12_read f s d
  · exact stack13_read f s d
  · exact stack14_read f s d
  · exact stack15_read f s d
end Stack

/-- A number of a tile. -/
theorem tile_read (f : Fin 16 → FVec Ideal S16x128 .bf16) (d : Fin 128) (h s : Fin 16) (j : Fin 256) (hj : j.val = h.val * 16 + s.val) :
    tile f (ix4 0 0 d j) = f h (ix2 s d) := by
  rw [← stack_read f s d h j hj]
  unfold tile
  generalize stack f = y
  pointwise

end Cert.KernelQIdeal.Quantize

end
-- ==== Proof.QOut.lean ====
/- What a grid point of the queries' quantizer leaves: its three blocks, each one function of the point's block of queries. -/
module

public import proofs.«01_k».proof.Proof.QTile

@[expose] public section

set_option maxRecDepth 16384
set_option maxHeartbeats 1000000

noncomputable section

namespace Cert.KernelQIdeal.Quantize

open Idealize.ShloMosaic Cert.KernelQIdeal Cert.KernelQIdeal.Gen

/-- A component is one of its group's. -/
theorem split (d : Fin 128) : ∃ (g : Fin 4) (x : Fin 32), d = ⟨g.val * 32 + x.val, by omega⟩ :=
  ⟨⟨d.val / 32, by omega⟩, ⟨d.val % 32, by omega⟩, Fin.ext (Nat.div_add_mod' d.val 32).symm⟩
/-- A row of a block. -/
theorem row3 {n1 n2 : ℕ} (y : (⟨3, ![1, n1, n2]⟩ : Shape).Idx) : ∃ (r : Fin n1) (d : Fin n2), y = ix3 0 r d := ⟨y 1, y 2, by
  funext a
  match a with
  | ⟨0, _⟩ => exact Fin.ext (by have : (y 0).val < 1 := (y 0).isLt; show (y 0).val = 0; omega)
  | ⟨1, _⟩ => rfl
  | ⟨2, _⟩ => rfl⟩
/-- A column of a tile. -/
theorem column4 {n2 n3 : ℕ} (y : (⟨4, ![1, 1, n2, n3]⟩ : Shape).Idx) : ∃ (d : Fin n2) (j : Fin n3), y = ix4 0 0 d j := ⟨y 2, y 3, by
  funext a
  match a with
  | ⟨0, _⟩ => exact Fin.ext (by have : (y 0).val < 1 := (y 0).isLt; show (y 0).val = 0; omega)
  | ⟨1, _⟩ => exact Fin.ext (by have : (y 1).val < 1 := (y 1).isLt; show (y 1).val = 0; omega)
  | ⟨2, _⟩ => rfl
  | ⟨3, _⟩ => rfl⟩

variable (x : Vec Ideal S1x128x2048 .bf16)

/-- The largest magnitude of a group of a row of the block. -/
def rowPeak (r : Fin 128) (g : Fin 64) : EReal :=
  Finset.fold max ⊥ (fun j : Fin 32 => max (x (ix3 0 r ⟨g.val * 32 + j.val, by omega⟩)) (-x (ix3 0 r ⟨g.val * 32 + j.val, by omega⟩))) Finset.univ
/-- The count of the group of a number of a row. -/
def rowCount (r : Fin 128) (d : Fin 2048) : BitVec 32 := Quant.count (rowPeak x r (QResult.group d))
/-- A number's code. -/
def rowCode (r : Fin 128) (d : Fin 2048) : EReal := rawCode (x (ix3 0 r d)) (rowCount x r d)
/-- A number read back. -/
def rowBack (r : Fin 128) (d : Fin 2048) : EReal := rowCode x r d * rawPow (rowCount x r d)
/-- The block's codes. -/
def outCodes : S1x128x2048.Idx → EReal := fun y => rowCode x (y 1) (y 2)
/-- The block's bytes. -/
def outBytes : S1x128x64.Idx → BitVec 8 := fun y => BitVec.setWidth 8 (IntOp.addi (Quant.count (rowPeak x (y 1) (y 2))) 127#32)
/-- The row of the block that column `j` of its tile `i` is of. -/
def rowOf (i : Fin 8) (j : Fin 256) : Fin 128 := ⟨i.val * 16 + j.val % 16, by omega⟩
/-- The block's tiles. -/
def outTiles : S1x8x128x256.Idx → EReal := fun y => rowBack x (rowOf (y 1) (y 3)) (QResult.number (y 2) (y 3))

section Head
variable (o : ℕ) (ho : o ≤ 1920) (hm : o % 32 = 0) (inb : ∀ a, (![0, 0, o] : Fin 3 → ℕ) a + S1x128x128.size a ≤ S1x128x2048.size a)

include ho hm in
/-- Where a head lies in the block. -/
theorem head_emb (r d : Fin 128) : (Rect.unit (s := S1x128x2048) ![0, 0, o] S1x128x128.size inb).emb (ix3 0 r d) = ix3 0 r ⟨o + d.val, by omega⟩ := by
  funext a
  refine Fin.ext ?_
  rw [Rect.emb_apply]
  match a with
  | ⟨0, _⟩ => rfl
  | ⟨1, _⟩ => show 0 + 1 * r.val = r.val; omega
  | ⟨2, _⟩ => show o + 1 * d.val = o + d.val; omega
include ho hm in
/-- A number of a head. -/
theorem head_at (r d : Fin 128) : head (View.ld x (Rect.unit (s := S1x128x2048) ![0, 0, o] S1x128x128.size inb)) (ix2 r d) = x (ix3 0 r ⟨o + d.val, by omega⟩) := by
  rw [head_read, View.ld_apply]
  exact congrArg x (head_emb o ho hm inb r d)
include ho hm in
/-- The largest magnitude of a group of a head's row. -/
theorem peak_at (r : Fin 128) (g : Fin 4) (G : Fin 64) (hG : G.val = o / 32 + g.val) :
    blockPeak (head (View.ld x (Rect.unit (s := S1x128x2048) ![0, 0, o] S1x128x128.size inb))) r g = rowPeak x r G := by
  unfold blockPeak rowPeak
  simp only [head_at x o ho hm inb]
  have e : ∀ j : Fin 32, (⟨o + (g.val * 32 + j.val), by omega⟩ : Fin 2048) = ⟨G.val * 32 + j.val, by omega⟩ := fun j => Fin.ext (by
    show o + (g.val * 32 + j.val) = G.val * 32 + j.val; omega)
  simp only [e]
include ho hm in
/-- The count of the group of a number of a head's row. -/
theorem count_at (r : Fin 128) (g : Fin 4) (j : Fin 32) :
    Quant.count (blockPeak (head (View.ld x (Rect.unit (s := S1x128x2048) ![0, 0, o] S1x128x128.size inb))) r g)
      = rowCount x r ⟨o + (g.val * 32 + j.val), by omega⟩ := by
  rw [peak_at x o ho hm inb r g (QResult.group ⟨o + (g.val * 32 + j.val), by omega⟩)
    (by show (o + (g.val * 32 + j.val)) / 32 = o / 32 + g.val; omega)]
  rfl
include ho hm in
/-- A head's codes are the block's. -/
theorem codes_piece (z : S1x128x128.Idx) : codesBlock (head (View.ld x (Rect.unit (s := S1x128x2048) ![0, 0, o] S1x128x128.size inb))) z
    = outCodes x ((Rect.unit (s := S1x128x2048) ![0, 0, o] S1x128x128.size inb).emb z) := by
  obtain ⟨r, d, rfl⟩ := row3 z
  rw [head_emb o ho hm inb r d]
  obtain ⟨g, j, rfl⟩ := split d
  rw [codesBlock_read, count_at x o ho hm inb r g j, head_at x o ho hm inb]
  rfl
include ho hm in
/-- A head's bytes are the block's. -/
theorem bytes_piece (o' : ℕ) (ho' : o' = o / 32) (inb' : ∀ a, (![0, 0, o'] : Fin 3 → ℕ) a + S1x128x4.size a ≤ S1x128x64.size a) (z : S1x128x4.Idx) :
    bytesBlock (head (View.ld x (Rect.unit (s := S1x128x2048) ![0, 0, o] S1x128x128.size inb))) z
      = outBytes x ((Rect.unit (s := S1x128x64) ![0, 0, o'] S1x128x4.size inb').emb z) := by
  obtain ⟨r, g, rfl⟩ := row3 z
  have e : (Rect.unit (s := S1x128x64) ![0, 0, o'] S1x128x4.size inb').emb (ix3 0 r g) = ix3 0 r ⟨o' + g.val, by omega⟩ := by
    funext a
    refine Fin.ext ?_
    rw [Rect.emb_apply]
    match a with
    | ⟨0, _⟩ => rfl
    | ⟨1, _⟩ => show 0 + 1 * r.val = r.val; omega
    | ⟨2, _⟩ => show o' + 1 * g.val = o' + g.val; omega
  rw [e, bytesBlock_read, peak_at x o ho hm inb r g ⟨o' + g.val, by omega⟩ (by show o' + g.val = o / 32 + g.val; omega)]
  rfl
include ho hm in
/-- A number of a head read back. -/
theorem wide_at (r d : Fin 128) : wideBlock (head (View.ld x (Rect.unit (s := S1x128x2048) ![0, 0, o] S1x128x128.size inb))) (ix2 r d)
    = rowBack x r ⟨o + d.val, by omega⟩ := by
  obtain ⟨g, j, rfl⟩ := split d
  rw [wideBlock_read, count_at x o ho hm inb r g j, head_at x o ho hm inb]
  rfl
end Head

/-- Head 0 read back. -/
theorem wides0_eq : wides x 0 = wideBlock (head (View.ld x r0_0)) := (show wides x 0 = k0_pay532 x from rfl).trans (wide0_eq x)
/-- Head 1 read back. -/
theorem wides1_eq : wides x 1 = wideBlock (head (View.ld x r0_2)) := (show wides x 1 = k0_pay547 x from rfl).trans (wide1_eq x)
/-- Head 2 read back. -/
theorem wides2_eq : wides x 2 = wideBlock (head (View.ld x r0_4)) := (show wides x 2 = k0_pay561 x from rfl).trans (wide2_eq x)
/-- Head 3 read back. -/
theorem wides3_eq : wides x 3 = wideBlock (head (View.ld x r0_6)) := (show wides x 3 = k0_pay577 x from rfl).trans (wide3_eq x)
/-- Head 4 read back. -/
theorem wides4_eq : wides x 4 = wideBlock (head (View.ld x r0_8)) := (show wides x 4 = k0_pay591 x from rfl).trans (wide4_eq x)
/-- Head 5 read back. -/
theorem wides5_eq : wides x 5 = wideBlock (head (View.ld x r0_10)) := (show wides x 5 = k0_pay601 x from rfl).trans (wide5_eq x)
/-- Head 6 read back. -/
theorem wides6_eq : wides x 6 = wideBlock (head (View.ld x r0_12)) := (show wides x 6 = k0_pay614 x from rfl).trans (wide6_eq x)
/-- Head 7 read back. -/
theorem wides7_eq : wides x 7 = wideBlock (head (View.ld x r0_14)) := (show wides x 7 = k0_pay629 x from rfl).trans (wide7_eq x)
/-- Head 8 read back. -/
theorem wides8_eq : wides x 8 = wideBlock (head (View.ld x r0_16)) := (show wides x 8 = k0_pay644 x from rfl).trans (wide8_eq x)
/-- Head 9 read back. -/
theorem wides9_eq : wides x 9 = wideBlock (head (View.ld x r0_18)) := (show wides x 9 = k0_pay658 x from rfl).trans (wide9_eq x)
/-- Head 10 read back. -/
theorem wides10_eq : wides x 10 = wideBlock (head (View.ld x r0_20)) := (show wides x 10 = k0_pay671 x from rfl).trans (wide10_eq x)
/-- Head 11 read back. -/
theorem wides11_eq : wides x 11 = wideBlock (head (View.ld x r0_22)) := (show wides x 11 = k0_pay683 x from rfl).trans (wide11_eq x)
/-- Head 12 read back. -/
theorem wides12_eq : wides x 12 = wideBlock (head (View.ld x r0_24)) := (show wides x 12 = k0_pay696 x from rfl).trans (wide12_eq x)
/-- Head 13 read back. -/
theorem wides13_eq : wides x 13 = wideBlock (head (View.ld x r0_26)) := (show wides x 13 = k0_pay709 x from rfl).trans (wide13_eq x)
/-- Head 14 read back. -/
theorem wides14_eq : wides x 14 = wideBlock (head (View.ld x r0_28)) := (show wides x 14 = k0_pay721 x from rfl).trans (wide14_eq x)
/-- Head 15 read back. -/
theorem wides15_eq : wides x 15 = wideBlock (head (View.ld x r0_30)) := (show wides x 15 = k0_pay734 x from rfl).trans (wide15_eq x)
/-- A number of any head read back. -/
theorem wides_at (h : Fin 16) (r d : Fin 128) (D : Fin 2048) (hD : D.val = h.val * 128 + d.val) : wides x h (ix2 r d) = rowBack x r D := by
  obtain ⟨D, hD'⟩ := D
  obtain ⟨h, hh⟩ := h
  simp only at hD
  subst hD
  interval_cases h
  · exact (congrFun (wides0_eq x) (ix2 r d)).trans (wide_at x 0 (by decide) (by decide) _ r d)
  · exact (congrFun (wides1_eq x) (ix2 r d)).trans (wide_at x 128 (by decide) (by decide) _ r d)
  · exact (congrFun (wides2_eq x) (ix2 r d)).trans (wide_at x 256 (by decide) (by decide) _ r d)
  · exact (congrFun (wides3_eq x) (ix2 r d)).trans (wide_at x 384 (by decide) (by decide) _ r d)
  · exact (congrFun (wides4_eq x) (ix2 r d)).trans (wide_at x 512 (by decide) (by decide) _ r d)
  · exact (congrFun (wides5_eq x) (ix2 r d)).trans (wide_at x 640 (by decide) (by decide) _ r d)
  · exact (congrFun (wides6_eq x) (ix2 r d)).trans (wide_at x 768 (by decide) (by decide) _ r d)
  · exact (congrFun (wides7_eq x) (ix2 r d)).trans (wide_at x 896 (by decide) (by decide) _ r d)
  · exact (congrFun (wides8_eq x) (ix2 r d)).trans (wide_at x 1024 (by decide) (by decide) _ r d)
  · exact (congrFun (wides9_eq x) (ix2 r d)).trans (wide_at x 1152 (by decide) (by decide) _ r d)
  · exact (congrFun (wides10_eq x) (ix2 r d)).trans (wide_at x 1280 (by decide) (by decide) _ r d)
  · exact (congrFun (wides11_eq x) (ix2 r d)).trans (wide_at x 1408 (by decide) (by decide) _ r d)
  · exact (congrFun (wides12_eq x) (ix2 r d)).trans (wide_at x 1536 (by decide) (by decide) _ r d)
  · exact (congrFun (wides13_eq x) (ix2 r d)).trans (wide_at x 1664 (by decide) (by decide) _ r d)
  · exact (congrFun (wides14_eq x) (ix2 r d)).trans (wide_at x 1792 (by decide) (by decide) _ r d)
  · exact (congrFun (wides15_eq x) (ix2 r d)).trans (wide_at x 1920 (by decide) (by decide) _ r d)

/-- A tile is the block's. -/
theorem tile_piece (f : Fin 16 → FVec Ideal S16x128 .bf16) (i : Fin 8) (o : ℕ) (ho : o = i.val)
    (hf : ∀ (h s : Fin 16) (d : Fin 128), f h (ix2 s d) = wides x h (ix2 ⟨16 * o + s.val, by omega⟩ d))
    (inb : ∀ a, (![0, o, 0, 0] : Fin 4 → ℕ) a + S1x1x128x256.size a ≤ S1x8x128x256.size a) (z : S1x1x128x256.Idx) :
    tile f z = outTiles x ((Rect.unit (s := S1x8x128x256) ![0, o, 0, 0] S1x1x128x256.size inb).emb z) := by
  subst ho
  obtain ⟨d, j, rfl⟩ := column4 z
  have e : (Rect.unit (s := S1x8x128x256) ![0, i.val, 0, 0] S1x1x128x256.size inb).emb (ix4 0 0 d j) = ix4 0 i d j := by
    funext a
    refine Fin.ext ?_
    rw [Rect.emb_apply]
    match a with
    | ⟨0, _⟩ => rfl
    | ⟨1, _⟩ => rfl
    | ⟨2, _⟩ => show 0 + 1 * d.val = d.val; omega
    | ⟨3, _⟩ => show 0 + 1 * j.val = j.val; omega
  rw [e, tile_read f d ⟨j.val / 16, by omega⟩ ⟨j.val % 16, by omega⟩ j (by show j.val = j.val / 16 * 16 + j.val % 16; omega), hf,
    wides_at x ⟨j.val / 16, by omega⟩ ⟨16 * i.val + j.val % 16, by omega⟩ d (QResult.number d j) rfl]
  refine congrArg (fun r => rowBack x r (QResult.number d j)) (Fin.ext ?_)
  show 16 * i.val + j.val % 16 = i.val * 16 + j.val % 16
  omega

/-- The block of codes a grid point leaves. -/
theorem out1_eq : out0_1 x = outCodes x := by
  unfold out0_1
  rw [codes0_eq, codes1_eq, codes2_eq, codes3_eq, codes4_eq, codes5_eq, codes6_eq, codes7_eq, codes8_eq, codes9_eq, codes10_eq, codes11_eq, codes12_eq, codes13_eq, codes14_eq, codes15_eq]
  funext y
  refine View.canon_apply_of_pieces (Val := Elt Ideal) (outCodes x) _ ?_ y (cover0_1 (F := Ideal) _ _ _ _ _ _ _ _ _ _ _ _ _ _ _ _ y)
  simp only [List.forall_mem_cons]
  exact ⟨codes_piece x 1920 (by decide) (by decide) _, codes_piece x 1792 (by decide) (by decide) _, codes_piece x 1664 (by decide) (by decide) _, codes_piece x 1536 (by decide) (by decide) _, codes_piece x 1408 (by decide) (by decide) _, codes_piece x 1280 (by decide) (by decide) _, codes_piece x 1152 (by decide) (by decide) _, codes_piece x 1024 (by decide) (by decide) _, codes_piece x 896 (by decide) (by decide) _, codes_piece x 768 (by decide) (by decide) _, codes_piece x 640 (by decide) (by decide) _, codes_piece x 512 (by decide) (by decide) _, codes_piece x 384 (by decide) (by decide) _, codes_piece x 256 (by decide) (by decide) _, codes_piece x 128 (by decide) (by decide) _, codes_piece x 0 (by decide) (by decide) _, fun _ h => absurd h List.not_mem_nil⟩
/-- The block of bytes a grid point leaves. -/
theorem out2_eq : out0_2 x = outBytes x := by
  unfold out0_2
  rw [bytes0_eq, bytes1_eq, bytes2_eq, bytes3_eq, bytes4_eq, bytes5_eq, bytes6_eq, bytes7_eq, bytes8_eq, bytes9_eq, bytes10_eq, bytes11_eq, bytes12_eq, bytes13_eq, bytes14_eq, bytes15_eq]
  funext y
  refine View.canon_apply_of_pieces (Val := Elt Ideal) (outBytes x) _ ?_ y (cover0_2 (F := Ideal) _ _ _ _ _ _ _ _ _ _ _ _ _ _ _ _ y)
  simp only [List.forall_mem_cons]
  exact ⟨bytes_piece x 1920 (by decide) (by decide) _ 60 (by decide) _, bytes_piece x 1792 (by decide) (by decide) _ 56 (by decide) _, bytes_piece x 1664 (by decide) (by decide) _ 52 (by decide) _, bytes_piece x 1536 (by decide) (by decide) _ 48 (by decide) _, bytes_piece x 1408 (by decide) (by decide) _ 44 (by decide) _, bytes_piece x 1280 (by decide) (by decide) _ 40 (by decide) _, bytes_piece x 1152 (by decide) (by decide) _ 36 (by decide) _, bytes_piece x 1024 (by decide) (by decide) _ 32 (by decide) _, bytes_piece x 896 (by decide) (by decide) _ 28 (by decide) _, bytes_piece x 768 (by decide) (by decide) _ 24 (by decide) _, bytes_piece x 640 (by decide) (by decide) _ 20 (by decide) _, bytes_piece x 512 (by decide) (by decide) _ 16 (by decide) _, bytes_piece x 384 (by decide) (by decide) _ 12 (by decide) _, bytes_piece x 256 (by decide) (by decide) _ 8 (by decide) _, bytes_piece x 128 (by decide) (by decide) _ 4 (by decide) _, bytes_piece x 0 (by decide) (by decide) _ 0 (by decide) _, fun _ h => absurd h List.not_mem_nil⟩
/-- The block of tiles a grid point leaves. -/
theorem out3_eq : out0_3 x = outTiles x := by
  unfold out0_3
  rw [tile0_eq, tile1_eq, tile2_eq, tile3_eq, tile4_eq, tile5_eq, tile6_eq, tile7_eq]
  funext y
  refine View.canon_apply_of_pieces (Val := Elt Ideal) (outTiles x) _ ?_ y (cover0_3 (F := Ideal) _ _ _ _ _ _ _ _ y)
  simp only [List.forall_mem_cons]
  exact ⟨tile_piece x _ 7 7 rfl (fun h s d => slab_read 112 _ _ (by decide) s d) _, tile_piece x _ 6 6 rfl (fun h s d => slab_read 96 _ _ (by decide) s d) _, tile_piece x _ 5 5 rfl (fun h s d => slab_read 80 _ _ (by decide) s d) _, tile_piece x _ 4 4 rfl (fun h s d => slab_read 64 _ _ (by decide) s d) _, tile_piece x _ 3 3 rfl (fun h s d => slab_read 48 _ _ (by decide) s d) _, tile_piece x _ 2 2 rfl (fun h s d => slab_read 32 _ _ (by decide) s d) _, tile_piece x _ 1 1 rfl (fun h s d => slab_read 16 _ _ (by decide) s d) _, tile_piece x _ 0 0 rfl (fun h s d => slab_read 0 _ _ (by decide) s d) _, fun _ h => absurd h List.not_mem_nil⟩

end Cert.KernelQIdeal.Quantize

end
-- ==== Proof.QArray.lean ====
/- The three arrays the queries' quantizer leaves, where the groups' largest magnitudes are fine: each block is its grid point's, and
   together they are the quantized queries. Point `t` of the grid is in batch `t / 256`, at block `t % 256` of 128 tokens. -/
module

public import proofs.«01_k».proof.Proof.QOut
public import proofs.«01_k».proof.Proof.Gen.KernelQIdeal.Value

@[expose] public section

set_option maxRecDepth 16384

noncomputable section

namespace Cert.KernelQIdeal.Quantize

open Idealize.ShloMosaic Idealize.ShloMosaic.TcCoe Cert.KernelQIdeal Cert.KernelQIdeal.Gen

/-- The queries' block of a grid point. -/
theorem index0 : ∀ t : Fin cfg0.N, win0_0.index t = ![t.val / 256, t.val % 256, 0] :=
  (by decide +kernel : ∀ t : Fin grid0.N, _)
/-- The codes' block. -/
theorem index1 : ∀ t : Fin cfg0.N, win0_1.index t = ![t.val / 256, t.val % 256, 0] :=
  (by decide +kernel : ∀ t : Fin grid0.N, _)
/-- The bytes' block. -/
theorem index2 : ∀ t : Fin cfg0.N, win0_2.index t = ![t.val / 256, t.val % 256, 0] :=
  (by decide +kernel : ∀ t : Fin grid0.N, _)
/-- The tiles' block. -/
theorem index3 : ∀ t : Fin cfg0.N, win0_3.index t = ![t.val / 256, t.val % 256, 0, 0] :=
  (by decide +kernel : ∀ t : Fin grid0.N, _)
/-- The blocks of codes cover their array. -/
theorem covers1 : (cfg0.win 1).Covers := by decide +kernel
/-- So do the bytes'. -/
theorem covers2 : (cfg0.win 2).Covers := by decide +kernel
/-- So do the tiles'. -/
theorem covers3 : (cfg0.win 3).Covers := by decide +kernel

/-- A code, of a fine magnitude's count. -/
theorem rawCode_eq {a : EReal} (h : Quant.Fine a) (w : EReal) : rawCode w (Quant.count a) = Quant.code w (Quant.expnt a) := by
  unfold rawCode Quant.code
  rw [Quant.count_eq h, Quant.neg_pow h]
/-- A power of two, of a fine magnitude's count. -/
theorem rawPow_eq {a : EReal} (h : Quant.Fine a) : rawPow (Quant.count a) = (((2 : ℝ) ^ Quant.expnt a : ℝ) : EReal) := by
  unfold rawPow
  rw [Quant.count_eq h, Quant.pow h]

section Blocks
variable (q : QResult.Rows) (b : Fin 2) (s : Fin 32768) (r : Fin 128) (x : Vec Ideal S1x128x2048 .bf16) (hx : ∀ d, x (ix3 0 r d) = q (ix3 b s d))
include hx

/-- The largest magnitude of a group of a row is the token's. -/
theorem rowPeak_eq (g : Fin 64) : rowPeak x r g = QResult.peak q b s g := by
  unfold rowPeak QResult.peak
  simp only [hx]
/-- The row's codes are the token's. -/
theorem rowCode_eq (hq : ∀ g, Quant.Fine (QResult.peak q b s g)) (d : Fin 2048) : rowCode x r d = QResult.code q b s d := by
  unfold rowCode rowCount
  rw [rowPeak_eq q b s r x hx, rawCode_eq (hq _), hx]
  rfl
/-- The row read back is the token read back. -/
theorem rowBack_eq (hq : ∀ g, Quant.Fine (QResult.peak q b s g)) (d : Fin 2048) : rowBack x r d = QResult.back q b s d := by
  unfold rowBack
  rw [rowCode_eq q b s r x hx hq]
  unfold rowCount
  rw [rowPeak_eq q b s r x hx, rawPow_eq (hq _)]
  rfl
end Blocks

/-- A row of tiles. -/
theorem row4 {n1 n2 n3 : ℕ} (y : (⟨4, ![1, n1, n2, n3]⟩ : Shape).Idx) : ∃ (i : Fin n1) (d : Fin n2) (j : Fin n3), y = ix4 0 i d j :=
  ⟨y 1, y 2, y 3, by
    funext a
    match a with
    | ⟨0, _⟩ => exact Fin.ext (by have : (y 0).val < 1 := (y 0).isLt; show (y 0).val = 0; omega)
    | ⟨1, _⟩ => rfl
    | ⟨2, _⟩ => rfl
    | ⟨3, _⟩ => rfl⟩

variable (m : (ℓ : Loc nD τ sig) → Buf (Elt Ideal) ℓ)

/-- The queries. -/
abbrev queries (c : Dev nD) : QResult.Rows := m ((c : Thread nD τ).loc main_arg0)
/-- There are 512 grid points. -/
theorem point_lt (t : Fin cfg0.N) : t.val < 512 := t.isLt
/-- The batch of a grid point. -/
def batch (t : Fin cfg0.N) : Fin 2 := ⟨t.val / 256, by have := point_lt t; omega⟩
/-- The token of a row of a grid point's block. -/
def token (t : Fin cfg0.N) (r : Fin 128) : Fin 32768 := ⟨128 * (t.val % 256) + r.val, by omega⟩
/-- The tile of the array that is tile `i` of a grid point's block. -/
def tileOf (t : Fin cfg0.N) (i : Fin 8) : Fin 2048 := ⟨8 * (t.val % 256) + i.val, by omega⟩

/-- The point's queries. -/
theorem iblk0_at (c : Dev nD) (t : Fin cfg0.N) (r : Fin 128) (d : Fin 2048) :
    iblk m c 0 t (ix3 0 r d) = queries m c (ix3 (batch t) (token t r) d) := by
  blk_simp [iblk]
  refine congrArg (m ((c : Thread nD τ).loc main_arg0)) ?_
  blk_ext [index0 t]
  · rfl
  · show t.val % 256 * 128 + r.val = 128 * (t.val % 256) + r.val
    omega

/-- Where a block of codes lies. -/
theorem emb1_at (t : Fin cfg0.N) (r : Fin 128) (d : Fin 2048) : (win0_1.blk t).view.emb (ix3 0 r d) = ix3 (batch t) (token t r) d := by
  blk_ext [index1 t]
  · rfl
  · show t.val % 256 * 128 + r.val = 128 * (t.val % 256) + r.val
    omega
/-- The block of codes a point leaves. -/
theorem left1 (c : Dev nD) (t : Fin cfg0.N) : (dats m 0 c).after 1 t = outCodes (iblk m c 0 t) := by
  rw [after0_1, out1_eq]
/-- The array of codes. -/
theorem array1 (c : Dev nD) (hq : ∀ b s g, Quant.Fine (QResult.peak (queries m c) b s g)) : (dats m 0 c).arrAt 1 cfg0.N = QResult.codes (queries m c) := by
  refine (dats m 0 c).arrAt_eq_of_covers 1 _ covers1 fun t hf y => ?_
  blk_simp
  rw [left1 m c t]
  obtain ⟨r, d, rfl⟩ := row3 y
  rw [emb1_at t r d]
  exact rowCode_eq (queries m c) (batch t) (token t r) r _ (iblk0_at m c t r) (hq _ _) d

/-- Where a block of bytes lies. -/
theorem emb2_at (t : Fin cfg0.N) (r : Fin 128) (g : Fin 64) : (win0_2.blk t).view.emb (ix3 0 r g) = ix3 (batch t) (token t r) g := by
  blk_ext [index2 t]
  · rfl
  · show t.val % 256 * 128 + r.val = 128 * (t.val % 256) + r.val
    omega
/-- The block of bytes a point leaves. -/
theorem left2 (c : Dev nD) (t : Fin cfg0.N) : (dats m 0 c).after 2 t = outBytes (iblk m c 0 t) := by
  rw [after0_2, out2_eq]
/-- The array of bytes. -/
theorem array2 (c : Dev nD) (hq : ∀ b s g, Quant.Fine (QResult.peak (queries m c) b s g)) : (dats m 0 c).arrAt 2 cfg0.N = QResult.bytes (queries m c) := by
  refine (dats m 0 c).arrAt_eq_of_covers 2 _ covers2 fun t hf y => ?_
  blk_simp
  rw [left2 m c t]
  obtain ⟨r, g, rfl⟩ := row3 y
  rw [emb2_at t r g]
  show BitVec.setWidth 8 (IntOp.addi (Quant.count (rowPeak (iblk m c 0 t) r g)) 127#32) = _
  rw [rowPeak_eq (queries m c) (batch t) (token t r) r _ (iblk0_at m c t r), Quant.count_eq (hq _ _ _)]
  rfl

/-- Where a block of tiles lies. -/
theorem emb3_at (t : Fin cfg0.N) (i : Fin 8) (d : Fin 128) (j : Fin 256) : (win0_3.blk t).view.emb (ix4 0 i d j) = ix4 (batch t) (tileOf t i) d j := by
  blk_ext [index3 t]
  · rfl
  · show t.val % 256 * 8 + i.val = 8 * (t.val % 256) + i.val
    omega
/-- The block of tiles a point leaves. -/
theorem left3 (c : Dev nD) (t : Fin cfg0.N) : (dats m 0 c).after 3 t = outTiles (iblk m c 0 t) := by
  rw [after0_3, out3_eq]
/-- The token of a column of a tile. -/
theorem token_eq (t : Fin cfg0.N) (i : Fin 8) (j : Fin 256) : token t (rowOf i j) = QResult.token (tileOf t i) j := Fin.ext (by
  show 128 * (t.val % 256) + (i.val * 16 + j.val % 16) = (8 * (t.val % 256) + i.val) * 16 + j.val % 16
  omega)
/-- The array of tiles. -/
theorem array3 (c : Dev nD) (hq : ∀ b s g, Quant.Fine (QResult.peak (queries m c) b s g)) : (dats m 0 c).arrAt 3 cfg0.N = QResult.tiles (queries m c) := by
  refine (dats m 0 c).arrAt_eq_of_covers 3 _ covers3 fun t hf y => ?_
  blk_simp
  rw [left3 m c t]
  obtain ⟨i, d, j, rfl⟩ := row4 y
  rw [emb3_at t i d j]
  refine (rowBack_eq (queries m c) (batch t) (token t (rowOf i j)) (rowOf i j) _ (iblk0_at m c t _) (hq _ _) (QResult.number d j)).trans ?_
  rw [token_eq]
  rfl

end Cert.KernelQIdeal.Quantize

end
-- ==== Proof.RefQ.lean ====
/- The three arrays the reference quantizer of the queries leaves. -/
module

public import proofs.«01_k».proof.Proof.QResult
public import proofs.«01_k».proof.Proof.Gen.ReferenceQIdeal.Value

@[expose] public section

set_option maxRecDepth 16384

noncomputable section

namespace Cert.ReferenceQIdeal.Quantize

open Idealize.ShloMosaic Cert.ReferenceQIdeal Cert.ReferenceQIdeal.Gen

/-- The logarithm of two. -/
theorem ln2 : Named.named (F := Ideal) κ "ln2" (φ := .f32) 0x3F317218#32 = ((Real.log 2 : ℝ) : EReal) :=
  IdealRules.named_const.ideal_named_scalar _ _ _ _ rfl

variable (q : Vec Ideal S2x32768x2048 .bf16)

/-- The largest magnitudes of the groups. -/
def peaks : FVec Ideal S2x32768x64 .f32 :=
  multiReduction .maximumf [3] S2x32768x64 (absf (k0_pay2 q)) 0xFF800000#32 reduces_S2x32768x64x32_S2x32768x64 (.inl rfl) rfl
/-- The exponents the reference makes of the largest magnitudes. -/
def exps (p : FVec Ideal S2x32768x64 .f32) : FVec Ideal S2x32768x64x1 .f32 :=
  have y : FVec Ideal S2x32768x64x1 .f32 := mulf (shapeCast S2x32768x64x1 p shapeCasts_S2x32768x64_S2x32768x64x1) (broadcast S2x32768x64x1 (Scalar.ofBits .f32 0x3B124925#32))
  select (cmpf .oeq y (broadcast S2x32768x64x1 (Scalar.ofBits (F := Ideal) .f32 0x00000000#32)))
    (broadcast S2x32768x64x1 (Scalar.ofBits (F := Ideal) .f32 0x00000000#32))
    (addf (floor (divf (log y) (broadcast S2x32768x64x1 (Named.named κ "ln2" 0x3F317218#32)))) (broadcast S2x32768x64x1 (Scalar.ofBits .f32 0x3F800000#32)))
/-- The exponents are made of the largest magnitudes. -/
theorem exps_eq : k0_pay3 q = exps (peaks q) := rfl

/-- The largest magnitude of a group. -/
theorem peaks_read (b : Fin 2) (t : Fin 32768) (g : Fin 64) : peaks q (ix3 b t g) = QResult.peak q b t g := by
  pointwise [peaks, k0_pay2]
  rw [Consts.ofBits_bot]
  unfold QResult.peak
  exact congrArg (fun f => Finset.fold max ⊥ f Finset.univ) (funext fun x => rfl)
/-- A group's exponent, by the logarithm. -/
theorem exps_read (p : FVec Ideal S2x32768x64 .f32) (b : Fin 2) (t : Fin 32768) (g : Fin 64) :
    exps p (ix4 b t g 0) = Quant.logged (Named.named (F := Ideal) κ "ln2" (φ := .f32) 0x3F317218#32) (p (ix3 b t g)) := by
  pointwise [exps]
  rfl

/-- The codes of numbers in groups, at given exponents. -/
def codesOf (w : FVec Ideal S2x32768x64x32 .f32) (e : FVec Ideal S2x32768x64x1 .f32) : FVec Ideal S2x32768x64x32 .fp8e4m3 :=
  truncf .fp8e4m3 (minimumf (broadcast S2x32768x64x32 (Scalar.ofBits .f32 0x43E00000#32)) (maximumf (broadcast S2x32768x64x32 (Scalar.ofBits .f32 0xC3E00000#32))
    (mulf w (broadcastTo S2x32768x64x32 (exp2 (subf (broadcast S2x32768x64x1 (Scalar.ofBits .f32 0x00000000#32)) e)) broadcasts_S2x32768x64x1_S2x32768x64x32))))
    bitsLt_fp8e4m3_f32
/-- The bytes of given exponents. -/
def bytesOf (e : FVec Ideal S2x32768x64x1 .f32) : IVec S2x32768x64 8 :=
  trunci 8 (addi (fptosi 32 (shapeCast S2x32768x64 e shapeCasts_S2x32768x64x1_S2x32768x64)) (broadcast S2x32768x64 127#32)) natLt_8_32
/-- The numbers read back from codes, at given exponents. -/
def wideOf (c : FVec Ideal S2x32768x64x32 .fp8e4m3) (e : FVec Ideal S2x32768x64x1 .f32) : FVec Ideal S2x32768x64x32 .bf16 :=
  truncf .bf16 (mulf (extf .f32 c bitsLt_fp8e4m3_f32) (broadcastTo S2x32768x64x32 (exp2 e) broadcasts_S2x32768x64x1_S2x32768x64x32)) bitsLt_bf16_f32
/-- The numbers in tiles of sixteen tokens. -/
def tilesOf (w : FVec Ideal S2x32768x64x32 .bf16) : FVec Ideal S2x2048x128x256 .bf16 :=
  shapeCast S2x2048x128x256 (transpose S2x2048x128x16x16 [0, 1, 4, 3, 2] (shapeCast S2x2048x16x16x128 w shapeCasts_S2x32768x64x32_S2x2048x16x16x128)
    transposes_S2x2048x16x16x128_p0_1_4_3_2_S2x2048x128x16x16) shapeCasts_S2x2048x128x16x16_S2x2048x128x256

/-- The codes, in these terms. -/
theorem codes_eq : k0_pay5 q = shapeCast S2x32768x2048 (codesOf (k0_pay2 q) (k0_pay3 q)) shapeCasts_S2x32768x64x32_S2x32768x2048 := rfl
/-- The bytes. -/
theorem bytes_eq : k0_pay6 q = bytesOf (k0_pay3 q) := rfl
/-- The tiles. -/
theorem tiles_eq : k0_pay1 (k0_pay7 q) (k0_pay8 q) = tilesOf (wideOf (codesOf (k0_pay2 q) (k0_pay3 q)) (k0_pay3 q)) := rfl

/-- The queries in groups. -/
theorem groups_read (b : Fin 2) (t : Fin 32768) (g : Fin 64) (x : Fin 32) :
    k0_pay2 q (ix4 b t g x) = q (ix3 b t ⟨g.val * 32 + x.val, by omega⟩) := by
  pointwise [k0_pay2]
/-- A code. -/
theorem codesOf_read (w : FVec Ideal S2x32768x64x32 .f32) (e : FVec Ideal S2x32768x64x1 .f32) (b : Fin 2) (t : Fin 32768) (g : Fin 64) (x : Fin 32) :
    codesOf w e (ix4 b t g x) = min (Ideal.ofBits FTy.f32 1138753536#32) (max (Ideal.ofBits FTy.f32 3286237184#32)
      (w (ix4 b t g x) * Ideal.exp2 (0 - e (ix4 b t g 0)))) := by
  pointwise [codesOf]
  rfl
/-- Groups laid side by side. -/
theorem flat_read (c : FVec Ideal S2x32768x64x32 .fp8e4m3) (b : Fin 2) (t : Fin 32768) (d : Fin 2048) :
    shapeCast S2x32768x2048 c shapeCasts_S2x32768x64x32_S2x32768x2048 (ix3 b t d) = c (ix4 b t ⟨d.val / 32, by omega⟩ ⟨d.val % 32, by omega⟩) := by
  pointwise
/-- A byte. -/
theorem bytesOf_read (e : FVec Ideal S2x32768x64x1 .f32) (b : Fin 2) (t : Fin 32768) (g : Fin 64) :
    bytesOf e (ix3 b t g) = BitVec.setWidth 8 (IntOp.addi (Ideal.fptosi 32 (e (ix4 b t g 0))) 127#32) := by
  pointwise [bytesOf]
  rfl
/-- A number read back. -/
theorem wideOf_read (c : FVec Ideal S2x32768x64x32 .fp8e4m3) (e : FVec Ideal S2x32768x64x1 .f32) (b : Fin 2) (t : Fin 32768) (g : Fin 64) (x : Fin 32) :
    wideOf c e (ix4 b t g x) = c (ix4 b t g x) * Ideal.exp2 (e (ix4 b t g 0)) := by
  pointwise [wideOf]
  rfl
/-- A number of a tile. -/
theorem tilesOf_read (w : FVec Ideal S2x32768x64x32 .bf16) (b : Fin 2) (i : Fin 2048) (d : Fin 128) (j : Fin 256) :
    tilesOf w (ix4 b i d j) = w (ix4 b (QResult.token i j) ⟨(QResult.number d j).val / 32, by omega⟩ ⟨(QResult.number d j).val % 32, by omega⟩) := by
  pointwise [tilesOf]
  have h1 : (QResult.number d j).val = j.val / 16 * 128 + d.val := rfl
  have e1 : (⟨j.val / 16 * 4 + d.val / 32, by omega⟩ : Fin 64) = ⟨(QResult.number d j).val / 32, by omega⟩ := Fin.ext (by show j.val / 16 * 4 + d.val / 32 = (QResult.number d j).val / 32; rw [h1]; omega)
  have e2 : (⟨d.val % 32, by omega⟩ : Fin 32) = ⟨(QResult.number d j).val % 32, by omega⟩ := Fin.ext (by show d.val % 32 = (QResult.number d j).val % 32; rw [h1]; omega)
  rw [← e1, ← e2]
  rfl

end Cert.ReferenceQIdeal.Quantize

end
-- ==== Proof.RefQArray.lean ====
/- The three arrays the reference quantizer of the queries leaves, where the groups' largest magnitudes are fine. -/
module

public import proofs.«01_k».proof.Proof.RefQ

@[expose] public section

set_option maxRecDepth 16384

noncomputable section

namespace Cert.ReferenceQIdeal.Quantize

open Idealize.ShloMosaic Cert.ReferenceQIdeal Cert.ReferenceQIdeal.Gen Cert.QResult

variable (q : Vec Ideal S2x32768x2048 .bf16) (hq : ∀ b t g, Quant.Fine (peak q b t g))

include hq in
/-- A group's exponent. -/
theorem exp_at (b : Fin 2) (t : Fin 32768) (g : Fin 64) : k0_pay3 q (ix4 b t g 0) = (((exponent q b t g : ℤ) : ℝ) : EReal) := by
  rw [exps_eq, exps_read, peaks_read, ln2, Quant.logged_eq (hq b t g), exponent]
include hq in
/-- A code, in its group. -/
theorem code_at (b : Fin 2) (t : Fin 32768) (g : Fin 64) (x : Fin 32) : codesOf (k0_pay2 q) (k0_pay3 q) (ix4 b t g x)
    = Quant.code (q (ix3 b t ⟨g.val * 32 + x.val, by omega⟩)) (exponent q b t g) := by
  rw [codesOf_read, groups_read, exp_at q hq, Quant.exp2_neg_int, Quant.code]

/-- A number is in its group. -/
theorem place (d : Fin 2048) (h : d.val / 32 * 32 + d.val % 32 < 2048) : (⟨d.val / 32 * 32 + d.val % 32, h⟩ : Fin 2048) = d :=
  Fin.ext (Nat.div_add_mod' d.val 32)

/-- An index of four coordinates is made of them. -/
theorem quad {n0 n1 n2 n3 : ℕ} (y : (⟨4, ![n0, n1, n2, n3]⟩ : Shape).Idx) : y = ix4 (y 0) (y 1) (y 2) (y 3) := by
  funext a
  match a with
  | ⟨0, _⟩ => rfl
  | ⟨1, _⟩ => rfl
  | ⟨2, _⟩ => rfl
  | ⟨3, _⟩ => rfl

include hq in
/-- The codes. -/
theorem codes_at : k0_pay5 q = codes q := by
  funext y
  obtain ⟨b, t, d, rfl⟩ : ∃ (b : Fin 2) (t : Fin 32768) (d : Fin 2048), y = ix3 b t d := ⟨y 0, y 1, y 2, KvResult.triple y⟩
  rw [codes_eq, flat_read, code_at q hq]
  simp only [place]
  rfl
include hq in
/-- The bytes. -/
theorem bytes_at : k0_pay6 q = bytes q := by
  funext y
  obtain ⟨b, t, g, rfl⟩ : ∃ (b : Fin 2) (t : Fin 32768) (g : Fin 64), y = ix3 b t g := ⟨y 0, y 1, y 2, KvResult.triple y⟩
  rw [bytes_eq, bytesOf_read, exp_at q hq]
  unfold exponent
  rw [Quant.to_word (hq b t g)]
  rfl
include hq in
/-- A number read back, at its group and its place there. -/
theorem back_at (b : Fin 2) (t : Fin 32768) (n : Fin 2048) : wideOf (codesOf (k0_pay2 q) (k0_pay3 q)) (k0_pay3 q)
    (ix4 b t ⟨n.val / 32, by omega⟩ ⟨n.val % 32, by omega⟩) = back q b t n := by
  rw [wideOf_read, code_at q hq, exp_at q hq, Quant.exp2_int]
  simp only [place]
  rfl
include hq in
/-- The queries read back, in tiles. -/
theorem tiles_at : k0_pay1 (k0_pay7 q) (k0_pay8 q) = tiles q := by
  funext y
  obtain ⟨b, i, d, j, rfl⟩ : ∃ (b : Fin 2) (i : Fin 2048) (d : Fin 128) (j : Fin 256), y = ix4 b i d j := ⟨y 0, y 1, y 2, y 3, quad y⟩
  rw [tiles_eq, tilesOf_read]
  exact back_at q hq b (token i j) (number d j)

include hq in
/-- The three arrays the run leaves, of queries `q'` that are `q`. -/
theorem arrays (q' : Vec Ideal S2x32768x2048 .bf16) (e : q' = q) : Value.G1 q' = codes q ∧ Value.G2 q' = bytes q ∧ Value.G3 q' = tiles q := by
  subst e
  exact ⟨codes_at q' hq, bytes_at q' hq, tiles_at q' hq⟩

end Cert.ReferenceQIdeal.Quantize

end
-- ==== Proof.QRange.lean ====
/- What the precondition of the queries' quantizer says: the largest magnitude of every group of the queries is fine. -/
module

public import proofs.«01_k».proof.Proof.Gen.Pre_queries_in_range
public import proofs.«01_k».proof.Proof.KvRange
public import proofs.«01_k».proof.Proof.QResult

@[expose] public section

set_option maxRecDepth 16384

noncomputable section

namespace Cert.Pre_queries_in_range.Quantize

open Idealize.ShloMosaic Cert.Pre_queries_in_range Cert.Pre_queries_in_range.Gen Cert.Pre_in_range.Quantize

variable (q : FVec Ideal S2x32768x2048 .bf16)

/-- The largest magnitudes the precondition tests. -/
def tops : FVec Ideal S2x32768x64 .bf16 := Host.reduce FloatOps.maximumf (shapeCast S2x32768x64x32 (Host.absf q) shapeCasts_S2x32768x2048_S2x32768x64x32)
  (constant S_ .bf16 0xFF80#16) reducesTo_S2x32768x64x32_S2x32768x64_d3 h_S_
/-- A group's. -/
theorem tops_read (b : Fin 2) (t : Fin 32768) (g : Fin 64) : tops q (ix3 b t g) = QResult.peak q b t g := by
  pointwise [tops]
  rw [ofBits_bot]
  exact congrArg (fun f => Finset.fold max ⊥ f Finset.univ) (funext fun x => rfl)
/-- What the precondition says, at its one index. -/
theorem whole (h : fn q = fun _ => 1#1) (j : S_.Idx) :
    Host.reduce IntOp.andi (ori (cmpf .oeq (tops q) (broadcastInDim S2x32768x64 ![] bcast_S_S2x32768x64 (constant S_ .bf16 0x0000#16)))
        (andi (cmpf .oge (tops q) (broadcastInDim S2x32768x64 ![] bcast_S_S2x32768x64 (constant S_ .bf16 0x0460#16)))
          (cmpf .ole (tops q) (broadcastInDim S2x32768x64 ![] bcast_S_S2x32768x64 (constant S_ .bf16 0x7F7F#16)))))
        (constantI S_ 1 1#1) reducesTo_S2x32768x64_S_d0_1_2 h_S_ j = 1#1 := by
  unfold fn at h
  dsimp only at h
  exact congrFun h j
/-- A constant array. -/
theorem const_read (x : BitVec 16) (i : S2x32768x64.Idx) : broadcastInDim S2x32768x64 ![] bcast_S_S2x32768x64 (constant S_ .bf16 x) i
    = Ideal.ofBits FTy.bf16 x := rfl
/-- Under the precondition every group of the queries is fine. -/
theorem queries_fine (h : fn q = fun _ => 1#1) (b : Fin 2) (t : Fin 32768) (g : Fin 64) : Quant.Fine (QResult.peak q b t g) := by
  rw [← tops_read]
  exact fine_at _ _ _ _ _ (Host.reduce_andi_all _ _ _ _ (fun a => a.elim0) (whole q h _) (ix3 b t g)) (const_read _ _) (const_read _ _)
    (const_read _ _)

end Cert.Pre_queries_in_range.Quantize

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Gen.KernelKV
public import proofs.«01_k».proof.Proof.Gen.KernelKV.Skeleton
public import proofs.«01_k».proof.Proof.Gen.KernelKV.Launch
public import proofs.«01_k».proof.Proof.Gen.KernelKV.Points
public import proofs.«01_k».proof.Proof.Gen.KernelKV.Frame
public import proofs.«01_k».proof.Proof.Gen.KernelKVIdeal
public import proofs.«01_k».proof.Proof.Gen.KernelKVIdeal.Skeleton
public import proofs.«01_k».proof.Proof.Gen.KernelKVIdeal.Launch
public import proofs.«01_k».proof.Proof.Gen.KernelKVIdeal.Points
public import proofs.«01_k».proof.Proof.Gen.KernelKVIdeal.Frame
public import proofs.«01_k».proof.Proof.Gen.KernelKVIdeal.Value
public import proofs.«01_k».proof.Proof.Gen.ReferenceKVIdeal
public import proofs.«01_k».proof.Proof.Gen.ReferenceKVIdeal.Skeleton
public import proofs.«01_k».proof.Proof.Gen.ReferenceKVIdeal.Launch
public import proofs.«01_k».proof.Proof.Gen.ReferenceKVIdeal.Points
public import proofs.«01_k».proof.Proof.Gen.ReferenceKVIdeal.Frame
public import proofs.«01_k».proof.Proof.Gen.ReferenceKVIdeal.Value
public import proofs.«01_k».proof.Proof.Gen.KernelQ
public import proofs.«01_k».proof.Proof.Gen.KernelQ.Skeleton
public import proofs.«01_k».proof.Proof.Gen.KernelQ.Launch
public import proofs.«01_k».proof.Proof.Gen.KernelQ.Points
public import proofs.«01_k».proof.Proof.Gen.KernelQ.Frame
public import proofs.«01_k».proof.Proof.Gen.KernelQIdeal
public import proofs.«01_k».proof.Proof.Gen.KernelQIdeal.Skeleton
public import proofs.«01_k».proof.Proof.Gen.KernelQIdeal.Launch
public import proofs.«01_k».proof.Proof.Gen.KernelQIdeal.Points
public import proofs.«01_k».proof.Proof.Gen.KernelQIdeal.Frame
public import proofs.«01_k».proof.Proof.Gen.KernelQIdeal.Value
public import proofs.«01_k».proof.Proof.Gen.ReferenceQIdeal
public import proofs.«01_k».proof.Proof.Gen.ReferenceQIdeal.Skeleton
public import proofs.«01_k».proof.Proof.Gen.ReferenceQIdeal.Launch
public import proofs.«01_k».proof.Proof.Gen.ReferenceQIdeal.Points
public import proofs.«01_k».proof.Proof.Gen.ReferenceQIdeal.Frame
public import proofs.«01_k».proof.Proof.Gen.ReferenceQIdeal.Value
public import proofs.«01_k».proof.Proof.Gen.Pre_in_range
public import proofs.«01_k».proof.Proof.Gen.Pre_queries_in_range
public import proofs.«01_k».proof.Proof.RunBits
public import proofs.«01_k».proof.Proof.RunIdeal
public import proofs.«01_k».proof.Proof.ArrayIdeal
public import proofs.«01_k».proof.Proof.RefArray
public import proofs.«01_k».proof.Proof.KvArray
public import proofs.«01_k».proof.Proof.RefKvArray
public import proofs.«01_k».proof.Proof.KvRange
public import proofs.«01_k».proof.Proof.QArray
public import proofs.«01_k».proof.Proof.RefQArray
public import proofs.«01_k».proof.Proof.QRange
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.SL.Sem

/-- Over the extended reals the kernel and the reference end with the same array: the one that
    `Cert.Result.array` names. -/
theorem algebraic : Cert.algebraic_KernelIdeal_ReferenceIdeal := by
  intro m g m' g' _ hagree
  refine ⟨fun c => Cert.Result.array (m ((c : Thread Cert.KernelIdeal.nD Cert.KernelIdeal.τ).loc Cert.KernelIdeal.main_arg0))
    (m ((c : Thread Cert.KernelIdeal.nD Cert.KernelIdeal.τ).loc Cert.KernelIdeal.main_arg1))
    (m ((c : Thread Cert.KernelIdeal.nD Cert.KernelIdeal.τ).loc Cert.KernelIdeal.main_arg2))
    (m ((c : Thread Cert.KernelIdeal.nD Cert.KernelIdeal.τ).loc Cert.KernelIdeal.main_arg3)), ?_, ?_⟩
  · exact θ_run_mono (θ_run_and (Cert.KernelIdeal.Attend.run_main m g) (Cert.KernelIdeal.Attend.unchanged m g)) fun r h c =>
      ⟨((h.1 c).1 4).trans (Cert.KernelIdeal.Attend.array m c), h.2 c⟩
  · refine θ_run_mono (Cert.ReferenceIdeal.Value.run_blocks m' g') fun r h c => ⟨(h c).1.trans ?_, (h c).2⟩
    rw [Cert.ReferenceIdeal.Attend.array m' c]
    obtain ⟨h0, h1, h2, h3⟩ := hagree c
    exact congr (congr (congr (congrArg Cert.Result.array h0) h1) h2) h3

/-- Over the extended reals the kernel's and the reference's quantizers end with the same six arrays, where the largest magnitudes
    are in range. -/
theorem algebraicKV : Cert.algebraic_KernelKVIdeal_ReferenceKVIdeal_pre_in_range := by
  intro m g m' g' hpre hagree
  have hk : ∀ (c : Dev Cert.KernelKVIdeal.nD) b s g, Cert.Quant.Fine (Cert.KvResult.keyPeak (Cert.KernelKVIdeal.Quantize.keys m c) b s g) :=
    fun c => Cert.Pre_in_range.Quantize.keys_fine _ _ (hpre c)
  have hv : ∀ (c : Dev Cert.KernelKVIdeal.nD) b d, Cert.Quant.Fine (Cert.KvResult.valPeak (Cert.KernelKVIdeal.Quantize.vals m c) b d) :=
    fun c => Cert.Pre_in_range.Quantize.vals_fine _ _ (hpre c)
  refine ⟨fun c => Cert.KvResult.keyCodes (Cert.KernelKVIdeal.Quantize.keys m c), fun c => Cert.KvResult.keyBytes (Cert.KernelKVIdeal.Quantize.keys m c),
    fun c => Cert.KvResult.keyWide (Cert.KernelKVIdeal.Quantize.keys m c), fun c => Cert.KvResult.valCodes (Cert.KernelKVIdeal.Quantize.vals m c),
    fun c => Cert.KvResult.valScale (Cert.KernelKVIdeal.Quantize.vals m c), fun c => Cert.KvResult.valColumns (Cert.KernelKVIdeal.Quantize.vals m c), ?_, ?_⟩
  · refine θ_run_mono (Cert.KernelKVIdeal.Value.run_blocks m g) fun r h c => ?_
    obtain ⟨h2, h3, h4, h5, h6, h7, ha⟩ := h c
    exact ⟨h2.trans (Cert.KernelKVIdeal.Quantize.array2 m c (hk c)), h3.trans (Cert.KernelKVIdeal.Quantize.array3 m c (hk c)),
      h4.trans (Cert.KernelKVIdeal.Quantize.array4 m c (hk c)), h5.trans (Cert.KernelKVIdeal.Quantize.array5 m c (hv c)),
      h6.trans (Cert.KernelKVIdeal.Quantize.array6 m c (hv c)), h7.trans (Cert.KernelKVIdeal.Quantize.array7 m c (hv c)), ha⟩
  · refine θ_run_mono (Cert.ReferenceKVIdeal.Value.run m' g') fun r h c => ?_
    obtain ⟨h2, h3, h4, h5, h6, h7, ha⟩ := h c
    obtain ⟨e0, e1⟩ := hagree c
    obtain ⟨a2, a3, a4, a5, a6, a7⟩ := Cert.ReferenceKVIdeal.Quantize.arrays _ _ (hk c) (hv c) _ _ e0 e1
    exact ⟨h2.trans a2, h3.trans a3, h4.trans a4, h5.trans a5, h6.trans a6, h7.trans a7, ha⟩

/-- Over the extended reals the kernel's and the reference's quantizers of the queries end with the same three arrays, where the
    largest magnitudes are in range. -/
theorem algebraicQ : Cert.algebraic_KernelQIdeal_ReferenceQIdeal_pre_queries_in_range := by
  intro m g m' g' hpre hagree
  have hq : ∀ (c : Dev Cert.KernelQIdeal.nD) b s g, Cert.Quant.Fine (Cert.QResult.peak (Cert.KernelQIdeal.Quantize.queries m c) b s g) :=
    fun c => Cert.Pre_queries_in_range.Quantize.queries_fine _ (hpre c)
  refine ⟨fun c => Cert.QResult.codes (Cert.KernelQIdeal.Quantize.queries m c), fun c => Cert.QResult.bytes (Cert.KernelQIdeal.Quantize.queries m c),
    fun c => Cert.QResult.tiles (Cert.KernelQIdeal.Quantize.queries m c), ?_, ?_⟩
  · refine θ_run_mono (Cert.KernelQIdeal.Value.run_blocks m g) fun r h c => ?_
    obtain ⟨h1, h2, h3, ha⟩ := h c
    exact ⟨h1.trans (Cert.KernelQIdeal.Quantize.array1 m c (hq c)), h2.trans (Cert.KernelQIdeal.Quantize.array2 m c (hq c)),
      h3.trans (Cert.KernelQIdeal.Quantize.array3 m c (hq c)), ha⟩
  · refine θ_run_mono (Cert.ReferenceQIdeal.Value.run m' g') fun r h c => ?_
    obtain ⟨h1, h2, h3, ha⟩ := h c
    obtain ⟨a1, a2, a3⟩ := Cert.ReferenceQIdeal.Quantize.arrays _ (hq c) _ (hagree c)
    exact ⟨h1.trans a1, h2.trans a2, h3.trans a3, ha⟩

/-- Every claim of the certificate. -/
theorem claim : Cert.Claim := ⟨Cert.Kernel.Gen.facts, Cert.KernelIdeal.Gen.facts, Cert.ReferenceIdeal.Gen.facts,
  Cert.KernelKV.Gen.facts, Cert.KernelKVIdeal.Gen.facts, Cert.ReferenceKVIdeal.Gen.facts,
  Cert.KernelQ.Gen.facts, Cert.KernelQIdeal.Gen.facts, Cert.ReferenceQIdeal.Gen.facts, Cert.Pre_in_range.Gen.facts, Cert.Pre_queries_in_range.Gen.facts,
  fun m ρ _ => Cert.Kernel.Attend.frame m ρ,
  fun m ρ _ => Cert.KernelIdeal.Attend.frame m ρ,
  fun m ρ _ => Cert.ReferenceIdeal.Gen.frame m ρ,
  fun m ρ _ => Cert.KernelKV.Gen.frame m ρ,
  fun m ρ _ => Cert.KernelKVIdeal.Gen.frame m ρ,
  fun m ρ _ => Cert.KernelKVIdeal.Gen.frame m ρ,
  fun m ρ _ => Cert.ReferenceKVIdeal.Gen.frame m ρ,
  fun m ρ _ => Cert.ReferenceKVIdeal.Gen.frame m ρ,
  fun m ρ _ => Cert.KernelQ.Gen.frame m ρ,
  fun m ρ _ => Cert.KernelQIdeal.Gen.frame m ρ,
  fun m ρ _ => Cert.KernelQIdeal.Gen.frame m ρ,
  fun m ρ _ => Cert.ReferenceQIdeal.Gen.frame m ρ,
  fun m ρ _ => Cert.ReferenceQIdeal.Gen.frame m ρ,
  IdealRules.named_const.statement Cert.KernelIdeal.κ "logit_c" .f32 0x3E0293EE#32 (((Real.sqrt 128)⁻¹ * (Real.log 2)⁻¹ : ℝ) : EReal) rfl,
  algebraic, trivial, algebraicKV, trivial, algebraicQ⟩

end Cert.Proof

end
